-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_on_in_range [hKernelIdeal : Cert.KernelIdeal.Facts] [hReferenceIdeal : Cert.ReferenceIdeal.Facts] [hOn_in_range : Cert.On_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 24576]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v1_0) i = v0 c i)
          ∧ (∀ i : (⟨2, ![256, 24576]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v1_1) i = v1 c i)
          ∧ (∀ i : (⟨2, ![2, 128]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 i = 1#1 → r.2.mem ((c.tc : Thread Cert.KernelIdeal.nD Cert.KernelIdeal.τ).loc Cert.KernelIdeal.main_v1_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![256, 24576]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v112) i = v0 c i)
          ∧ (∀ i : (⟨2, ![256, 24576]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v113) i = v1 c i)
          ∧ (∀ i : (⟨2, ![2, 128]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 i = 1#1 → r.2.mem ((c.tc : Thread Cert.ReferenceIdeal.nD Cert.ReferenceIdeal.τ).loc Cert.ReferenceIdeal.main_v103) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hOn_in_range : Cert.On_in_range.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_in_range (hKernelIdeal := hKernelIdeal) (hReferenceIdeal := hReferenceIdeal) (hOn_in_range := hOn_in_range)
-- ==== On_in_range.lean ====
abbrev S2x128x1024 : Shape := ⟨3, ![2, 128, 1024]⟩
abbrev S512x24576 : Shape := ⟨2, ![512, 24576]⟩
abbrev S16x24576 : Shape := ⟨2, ![16, 24576]⟩
abbrev S1024x16 : Shape := ⟨2, ![1024, 16]⟩
abbrev S_ : Shape := ⟨0, ![]⟩
abbrev S16x32x24576 : Shape := ⟨3, ![16, 32, 24576]⟩
abbrev S2x128x512 : Shape := ⟨3, ![2, 128, 512]⟩
abbrev S2x128x24576 : Shape := ⟨3, ![2, 128, 24576]⟩
abbrev S2x128x16 : Shape := ⟨3, ![2, 128, 16]⟩
abbrev S2x128 : Shape := ⟨2, ![2, 128]⟩
abbrev S256x24576 : Shape := ⟨2, ![256, 24576]⟩

class Facts : Prop where
  natLt_8_32 : 8 < 32
  bcast_S_S512x24576 : S_.BroadcastsInDim S512x24576 (![] : Fin 0 → Fin S512x24576.rank)
  bitsLt_bf16_f32 : FTy.bits .bf16 < FTy.bits .f32
  bcast_S16x24576_S16x32x24576_0_2 : S16x24576.BroadcastsInDim S16x32x24576 (![0, 2] : Fin 2 → Fin S16x32x24576.rank)
  shapeCasts_S16x32x24576_S512x24576 : S16x32x24576.ShapeCasts S512x24576
  slicesBy_S2x128x1024_S2x128x512_0s1_0s1_0s2 : S2x128x1024.SlicesBy (![0, 0, 0] : Fin 3 → Nat) ![1, 1, 2] S2x128x512
  slicesBy_S2x128x1024_S2x128x512_0s1_0s1_1s2 : S2x128x1024.SlicesBy (![0, 0, 1] : Fin 3 → Nat) ![1, 1, 2] S2x128x512
  bcast_S_S2x128x24576 : S_.BroadcastsInDim S2x128x24576 (![] : Fin 0 → Fin S2x128x24576.rank)
  reducesTo_S2x128x24576_S2x128_d2 : S2x128x24576.ReducesTo [2] S2x128
  h_S_ : 0 < S_.numel
  bcast_S_S2x128 : S_.BroadcastsInDim S2x128 (![] : Fin 0 → Fin S2x128.rank)
  bcast_S_S256x24576 : S_.BroadcastsInDim S256x24576 (![] : Fin 0 → Fin S256x24576.rank)
  bcast_S2x128_S2x128x24576_0_1 : S2x128.BroadcastsInDim S2x128x24576 (![0, 1] : Fin 2 → Fin S2x128x24576.rank)
  shapeCasts_S2x128x24576_S256x24576 : S2x128x24576.ShapeCasts S256x24576
  dot_S2x128x512_S512x24576_S2x128x24576_2_0_01_1_n_n_wf : DotDims.WF S2x128x512 S512x24576 S2x128x24576 [2] [0] [0, 1] [1] [] []
  dot_S2x128x1024_S1024x16_S2x128x16_2_0_01_1_n_n_wf : DotDims.WF S2x128x1024 S1024x16 S2x128x16 [2] [0] [0, 1] [1] [] []
  dot_S2x128x16_S16x24576_S2x128x24576_2_0_01_1_n_n_wf : DotDims.WF S2x128x16 S16x24576 S2x128x24576 [2] [0] [0, 1] [1] [] []

variable [Facts]

def dot_S2x128x512_S512x24576_S2x128x24576_2_0_01_1_n_n : DotDims S2x128x512 S512x24576 S2x128x24576 where
  lhsContracting := [2]
  rhsContracting := [0]
  lhsNonContracting := [0, 1]
  rhsNonContracting := [1]
  lhsBatch := []
  rhsBatch := []
  wf := dot_S2x128x512_S512x24576_S2x128x24576_2_0_01_1_n_n_wf
def dot_S2x128x1024_S1024x16_S2x128x16_2_0_01_1_n_n : DotDims S2x128x1024 S1024x16 S2x128x16 where
  lhsContracting := [2]
  rhsContracting := [0]
  lhsNonContracting := [0, 1]
  rhsNonContracting := [1]
  lhsBatch := []
  rhsBatch := []
  wf := dot_S2x128x1024_S1024x16_S2x128x16_2_0_01_1_n_n_wf
def dot_S2x128x16_S16x24576_S2x128x24576_2_0_01_1_n_n : DotDims S2x128x16 S16x24576 S2x128x24576 where
  lhsContracting := [2]
  rhsContracting := [0]
  lhsNonContracting := [0, 1]
  rhsNonContracting := [1]
  lhsBatch := []
  rhsBatch := []
  wf := dot_S2x128x16_S16x24576_S2x128x24576_2_0_01_1_n_n_wf
def fn_where {F : FTy → Type} [FloatOps F] (arg0 : IVec S512x24576 1) (arg1 : FVec F S_ .f32) (arg2 : FVec F S_ .f32) : FVec F S512x24576 .f32 :=
  let v0 : FVec F S512x24576 .f32 := broadcastInDim S512x24576 ![] bcast_S_S512x24576 arg1
  let v1 : FVec F S512x24576 .f32 := broadcastInDim S512x24576 ![] bcast_S_S512x24576 arg2
  let v2 : FVec F S512x24576 .f32 := select arg0 v0 v1
  v2

def fn_where_0 {F : FTy → Type} [FloatOps F] (arg0 : IVec S512x24576 1) (arg1 : FVec F S512x24576 .f32) (arg2 : FVec F S512x24576 .f32) : FVec F S512x24576 .f32 :=
  let v0 : FVec F S512x24576 .f32 := select arg0 arg1 arg2
  v0

def fn_part6 {F : FTy → Type} [FloatOps F] (main_v88 : FVec F S2x128 .f32) (main_v89 : FVec F S2x128 .f32) : IVec S256x24576 1 × IVec S256x24576 1 × IVec S2x128 1 :=
  let main_v90 : IVec S2x128 1 := cmpf .olt main_v88 main_v89
  let main_c_52 : IVec S_ 1 := constantI S_ 1 1#1
  let main_v91 : IVec S256x24576 1 := broadcastInDim S256x24576 ![] bcast_S_S256x24576 main_c_52
  let main_v92 : IVec S2x128x24576 1 := broadcastInDim S2x128x24576 ![0, 1] bcast_S2x128_S2x128x24576_0_1 main_v90
  let main_v93 : IVec S256x24576 1 := shapeCast S256x24576 main_v92 shapeCasts_S2x128x24576_S256x24576
  (main_v91, main_v93, main_v90)

def fn_part5 {F : FTy → Type} [FloatOps F] (main_arg0 : FVec F S2x128x1024 .bf16) (main_arg3 : FVec F S1024x16 .bf16) (main_arg4 : FVec F S16x24576 .bf16) (main_v7 : FVec F S512x24576 .bf16) (main_v40 : FVec F S512x24576 .bf16) (main_v52 : IVec S512x24576 1) (main_v56 : IVec S512x24576 1) (main_v63 : FVec F S512x24576 .f32) (main_v66 : FVec F S512x24576 .f32) (main_v69 : FVec F S512x24576 .f32) : IVec S256x24576 1 × IVec S256x24576 1 × IVec S2x128 1 :=
  let main_v70 : FVec F S512x24576 .f32 := fn_where_0 (F := F) main_v52 main_v66 main_v69
  let main_v71 : FVec F S512x24576 .f32 := fn_where_0 (F := F) main_v56 main_v63 main_v70
  let main_v72 : FVec F S512x24576 .bf16 := (truncf .bf16 · bitsLt_bf16_f32) main_v71
  let main_v73 : FVec F S512x24576 .bf16 := mulf main_v72 main_v7
  let main_v74 : FVec F S2x128x512 .bf16 := (Host.slice S2x128x512 ![0, 0, 0] ![1, 1, 2] · slicesBy_S2x128x1024_S2x128x512_0s1_0s1_0s2) main_arg0
  let main_v75 : FVec F S2x128x24576 .f32 := (fun l r => Host.dotGeneral dot_S2x128x512_S512x24576_S2x128x24576_2_0_01_1_n_n none l r) main_v74 main_v40
  let main_v76 : FVec F S2x128x512 .bf16 := (Host.slice S2x128x512 ![0, 0, 1] ![1, 1, 2] · slicesBy_S2x128x1024_S2x128x512_0s1_0s1_1s2) main_arg0
  let main_v77 : FVec F S2x128x24576 .f32 := (fun l r => Host.dotGeneral dot_S2x128x512_S512x24576_S2x128x24576_2_0_01_1_n_n none l r) main_v76 main_v73
  let main_v78 : FVec F S2x128x24576 .f32 := addf main_v75 main_v77
  let main_v79 : FVec F S2x128x16 .f32 := (fun l r => Host.dotGeneral dot_S2x128x1024_S1024x16_S2x128x16_2_0_01_1_n_n none l r) main_arg0 main_arg3
  let main_v80 : FVec F S2x128x16 .bf16 := (truncf .bf16 · bitsLt_bf16_f32) main_v79
  let main_v81 : FVec F S2x128x24576 .f32 := (fun l r => Host.dotGeneral dot_S2x128x16_S16x24576_S2x128x24576_2_0_01_1_n_n none l r) main_v80 main_arg4
  let main_cst_48 : FVec F S_ .f32 := constant S_ .f32 0x40000000#32
  let main_v82 : FVec F S2x128x24576 .f32 := broadcastInDim S2x128x24576 ![] bcast_S_S2x128x24576 main_cst_48
  let main_v83 : FVec F S2x128x24576 .f32 := mulf main_v81 main_v82
  let main_v84 : FVec F S2x128x24576 .f32 := addf main_v78 main_v83
  let main_v85 : FVec F S2x128x24576 .f32 := Host.absf main_v84
  let main_cst_49 : FVec F S_ .f32 := constant S_ .f32 0xFF800000#32
  let main_v86 : FVec F S2x128 .f32 := (fun x v => Host.reduce FloatOps.maximumf x v reducesTo_S2x128x24576_S2x128_d2 h_S_) main_v85 main_cst_49
  let main_cst_50 : FVec F S_ .f32 := constant S_ .f32 0x3B124925#32
  let main_v87 : FVec F S2x128 .f32 := broadcastInDim S2x128 ![] bcast_S_S2x128 main_cst_50
  let main_v88 : FVec F S2x128 .f32 := mulf main_v86 main_v87
  let main_cst_51 : FVec F S_ .f32 := constant S_ .f32 0x7E800000#32
  let main_v89 : FVec F S2x128 .f32 := broadcastInDim S2x128 ![] bcast_S_S2x128 main_cst_51
  fn_part6 (F := F) main_v88 main_v89

def fn_part4 {F : FTy → Type} [FloatOps F] (main_arg0 : FVec F S2x128x1024 .bf16) (main_arg3 : FVec F S1024x16 .bf16) (main_arg4 : FVec F S16x24576 .bf16) (main_v7 : FVec F S512x24576 .bf16) (main_v40 : FVec F S512x24576 .bf16) (main_v44 : IVec S512x24576 1) (main_v48 : IVec S512x24576 1) (main_v52 : IVec S512x24576 1) (main_v56 : IVec S512x24576 1) (main_v57 : FVec F S512x24576 .f32) (main_cst_34 : FVec F S_ .f32) (main_cst_35 : FVec F S_ .f32) : IVec S256x24576 1 × IVec S256x24576 1 × IVec S2x128 1 :=
  let main_v58 : FVec F S512x24576 .f32 := fn_where (F := F) main_v44 main_cst_34 main_cst_35
  let main_v59 : FVec F S512x24576 .f32 := fn_where_0 (F := F) main_v48 main_v57 main_v58
  let main_cst_36 : FVec F S_ .f32 := constant S_ .f32 0x3EAD033A#32
  let main_cst_37 : FVec F S_ .f32 := constant S_ .f32 0x3E7C04DD#32
  let main_v60 : FVec F S512x24576 .f32 := fn_where (F := F) main_v44 main_cst_36 main_cst_37
  let main_cst_38 : FVec F S_ .f32 := constant S_ .f32 0x3E24CAE3#32
  let main_cst_39 : FVec F S_ .f32 := constant S_ .f32 0x3DA2FAFF#32
  let main_v61 : FVec F S512x24576 .f32 := fn_where (F := F) main_v44 main_cst_38 main_cst_39
  let main_v62 : FVec F S512x24576 .f32 := fn_where_0 (F := F) main_v48 main_v60 main_v61
  let main_v63 : FVec F S512x24576 .f32 := fn_where_0 (F := F) main_v52 main_v59 main_v62
  let main_cst_40 : FVec F S_ .f32 := constant S_ .f32 0x00000000#32
  let main_cst_41 : FVec F S_ .f32 := constant S_ .f32 0xBDBA7871#32
  let main_v64 : FVec F S512x24576 .f32 := fn_where (F := F) main_v44 main_cst_40 main_cst_41
  let main_cst_42 : FVec F S_ .f32 := constant S_ .f32 0xBE3D353F#32
  let main_cst_43 : FVec F S_ .f32 := constant S_ .f32 0xBE91A24D#32
  let main_v65 : FVec F S512x24576 .f32 := fn_where (F := F) main_v44 main_cst_42 main_cst_43
  let main_v66 : FVec F S512x24576 .f32 := fn_where_0 (F := F) main_v48 main_v64 main_v65
  let main_cst_44 : FVec F S_ .f32 := constant S_ .f32 0xBECA32A0#32
  let main_cst_45 : FVec F S_ .f32 := constant S_ .f32 0xBF066B30#32
  let main_v67 : FVec F S512x24576 .f32 := fn_where (F := F) main_v44 main_cst_44 main_cst_45
  let main_cst_46 : FVec F S_ .f32 := constant S_ .f32 0xBF3239B1#32
  let main_cst_47 : FVec F S_ .f32 := constant S_ .f32 0xBF800000#32
  let main_v68 : FVec F S512x24576 .f32 := fn_where (F := F) main_v44 main_cst_46 main_cst_47
  let main_v69 : FVec F S512x24576 .f32 := fn_where_0 (F := F) main_v48 main_v67 main_v68
  fn_part5 (F := F) main_arg0 main_arg3 main_arg4 main_v7 main_v40 main_v52 main_v56 main_v63 main_v66 main_v69

def fn_part3 {F : FTy → Type} [FloatOps F] (main_arg0 : FVec F S2x128x1024 .bf16) (main_arg3 : FVec F S1024x16 .bf16) (main_arg4 : FVec F S16x24576 .bf16) (main_v4 : IVec S512x24576 32) (main_v7 : FVec F S512x24576 .bf16) (main_v40 : FVec F S512x24576 .bf16) (main_v42 : IVec S512x24576 32) (main_v43 : IVec S512x24576 32) : IVec S256x24576 1 × IVec S256x24576 1 × IVec S2x128 1 :=
  let main_v44 : IVec S512x24576 1 := cmpi .ne main_v42 main_v43
  let main_c_26 : IVec S_ 32 := constantI S_ 32 2#32
  let main_v45 : IVec S512x24576 32 := broadcastInDim S512x24576 ![] bcast_S_S512x24576 main_c_26
  let main_v46 : IVec S512x24576 32 := andi main_v4 main_v45
  let main_c_27 : IVec S_ 32 := constantI S_ 32 0#32
  let main_v47 : IVec S512x24576 32 := broadcastInDim S512x24576 ![] bcast_S_S512x24576 main_c_27
  let main_v48 : IVec S512x24576 1 := cmpi .ne main_v46 main_v47
  let main_c_28 : IVec S_ 32 := constantI S_ 32 4#32
  let main_v49 : IVec S512x24576 32 := broadcastInDim S512x24576 ![] bcast_S_S512x24576 main_c_28
  let main_v50 : IVec S512x24576 32 := andi main_v4 main_v49
  let main_c_29 : IVec S_ 32 := constantI S_ 32 0#32
  let main_v51 : IVec S512x24576 32 := broadcastInDim S512x24576 ![] bcast_S_S512x24576 main_c_29
  let main_v52 : IVec S512x24576 1 := cmpi .ne main_v50 main_v51
  let main_c_30 : IVec S_ 32 := constantI S_ 32 8#32
  let main_v53 : IVec S512x24576 32 := broadcastInDim S512x24576 ![] bcast_S_S512x24576 main_c_30
  let main_v54 : IVec S512x24576 32 := andi main_v4 main_v53
  let main_c_31 : IVec S_ 32 := constantI S_ 32 0#32
  let main_v55 : IVec S512x24576 32 := broadcastInDim S512x24576 ![] bcast_S_S512x24576 main_c_31
  let main_v56 : IVec S512x24576 1 := cmpi .ne main_v54 main_v55
  let main_cst_32 : FVec F S_ .f32 := constant S_ .f32 0x3F800000#32
  let main_cst_33 : FVec F S_ .f32 := constant S_ .f32 0x3F3913B3#32
  let main_v57 : FVec F S512x24576 .f32 := fn_where (F := F) main_v44 main_cst_32 main_cst_33
  let main_cst_34 : FVec F S_ .f32 := constant S_ .f32 0x3F1007AB#32
  let main_cst_35 : FVec F S_ .f32 := constant S_ .f32 0x3EE1A4B8#32
  fn_part4 (F := F) main_arg0 main_arg3 main_arg4 main_v7 main_v40 main_v44 main_v48 main_v52 main_v56 main_v57 main_cst_34 main_cst_35

def fn_part2 {F : FTy → Type} [FloatOps F] (main_arg0 : FVec F S2x128x1024 .bf16) (main_arg3 : FVec F S1024x16 .bf16) (main_arg4 : FVec F S16x24576 .bf16) (main_v4 : IVec S512x24576 32) (main_v7 : FVec F S512x24576 .bf16) (main_v11 : IVec S512x24576 1) (main_v15 : IVec S512x24576 1) (main_v19 : IVec S512x24576 1) (main_v23 : IVec S512x24576 1) (main_v26 : FVec F S512x24576 .f32) (main_v29 : FVec F S512x24576 .f32) : IVec S256x24576 1 × IVec S256x24576 1 × IVec S2x128 1 :=
  let main_v30 : FVec F S512x24576 .f32 := fn_where_0 (F := F) main_v19 main_v26 main_v29
  let main_cst_16 : FVec F S_ .f32 := constant S_ .f32 0x00000000#32
  let main_cst_17 : FVec F S_ .f32 := constant S_ .f32 0xBDBA7871#32
  let main_v31 : FVec F S512x24576 .f32 := fn_where (F := F) main_v11 main_cst_16 main_cst_17
  let main_cst_18 : FVec F S_ .f32 := constant S_ .f32 0xBE3D353F#32
  let main_cst_19 : FVec F S_ .f32 := constant S_ .f32 0xBE91A24D#32
  let main_v32 : FVec F S512x24576 .f32 := fn_where (F := F) main_v11 main_cst_18 main_cst_19
  let main_v33 : FVec F S512x24576 .f32 := fn_where_0 (F := F) main_v15 main_v31 main_v32
  let main_cst_20 : FVec F S_ .f32 := constant S_ .f32 0xBECA32A0#32
  let main_cst_21 : FVec F S_ .f32 := constant S_ .f32 0xBF066B30#32
  let main_v34 : FVec F S512x24576 .f32 := fn_where (F := F) main_v11 main_cst_20 main_cst_21
  let main_cst_22 : FVec F S_ .f32 := constant S_ .f32 0xBF3239B1#32
  let main_cst_23 : FVec F S_ .f32 := constant S_ .f32 0xBF800000#32
  let main_v35 : FVec F S512x24576 .f32 := fn_where (F := F) main_v11 main_cst_22 main_cst_23
  let main_v36 : FVec F S512x24576 .f32 := fn_where_0 (F := F) main_v15 main_v34 main_v35
  let main_v37 : FVec F S512x24576 .f32 := fn_where_0 (F := F) main_v19 main_v33 main_v36
  let main_v38 : FVec F S512x24576 .f32 := fn_where_0 (F := F) main_v23 main_v30 main_v37
  let main_v39 : FVec F S512x24576 .bf16 := (truncf .bf16 · bitsLt_bf16_f32) main_v38
  let main_v40 : FVec F S512x24576 .bf16 := mulf main_v39 main_v7
  let main_c_24 : IVec S_ 32 := constantI S_ 32 1#32
  let main_v41 : IVec S512x24576 32 := broadcastInDim S512x24576 ![] bcast_S_S512x24576 main_c_24
  let main_v42 : IVec S512x24576 32 := andi main_v4 main_v41
  let main_c_25 : IVec S_ 32 := constantI S_ 32 0#32
  let main_v43 : IVec S512x24576 32 := broadcastInDim S512x24576 ![] bcast_S_S512x24576 main_c_25
  fn_part3 (F := F) main_arg0 main_arg3 main_arg4 main_v4 main_v7 main_v40 main_v42 main_v43

def fn_part1 {F : FTy → Type} [FloatOps F] (main_arg0 : FVec F S2x128x1024 .bf16) (main_arg3 : FVec F S1024x16 .bf16) (main_arg4 : FVec F S16x24576 .bf16) (main_v2 : IVec S512x24576 32) (main_v4 : IVec S512x24576 32) (main_v7 : FVec F S512x24576 .bf16) (main_v11 : IVec S512x24576 1) (main_v15 : IVec S512x24576 1) (main_v16 : IVec S512x24576 32) : IVec S256x24576 1 × IVec S256x24576 1 × IVec S2x128 1 :=
  let main_v17 : IVec S512x24576 32 := andi main_v2 main_v16
  let main_c_6 : IVec S_ 32 := constantI S_ 32 0#32
  let main_v18 : IVec S512x24576 32 := broadcastInDim S512x24576 ![] bcast_S_S512x24576 main_c_6
  let main_v19 : IVec S512x24576 1 := cmpi .ne main_v17 main_v18
  let main_c_7 : IVec S_ 32 := constantI S_ 32 8#32
  let main_v20 : IVec S512x24576 32 := broadcastInDim S512x24576 ![] bcast_S_S512x24576 main_c_7
  let main_v21 : IVec S512x24576 32 := andi main_v2 main_v20
  let main_c_8 : IVec S_ 32 := constantI S_ 32 0#32
  let main_v22 : IVec S512x24576 32 := broadcastInDim S512x24576 ![] bcast_S_S512x24576 main_c_8
  let main_v23 : IVec S512x24576 1 := cmpi .ne main_v21 main_v22
  let main_cst : FVec F S_ .f32 := constant S_ .f32 0x3F800000#32
  let main_cst_9 : FVec F S_ .f32 := constant S_ .f32 0x3F3913B3#32
  let main_v24 : FVec F S512x24576 .f32 := fn_where (F := F) main_v11 main_cst main_cst_9
  let main_cst_10 : FVec F S_ .f32 := constant S_ .f32 0x3F1007AB#32
  let main_cst_11 : FVec F S_ .f32 := constant S_ .f32 0x3EE1A4B8#32
  let main_v25 : FVec F S512x24576 .f32 := fn_where (F := F) main_v11 main_cst_10 main_cst_11
  let main_v26 : FVec F S512x24576 .f32 := fn_where_0 (F := F) main_v15 main_v24 main_v25
  let main_cst_12 : FVec F S_ .f32 := constant S_ .f32 0x3EAD033A#32
  let main_cst_13 : FVec F S_ .f32 := constant S_ .f32 0x3E7C04DD#32
  let main_v27 : FVec F S512x24576 .f32 := fn_where (F := F) main_v11 main_cst_12 main_cst_13
  let main_cst_14 : FVec F S_ .f32 := constant S_ .f32 0x3E24CAE3#32
  let main_cst_15 : FVec F S_ .f32 := constant S_ .f32 0x3DA2FAFF#32
  let main_v28 : FVec F S512x24576 .f32 := fn_where (F := F) main_v11 main_cst_14 main_cst_15
  let main_v29 : FVec F S512x24576 .f32 := fn_where_0 (F := F) main_v15 main_v27 main_v28
  fn_part2 (F := F) main_arg0 main_arg3 main_arg4 main_v4 main_v7 main_v11 main_v15 main_v19 main_v23 main_v26 main_v29

def fn {F : FTy → Type} [FloatOps F] (main_arg0 : FVec F S2x128x1024 .bf16) (main_arg1 : IVec S512x24576 8) (main_arg2 : FVec F S16x24576 .f32) (main_arg3 : FVec F S1024x16 .bf16) (main_arg4 : FVec F S16x24576 .bf16) : IVec S256x24576 1 × IVec S256x24576 1 × IVec S2x128 1 :=
  let main_v0 : IVec S512x24576 32 := (extui 32 · natLt_8_32) main_arg1
  let main_c : IVec S_ 32 := constantI S_ 32 15#32
  let main_v1 : IVec S512x24576 32 := broadcastInDim S512x24576 ![] bcast_S_S512x24576 main_c
  let main_v2 : IVec S512x24576 32 := andi main_v0 main_v1
  let main_c_0 : IVec S_ 32 := constantI S_ 32 4#32
  let main_v3 : IVec S512x24576 32 := broadcastInDim S512x24576 ![] bcast_S_S512x24576 main_c_0
  let main_v4 : IVec S512x24576 32 := Host.shrsi main_v0 main_v3
  let main_v5 : FVec F S16x24576 .bf16 := (truncf .bf16 · bitsLt_bf16_f32) main_arg2
  let main_v6 : FVec F S16x32x24576 .bf16 := broadcastInDim S16x32x24576 ![0, 2] bcast_S16x24576_S16x32x24576_0_2 main_v5
  let main_v7 : FVec F S512x24576 .bf16 := shapeCast S512x24576 main_v6 shapeCasts_S16x32x24576_S512x24576
  let main_c_1 : IVec S_ 32 := constantI S_ 32 1#32
  let main_v8 : IVec S512x24576 32 := broadcastInDim S512x24576 ![] bcast_S_S512x24576 main_c_1
  let main_v9 : IVec S512x24576 32 := andi main_v2 main_v8
  let main_c_2 : IVec S_ 32 := constantI S_ 32 0#32
  let main_v10 : IVec S512x24576 32 := broadcastInDim S512x24576 ![] bcast_S_S512x24576 main_c_2
  let main_v11 : IVec S512x24576 1 := cmpi .ne main_v9 main_v10
  let main_c_3 : IVec S_ 32 := constantI S_ 32 2#32
  let main_v12 : IVec S512x24576 32 := broadcastInDim S512x24576 ![] bcast_S_S512x24576 main_c_3
  let main_v13 : IVec S512x24576 32 := andi main_v2 main_v12
  let main_c_4 : IVec S_ 32 := constantI S_ 32 0#32
  let main_v14 : IVec S512x24576 32 := broadcastInDim S512x24576 ![] bcast_S_S512x24576 main_c_4
  let main_v15 : IVec S512x24576 1 := cmpi .ne main_v13 main_v14
  let main_c_5 : IVec S_ 32 := constantI S_ 32 4#32
  let main_v16 : IVec S512x24576 32 := broadcastInDim S512x24576 ![] bcast_S_S512x24576 main_c_5
  fn_part1 (F := F) main_arg0 main_arg3 main_arg4 main_v2 main_v4 main_v7 main_v11 main_v15 main_v16
-- ==== Kernel.lean ====
abbrev S2x128x1024 : Shape := ⟨3, ![2, 128, 1024]⟩
abbrev S512x24576 : Shape := ⟨2, ![512, 24576]⟩
abbrev S16x24576 : Shape := ⟨2, ![16, 24576]⟩
abbrev S1024x16 : Shape := ⟨2, ![1024, 16]⟩
abbrev S256x1024 : Shape := ⟨2, ![256, 1024]⟩
abbrev S256x24576 : Shape := ⟨2, ![256, 24576]⟩
abbrev S2x128 : Shape := ⟨2, ![2, 128]⟩
abbrev S512x2048 : Shape := ⟨2, ![512, 2048]⟩
abbrev S16x2048 : Shape := ⟨2, ![16, 2048]⟩
abbrev S256x2048 : Shape := ⟨2, ![256, 2048]⟩
abbrev S256x16 : Shape := ⟨2, ![256, 16]⟩
abbrev S4x1024x512 : Shape := ⟨3, ![4, 1024, 512]⟩
abbrev S12x256x2048 : Shape := ⟨3, ![12, 256, 2048]⟩
abbrev S256x128 : Shape := ⟨2, ![256, 128]⟩
abbrev S256x256 : Shape := ⟨2, ![256, 256]⟩
abbrev S16x128 : Shape := ⟨2, ![16, 128]⟩
abbrev S1x128 : Shape := ⟨2, ![1, 128]⟩
abbrev S32x128 : Shape := ⟨2, ![32, 128]⟩
abbrev S8x128 : Shape := ⟨2, ![8, 128]⟩
abbrev S16x128x1 : Shape := ⟨3, ![16, 128, 1]⟩
abbrev S1x1024x512 : Shape := ⟨3, ![1, 1024, 512]⟩
abbrev S1024x512 : Shape := ⟨2, ![1024, 512]⟩
abbrev S1x16x128 : Shape := ⟨3, ![1, 16, 128]⟩
abbrev S256x512 : Shape := ⟨2, ![256, 512]⟩
abbrev S16x512 : Shape := ⟨2, ![16, 512]⟩
abbrev S1x256x512 : Shape := ⟨3, ![1, 256, 512]⟩
abbrev S256 : Shape := ⟨1, ![256]⟩
abbrev S256x1 : Shape := ⟨2, ![256, 1]⟩
abbrev S128x128 : Shape := ⟨2, ![128, 128]⟩
abbrev S128 : Shape := ⟨1, ![128]⟩
abbrev S1x256x128 : Shape := ⟨3, ![1, 256, 128]⟩

abbrev nBuf : Space → Nat
  | .hbm => 9
  | .vmem => 19
  | .smem => 0
  | _ => 0

abbrev bufTy : (tb : Table) → Fin (tcTables nBuf tb) → BufTy
  | .hbm, ⟨0, _⟩ => ⟨S2x128x1024, .bf16⟩
  | .hbm, ⟨1, _⟩ => ⟨S512x24576, .i8⟩
  | .hbm, ⟨2, _⟩ => ⟨S16x24576, .f32⟩
  | .hbm, ⟨3, _⟩ => ⟨S1024x16, .bf16⟩
  | .hbm, ⟨4, _⟩ => ⟨S16x24576, .bf16⟩
  | .hbm, ⟨5, _⟩ => ⟨S256x1024, .bf16⟩
  | .hbm, ⟨6, _⟩ => ⟨S256x24576, .bf16⟩
  | .hbm, ⟨7, _⟩ => ⟨S256x24576, .fp8e4m3⟩
  | .hbm, ⟨8, _⟩ => ⟨S2x128, .f32⟩
  | .local _ .vmem, ⟨0, _⟩ => ⟨S256x1024, .bf16⟩
  | .local _ .vmem, ⟨1, _⟩ => ⟨S1024x16, .bf16⟩
  | .local _ .vmem, ⟨2, _⟩ => ⟨S512x2048, .i8⟩
  | .local _ .vmem, ⟨3, _⟩ => ⟨S512x2048, .i8⟩
  | .local _ .vmem, ⟨4, _⟩ => ⟨S16x2048, .f32⟩
  | .local _ .vmem, ⟨5, _⟩ => ⟨S16x2048, .f32⟩
  | .local _ .vmem, ⟨6, _⟩ => ⟨S16x2048, .bf16⟩
  | .local _ .vmem, ⟨7, _⟩ => ⟨S16x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .fp8e4m3⟩
  | .local _ .vmem, ⟨11, _⟩ => ⟨S256x2048, .fp8e4m3⟩
  | .local _ .vmem, ⟨12, _⟩ => ⟨S2x128, .f32⟩
  | .local _ .vmem, ⟨13, _⟩ => ⟨S256x1024, .bf16⟩
  | .local _ .vmem, ⟨14, _⟩ => ⟨S256x16, .bf16⟩
  | .local _ .vmem, ⟨15, _⟩ => ⟨S4x1024x512, .bf16⟩
  | .local _ .vmem, ⟨16, _⟩ => ⟨S12x256x2048, .f32⟩
  | .local _ .vmem, ⟨17, _⟩ => ⟨S256x128, .f32⟩
  | .local _ .vmem, ⟨18, _⟩ => ⟨S256x128, .f32⟩
  | _, _ => ⟨S2x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![24], ![false]⟩

def k0_cond2 (i : grid0.Coords) : BitVec 1 :=
  let arg0 : BitVec 32 := BitVec.ofNat 32 (i 0).val
  let c12_i32 : BitVec 32 := 12#32
  let v3 : BitVec 1 := Scalar.cmpi .slt arg0 c12_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let v3992 : Index := Scalar.indexCast arg0
  let c0_1941 : Index := 0#32
  let c0_1942 : Index := 0#32
  ![v3992.toNat, 0, 0]
def k0_off2 (i : grid0.Coords) : Fin 3 → Nat :=
  let arg0 : BitVec 32 := BitVec.ofNat 32 (i 0).val
  let v7922 : Index := Scalar.indexCast arg0
  let c0_3940 : Index := 0#32
  let c512_3941 : Index := 512#32
  ![v7922.toNat, 0, 512]
def k0_off3 (i : grid0.Coords) : Fin 3 → Nat :=
  let arg0 : BitVec 32 := BitVec.ofNat 32 (i 0).val
  let v11852 : Index := Scalar.indexCast arg0
  let c0_5935 : Index := 0#32
  let c1024_5936 : Index := 1024#32
  ![v11852.toNat, 0, 1024]
def k0_off4 (i : grid0.Coords) : Fin 3 → Nat :=
  let arg0 : BitVec 32 := BitVec.ofNat 32 (i 0).val
  let v15782 : Index := Scalar.indexCast arg0
  let c0_7930 : Index := 0#32
  let c1536_7931 : Index := 1536#32
  ![v15782.toNat, 0, 1536]
def k0_cond4 (i : grid0.Coords) : BitVec 1 :=
  let arg0 : BitVec 32 := BitVec.ofNat 32 (i 0).val
  let c12_i32_4 : BitVec 32 := 12#32
  let v9 : BitVec 1 := Scalar.cmpi .sge arg0 c12_i32_4
  let v10 : BitVec 32 := Scalar.extui v9
  let c0_i32_5 : BitVec 32 := 0#32
  let v11 : BitVec 1 := Scalar.cmpi .ne v10 c0_i32_5
  v11

def k0_off5 (i : grid0.Coords) : Fin 3 → Nat :=
  let arg0 : BitVec 32 := BitVec.ofNat 32 (i 0).val
  let c12_i32_7 : BitVec 32 := 12#32
  let v13 : BitVec 32 := Scalar.subi arg0 c12_i32_7
  let v14 : Index := Scalar.indexCast v13
  let c0_8 : Index := 0#32
  let c0_9 : Index := 0#32
  ![v14.toNat, 0, 0]
def k0_off6 (i : grid0.Coords) : Fin 3 → Nat :=
  let arg0 : BitVec 32 := BitVec.ofNat 32 (i 0).val
  let c12_i32_13 : BitVec 32 := 12#32
  let v24 : BitVec 32 := Scalar.subi arg0 c12_i32_13
  let v25 : Index := Scalar.indexCast v24
  let c0_14 : Index := 0#32
  let c128 : Index := 128#32
  ![v25.toNat, 0, 128]
def k0_off7 (i : grid0.Coords) : Fin 3 → Nat :=
  let arg0 : BitVec 32 := BitVec.ofNat 32 (i 0).val
  let c12_i32_19 : BitVec 32 := 12#32
  let v35 : BitVec 32 := Scalar.subi arg0 c12_i32_19
  let v36 : Index := Scalar.indexCast v35
  let c0_20 : Index := 0#32
  let c256 : Index := 256#32
  ![v36.toNat, 0, 256]
def k0_off8 (i : grid0.Coords) : Fin 3 → Nat :=
  let arg0 : BitVec 32 := BitVec.ofNat 32 (i 0).val
  let c12_i32_25 : BitVec 32 := 12#32
  let v46 : BitVec 32 := Scalar.subi arg0 c12_i32_25
  let v47 : Index := Scalar.indexCast v46
  let c0_26 : Index := 0#32
  let c384 : Index := 384#32
  ![v47.toNat, 0, 384]
def k0_off9 (i : grid0.Coords) : Fin 3 → Nat :=
  let arg0 : BitVec 32 := BitVec.ofNat 32 (i 0).val
  let c12_i32_31 : BitVec 32 := 12#32
  let v57 : BitVec 32 := Scalar.subi arg0 c12_i32_31
  let v58 : Index := Scalar.indexCast v57
  let c0_32 : Index := 0#32
  let c512 : Index := 512#32
  ![v58.toNat, 0, 512]
def k0_off10 (i : grid0.Coords) : Fin 3 → Nat :=
  let arg0 : BitVec 32 := BitVec.ofNat 32 (i 0).val
  let c12_i32_37 : BitVec 32 := 12#32
  let v68 : BitVec 32 := Scalar.subi arg0 c12_i32_37
  let v69 : Index := Scalar.indexCast v68
  let c0_38 : Index := 0#32
  let c640 : Index := 640#32
  ![v69.toNat, 0, 640]
def k0_off11 (i : grid0.Coords) : Fin 3 → Nat :=
  let arg0 : BitVec 32 := BitVec.ofNat 32 (i 0).val
  let c12_i32_43 : BitVec 32 := 12#32
  let v79 : BitVec 32 := Scalar.subi arg0 c12_i32_43
  let v80 : Index := Scalar.indexCast v79
  let c0_44 : Index := 0#32
  let c768 : Index := 768#32
  ![v80.toNat, 0, 768]
def k0_off12 (i : grid0.Coords) : Fin 3 → Nat :=
  let arg0 : BitVec 32 := BitVec.ofNat 32 (i 0).val
  let c12_i32_49 : BitVec 32 := 12#32
  let v90 : BitVec 32 := Scalar.subi arg0 c12_i32_49
  let v91 : Index := Scalar.indexCast v90
  let c0_50 : Index := 0#32
  let c896 : Index := 896#32
  ![v91.toNat, 0, 896]
def k0_off13 (i : grid0.Coords) : Fin 3 → Nat :=
  let arg0 : BitVec 32 := BitVec.ofNat 32 (i 0).val
  let c12_i32_55 : BitVec 32 := 12#32
  let v101 : BitVec 32 := Scalar.subi arg0 c12_i32_55
  let v102 : Index := Scalar.indexCast v101
  let c0_56 : Index := 0#32
  let c1024 : Index := 1024#32
  ![v102.toNat, 0, 1024]
def k0_off14 (i : grid0.Coords) : Fin 3 → Nat :=
  let arg0 : BitVec 32 := BitVec.ofNat 32 (i 0).val
  let c12_i32_61 : BitVec 32 := 12#32
  let v112 : BitVec 32 := Scalar.subi arg0 c12_i32_61
  let v113 : Index := Scalar.indexCast v112
  let c0_62 : Index := 0#32
  let c1152 : Index := 1152#32
  ![v113.toNat, 0, 1152]
def k0_off15 (i : grid0.Coords) : Fin 3 → Nat :=
  let arg0 : BitVec 32 := BitVec.ofNat 32 (i 0).val
  let c12_i32_67 : BitVec 32 := 12#32
  let v123 : BitVec 32 := Scalar.subi arg0 c12_i32_67
  let v124 : Index := Scalar.indexCast v123
  let c0_68 : Index := 0#32
  let c1280 : Index := 1280#32
  ![v124.toNat, 0, 1280]
def k0_off16 (i : grid0.Coords) : Fin 3 → Nat :=
  let arg0 : BitVec 32 := BitVec.ofNat 32 (i 0).val
  let c12_i32_73 : BitVec 32 := 12#32
  let v134 : BitVec 32 := Scalar.subi arg0 c12_i32_73
  let v135 : Index := Scalar.indexCast v134
  let c0_74 : Index := 0#32
  let c1408 : Index := 1408#32
  ![v135.toNat, 0, 1408]
def k0_off17 (i : grid0.Coords) : Fin 3 → Nat :=
  let arg0 : BitVec 32 := BitVec.ofNat 32 (i 0).val
  let c12_i32_79 : BitVec 32 := 12#32
  let v145 : BitVec 32 := Scalar.subi arg0 c12_i32_79
  let v146 : Index := Scalar.indexCast v145
  let c0_80 : Index := 0#32
  let c1536 : Index := 1536#32
  ![v146.toNat, 0, 1536]
def k0_off18 (i : grid0.Coords) : Fin 3 → Nat :=
  let arg0 : BitVec 32 := BitVec.ofNat 32 (i 0).val
  let c12_i32_85 : BitVec 32 := 12#32
  let v156 : BitVec 32 := Scalar.subi arg0 c12_i32_85
  let v157 : Index := Scalar.indexCast v156
  let c0_86 : Index := 0#32
  let c1664 : Index := 1664#32
  ![v157.toNat, 0, 1664]
def k0_off19 (i : grid0.Coords) : Fin 3 → Nat :=
  let arg0 : BitVec 32 := BitVec.ofNat 32 (i 0).val
  let c12_i32_91 : BitVec 32 := 12#32
  let v167 : BitVec 32 := Scalar.subi arg0 c12_i32_91
  let v168 : Index := Scalar.indexCast v167
  let c0_92 : Index := 0#32
  let c1792 : Index := 1792#32
  ![v168.toNat, 0, 1792]
def k0_off20 (i : grid0.Coords) : Fin 3 → Nat :=
  let arg0 : BitVec 32 := BitVec.ofNat 32 (i 0).val
  let c12_i32_97 : BitVec 32 := 12#32
  let v178 : BitVec 32 := Scalar.subi arg0 c12_i32_97
  let v179 : Index := Scalar.indexCast v178
  let c0_98 : Index := 0#32
  let c1920 : Index := 1920#32
  ![v179.toNat, 0, 1920]
def k0_cond3 (i : grid0.Coords) : BitVec 1 :=
  let arg0 : BitVec 32 := BitVec.ofNat 32 (i 0).val
  let c12_i32_2 : BitVec 32 := 12#32
  let v6 : BitVec 1 := Scalar.cmpi .eq arg0 c12_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c12_i32 : BitVec 32 := 12#32
  let v0 : BitVec 32 := Scalar.subi arg0 c12_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2x128x1024 : Shape := ⟨3, ![2, 128, 1024]⟩
abbrev S512x24576 : Shape := ⟨2, ![512, 24576]⟩
abbrev S16x24576 : Shape := ⟨2, ![16, 24576]⟩
abbrev S1024x16 : Shape := ⟨2, ![1024, 16]⟩
abbrev S_ : Shape := ⟨0, ![]⟩
abbrev S16x32x24576 : Shape := ⟨3, ![16, 32, 24576]⟩
abbrev S2x128x512 : Shape := ⟨3, ![2, 128, 512]⟩
abbrev S2x128x24576 : Shape := ⟨3, ![2, 128, 24576]⟩
abbrev S2x128x16 : Shape := ⟨3, ![2, 128, 16]⟩
abbrev S2x128 : Shape := ⟨2, ![2, 128]⟩
abbrev S254 : Shape := ⟨1, ![254]⟩
abbrev S2x128x1 : Shape := ⟨3, ![2, 128, 1]⟩
abbrev S1x1x254 : Shape := ⟨3, ![1, 1, 254]⟩
abbrev S2x128x254 : Shape := ⟨3, ![2, 128, 254]⟩
abbrev S256x24576 : Shape := ⟨2, ![256, 24576]⟩

abbrev nBuf : Space → Nat
  | .hbm => 223
  | .vmem => 2
  | .smem => 0
  | _ => 0

abbrev hbmTy0_0 (i : Nat) : BufTy := match i % 128 with
  | 0 => ⟨S2x128x1024, .bf16⟩
  | 1 => ⟨S512x24576, .i8⟩
  | 2 => ⟨S16x24576, .f32⟩
  | 3 => ⟨S1024x16, .bf16⟩
  | 4 => ⟨S16x24576, .bf16⟩
  | 5 => ⟨S512x24576, .i32⟩
  | 6 => ⟨S_, .i32⟩
  | 7 => ⟨S512x24576, .i32⟩
  | 8 => ⟨S512x24576, .i32⟩
  | 9 => ⟨S_, .i32⟩
  | 10 => ⟨S512x24576, .i32⟩
  | 11 => ⟨S512x24576, .i32⟩
  | 12 => ⟨S16x24576, .bf16⟩
  | 13 => ⟨S16x32x24576, .bf16⟩
  | 14 => ⟨S512x24576, .bf16⟩
  | 15 => ⟨S_, .i32⟩
  | 16 => ⟨S512x24576, .i32⟩
  | 17 => ⟨S512x24576, .i32⟩
  | 18 => ⟨S_, .i32⟩
  | 19 => ⟨S512x24576, .i32⟩
  | 20 => ⟨S512x24576, .i1⟩
  | 21 => ⟨S_, .i32⟩
  | 22 => ⟨S512x24576, .i32⟩
  | 23 => ⟨S512x24576, .i32⟩
  | 24 => ⟨S_, .i32⟩
  | 25 => ⟨S512x24576, .i32⟩
  | 26 => ⟨S512x24576, .i1⟩
  | 27 => ⟨S_, .i32⟩
  | 28 => ⟨S512x24576, .i32⟩
  | 29 => ⟨S512x24576, .i32⟩
  | 30 => ⟨S_, .i32⟩
  | 31 => ⟨S512x24576, .i32⟩
  | 32 => ⟨S512x24576, .i1⟩
  | 33 => ⟨S_, .i32⟩
  | 34 => ⟨S512x24576, .i32⟩
  | 35 => ⟨S512x24576, .i32⟩
  | 36 => ⟨S_, .i32⟩
  | 37 => ⟨S512x24576, .i32⟩
  | 38 => ⟨S512x24576, .i1⟩
  | 39 => ⟨S_, .f32⟩
  | 40 => ⟨S_, .f32⟩
  | 41 => ⟨S512x24576, .f32⟩
  | 42 => ⟨S512x24576, .f32⟩
  | 43 => ⟨S512x24576, .f32⟩
  | 44 => ⟨S_, .f32⟩
  | 45 => ⟨S_, .f32⟩
  | 46 => ⟨S512x24576, .f32⟩
  | 47 => ⟨S512x24576, .f32⟩
  | 48 => ⟨S512x24576, .f32⟩
  | 49 => ⟨S512x24576, .f32⟩
  | 50 => ⟨S_, .f32⟩
  | 51 => ⟨S_, .f32⟩
  | 52 => ⟨S512x24576, .f32⟩
  | 53 => ⟨S512x24576, .f32⟩
  | 54 => ⟨S512x24576, .f32⟩
  | 55 => ⟨S_, .f32⟩
  | 56 => ⟨S_, .f32⟩
  | 57 => ⟨S512x24576, .f32⟩
  | 58 => ⟨S512x24576, .f32⟩
  | 59 => ⟨S512x24576, .f32⟩
  | 60 => ⟨S512x24576, .f32⟩
  | 61 => ⟨S512x24576, .f32⟩
  | 62 => ⟨S_, .f32⟩
  | 63 => ⟨S_, .f32⟩
  | 64 => ⟨S512x24576, .f32⟩
  | 65 => ⟨S512x24576, .f32⟩
  | 66 => ⟨S512x24576, .f32⟩
  | 67 => ⟨S_, .f32⟩
  | 68 => ⟨S_, .f32⟩
  | 69 => ⟨S512x24576, .f32⟩
  | 70 => ⟨S512x24576, .f32⟩
  | 71 => ⟨S512x24576, .f32⟩
  | 72 => ⟨S512x24576, .f32⟩
  | 73 => ⟨S_, .f32⟩
  | 74 => ⟨S_, .f32⟩
  | 75 => ⟨S512x24576, .f32⟩
  | 76 => ⟨S512x24576, .f32⟩
  | 77 => ⟨S512x24576, .f32⟩
  | 78 => ⟨S_, .f32⟩
  | 79 => ⟨S_, .f32⟩
  | 80 => ⟨S512x24576, .f32⟩
  | 81 => ⟨S512x24576, .f32⟩
  | 82 => ⟨S512x24576, .f32⟩
  | 83 => ⟨S512x24576, .f32⟩
  | 84 => ⟨S512x24576, .f32⟩
  | 85 => ⟨S512x24576, .f32⟩
  | 86 => ⟨S512x24576, .bf16⟩
  | 87 => ⟨S512x24576, .bf16⟩
  | 88 => ⟨S_, .i32⟩
  | 89 => ⟨S512x24576, .i32⟩
  | 90 => ⟨S512x24576, .i32⟩
  | 91 => ⟨S_, .i32⟩
  | 92 => ⟨S512x24576, .i32⟩
  | 93 => ⟨S512x24576, .i1⟩
  | 94 => ⟨S_, .i32⟩
  | 95 => ⟨S512x24576, .i32⟩
  | 96 => ⟨S512x24576, .i32⟩
  | 97 => ⟨S_, .i32⟩
  | 98 => ⟨S512x24576, .i32⟩
  | 99 => ⟨S512x24576, .i1⟩
  | 100 => ⟨S_, .i32⟩
  | 101 => ⟨S512x24576, .i32⟩
  | 102 => ⟨S512x24576, .i32⟩
  | 103 => ⟨S_, .i32⟩
  | 104 => ⟨S512x24576, .i32⟩
  | 105 => ⟨S512x24576, .i1⟩
  | 106 => ⟨S_, .i32⟩
  | 107 => ⟨S512x24576, .i32⟩
  | 108 => ⟨S512x24576, .i32⟩
  | 109 => ⟨S_, .i32⟩
  | 110 => ⟨S512x24576, .i32⟩
  | 111 => ⟨S512x24576, .i1⟩
  | 112 => ⟨S_, .f32⟩
  | 113 => ⟨S_, .f32⟩
  | 114 => ⟨S512x24576, .f32⟩
  | 115 => ⟨S512x24576, .f32⟩
  | 116 => ⟨S512x24576, .f32⟩
  | 117 => ⟨S_, .f32⟩
  | 118 => ⟨S_, .f32⟩
  | 119 => ⟨S512x24576, .f32⟩
  | 120 => ⟨S512x24576, .f32⟩
  | 121 => ⟨S512x24576, .f32⟩
  | 122 => ⟨S512x24576, .f32⟩
  | 123 => ⟨S_, .f32⟩
  | 124 => ⟨S_, .f32⟩
  | 125 => ⟨S512x24576, .f32⟩
  | 126 => ⟨S512x24576, .f32⟩
  | 127 => ⟨S512x24576, .f32⟩
  | _ => ⟨S2x128x1024, .bf16⟩

abbrev hbmTy0_1 (i : Nat) : BufTy := match i % 128 with
  | 0 => ⟨S_, .f32⟩
  | 1 => ⟨S_, .f32⟩
  | 2 => ⟨S512x24576, .f32⟩
  | 3 => ⟨S512x24576, .f32⟩
  | 4 => ⟨S512x24576, .f32⟩
  | 5 => ⟨S512x24576, .f32⟩
  | 6 => ⟨S512x24576, .f32⟩
  | 7 => ⟨S_, .f32⟩
  | 8 => ⟨S_, .f32⟩
  | 9 => ⟨S512x24576, .f32⟩
  | 10 => ⟨S512x24576, .f32⟩
  | 11 => ⟨S512x24576, .f32⟩
  | 12 => ⟨S_, .f32⟩
  | 13 => ⟨S_, .f32⟩
  | 14 => ⟨S512x24576, .f32⟩
  | 15 => ⟨S512x24576, .f32⟩
  | 16 => ⟨S512x24576, .f32⟩
  | 17 => ⟨S512x24576, .f32⟩
  | 18 => ⟨S_, .f32⟩
  | 19 => ⟨S_, .f32⟩
  | 20 => ⟨S512x24576, .f32⟩
  | 21 => ⟨S512x24576, .f32⟩
  | 22 => ⟨S512x24576, .f32⟩
  | 23 => ⟨S_, .f32⟩
  | 24 => ⟨S_, .f32⟩
  | 25 => ⟨S512x24576, .f32⟩
  | 26 => ⟨S512x24576, .f32⟩
  | 27 => ⟨S512x24576, .f32⟩
  | 28 => ⟨S512x24576, .f32⟩
  | 29 => ⟨S512x24576, .f32⟩
  | 30 => ⟨S512x24576, .f32⟩
  | 31 => ⟨S512x24576, .bf16⟩
  | 32 => ⟨S512x24576, .bf16⟩
  | 33 => ⟨S2x128x512, .bf16⟩
  | 34 => ⟨S2x128x24576, .f32⟩
  | 35 => ⟨S2x128x512, .bf16⟩
  | 36 => ⟨S2x128x24576, .f32⟩
  | 37 => ⟨S2x128x24576, .f32⟩
  | 38 => ⟨S2x128x16, .f32⟩
  | 39 => ⟨S2x128x16, .bf16⟩
  | 40 => ⟨S2x128x24576, .f32⟩
  | 41 => ⟨S_, .f32⟩
  | 42 => ⟨S2x128x24576, .f32⟩
  | 43 => ⟨S2x128x24576, .f32⟩
  | 44 => ⟨S2x128x24576, .f32⟩
  | 45 => ⟨S2x128x24576, .f32⟩
  | 46 => ⟨S_, .f32⟩
  | 47 => ⟨S2x128, .f32⟩
  | 48 => ⟨S_, .f32⟩
  | 49 => ⟨S2x128, .f32⟩
  | 50 => ⟨S2x128, .f32⟩
  | 51 => ⟨S254, .f32⟩
  | 52 => ⟨S_, .f32⟩
  | 53 => ⟨S254, .f32⟩
  | 54 => ⟨S254, .f32⟩
  | 55 => ⟨S_, .f32⟩
  | 56 => ⟨S254, .f32⟩
  | 57 => ⟨S254, .f32⟩
  | 58 => ⟨S2x128x1, .f32⟩
  | 59 => ⟨S1x1x254, .f32⟩
  | 60 => ⟨S2x128x254, .f32⟩
  | 61 => ⟨S2x128x254, .f32⟩
  | 62 => ⟨S2x128x254, .i1⟩
  | 63 => ⟨S_, .f32⟩
  | 64 => ⟨S_, .f32⟩
  | 65 => ⟨S2x128x254, .f32⟩
  | 66 => ⟨S2x128x254, .f32⟩
  | 67 => ⟨S2x128x254, .f32⟩
  | 68 => ⟨S_, .f32⟩
  | 69 => ⟨S2x128, .f32⟩
  | 70 => ⟨S_, .f32⟩
  | 71 => ⟨S2x128, .f32⟩
  | 72 => ⟨S2x128, .i1⟩
  | 73 => ⟨S_, .f32⟩
  | 74 => ⟨S_, .f32⟩
  | 75 => ⟨S2x128, .f32⟩
  | 76 => ⟨S2x128, .f32⟩
  | 77 => ⟨S_, .f32⟩
  | 78 => ⟨S2x128, .f32⟩
  | 79 => ⟨S2x128, .f32⟩
  | 80 => ⟨S2x128x1, .f32⟩
  | 81 => ⟨S2x128x24576, .f32⟩
  | 82 => ⟨S2x128x24576, .f32⟩
  | 83 => ⟨S_, .f32⟩
  | 84 => ⟨S_, .f32⟩
  | 85 => ⟨S_, .f32⟩
  | 86 => ⟨S2x128x24576, .f32⟩
  | 87 => ⟨S2x128x24576, .f32⟩
  | 88 => ⟨S_, .f32⟩
  | 89 => ⟨S2x128x24576, .f32⟩
  | 90 => ⟨S2x128x24576, .f32⟩
  | 91 => ⟨S2x128x24576, .fp8e4m3⟩
  | 92 => ⟨S2x128x24576, .bf16⟩
  | 93 => ⟨S256x24576, .bf16⟩
  | 94 => ⟨S256x24576, .fp8e4m3⟩
  | _ => ⟨S2x128x1024, .bf16⟩

abbrev hbmTy (i : Nat) : BufTy := match i / 128 with
  | 0 => hbmTy0_0 i
  | 1 => hbmTy0_1 i
  | _ => ⟨S2x128x1024, .bf16⟩

abbrev bufTy : (tb : Table) → Fin (tcTables nBuf tb) → BufTy
  | .hbm, ⟨i, _⟩ => hbmTy i
  | .local _ .vmem, ⟨0, _⟩ => ⟨S2x128x24576, .f32⟩
  | .local _ .vmem, ⟨1, _⟩ => ⟨S2x128x24576, .fp8e4m3⟩
  | _, _ => ⟨S2x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_c_5 : Ref sig .tc := ⟨.hbm, 27, rfl⟩
abbrev main_v16 : Ref sig .tc := ⟨.hbm, 28, rfl⟩
abbrev main_v17 : Ref sig .tc := ⟨.hbm, 29, rfl⟩
abbrev main_c_6 : Ref sig .tc := ⟨.hbm, 30, rfl⟩
abbrev main_v18 : Ref sig .tc := ⟨.hbm, 31, rfl⟩
abbrev main_v19 : Ref sig .tc := ⟨.hbm, 32, rfl⟩
abbrev main_c_7 : Ref sig .tc := ⟨.hbm, 33, rfl⟩
abbrev main_v20 : Ref sig .tc := ⟨.hbm, 34, rfl⟩
abbrev main_v21 : Ref sig .tc := ⟨.hbm, 35, rfl⟩
abbrev main_c_8 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_cst_9 : Ref sig .tc := ⟨.hbm, 40, rfl⟩
abbrev main_call0_v0 : Ref sig .tc := ⟨.hbm, 41, rfl⟩
abbrev main_call0_v1 : Ref sig .tc := ⟨.hbm, 42, rfl⟩
abbrev main_v24 : Ref sig .tc := ⟨.hbm, 43, rfl⟩
abbrev main_cst_10 : Ref sig .tc := ⟨.hbm, 44, rfl⟩
abbrev main_cst_11 : Ref sig .tc := ⟨.hbm, 45, rfl⟩
abbrev main_call1_v0 : Ref sig .tc := ⟨.hbm, 46, rfl⟩
abbrev main_call1_v1 : Ref sig .tc := ⟨.hbm, 47, rfl⟩
abbrev main_v25 : Ref sig .tc := ⟨.hbm, 48, rfl⟩
abbrev main_v26 : Ref sig .tc := ⟨.hbm, 49, rfl⟩
abbrev main_cst_12 : Ref sig .tc := ⟨.hbm, 50, rfl⟩
abbrev main_cst_13 : Ref sig .tc := ⟨.hbm, 51, rfl⟩
abbrev main_call3_v0 : Ref sig .tc := ⟨.hbm, 52, rfl⟩
abbrev main_call3_v1 : Ref sig .tc := ⟨.hbm, 53, rfl⟩
abbrev main_v27 : Ref sig .tc := ⟨.hbm, 54, rfl⟩
abbrev main_cst_14 : Ref sig .tc := ⟨.hbm, 55, rfl⟩
abbrev main_cst_15 : Ref sig .tc := ⟨.hbm, 56, rfl⟩
abbrev main_call4_v0 : Ref sig .tc := ⟨.hbm, 57, rfl⟩
abbrev main_call4_v1 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_16 : Ref sig .tc := ⟨.hbm, 62, rfl⟩
abbrev main_cst_17 : Ref sig .tc := ⟨.hbm, 63, rfl⟩
abbrev main_call7_v0 : Ref sig .tc := ⟨.hbm, 64, rfl⟩
abbrev main_call7_v1 : Ref sig .tc := ⟨.hbm, 65, rfl⟩
abbrev main_v31 : Ref sig .tc := ⟨.hbm, 66, rfl⟩
abbrev main_cst_18 : Ref sig .tc := ⟨.hbm, 67, rfl⟩
abbrev main_cst_19 : Ref sig .tc := ⟨.hbm, 68, rfl⟩
abbrev main_call8_v0 : Ref sig .tc := ⟨.hbm, 69, rfl⟩
abbrev main_call8_v1 : Ref sig .tc := ⟨.hbm, 70, rfl⟩
abbrev main_v32 : Ref sig .tc := ⟨.hbm, 71, rfl⟩
abbrev main_v33 : Ref sig .tc := ⟨.hbm, 72, rfl⟩
abbrev main_cst_20 : Ref sig .tc := ⟨.hbm, 73, rfl⟩
abbrev main_cst_21 : Ref sig .tc := ⟨.hbm, 74, rfl⟩
abbrev main_call10_v0 : Ref sig .tc := ⟨.hbm, 75, rfl⟩
abbrev main_call10_v1 : Ref sig .tc := ⟨.hbm, 76, rfl⟩
abbrev main_v34 : Ref sig .tc := ⟨.hbm, 77, rfl⟩
abbrev main_cst_22 : Ref sig .tc := ⟨.hbm, 78, rfl⟩
abbrev main_cst_23 : Ref sig .tc := ⟨.hbm, 79, rfl⟩
abbrev main_call11_v0 : Ref sig .tc := ⟨.hbm, 80, rfl⟩
abbrev main_call11_v1 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_c_24 : Ref sig .tc := ⟨.hbm, 88, rfl⟩
abbrev main_v41 : Ref sig .tc := ⟨.hbm, 89, rfl⟩
abbrev main_v42 : Ref sig .tc := ⟨.hbm, 90, rfl⟩
abbrev main_c_25 : Ref sig .tc := ⟨.hbm, 91, rfl⟩
abbrev main_v43 : Ref sig .tc := ⟨.hbm, 92, rfl⟩
abbrev main_v44 : Ref sig .tc := ⟨.hbm, 93, rfl⟩
abbrev main_c_26 : Ref sig .tc := ⟨.hbm, 94, rfl⟩
abbrev main_v45 : Ref sig .tc := ⟨.hbm, 95, rfl⟩
abbrev main_v46 : Ref sig .tc := ⟨.hbm, 96, rfl⟩
abbrev main_c_27 : Ref sig .tc := ⟨.hbm, 97, rfl⟩
abbrev main_v47 : Ref sig .tc := ⟨.hbm, 98, rfl⟩
abbrev main_v48 : Ref sig .tc := ⟨.hbm, 99, rfl⟩
abbrev main_c_28 : Ref sig .tc := ⟨.hbm, 100, rfl⟩
abbrev main_v49 : Ref sig .tc := ⟨.hbm, 101, rfl⟩
abbrev main_v50 : Ref sig .tc := ⟨.hbm, 102, rfl⟩
abbrev main_c_29 : Ref sig .tc := ⟨.hbm, 103, rfl⟩
abbrev main_v51 : Ref sig .tc := ⟨.hbm, 104, rfl⟩
abbrev main_v52 : Ref sig .tc := ⟨.hbm, 105, rfl⟩
abbrev main_c_30 : Ref sig .tc := ⟨.hbm, 106, rfl⟩
abbrev main_v53 : Ref sig .tc := ⟨.hbm, 107, rfl⟩
abbrev main_v54 : Ref sig .tc := ⟨.hbm, 108, rfl⟩
abbrev main_c_31 : Ref sig .tc := ⟨.hbm, 109, rfl⟩
abbrev main_v55 : Ref sig .tc := ⟨.hbm, 110, rfl⟩
abbrev main_v56 : Ref sig .tc := ⟨.hbm, 111, rfl⟩
abbrev main_cst_32 : Ref sig .tc := ⟨.hbm, 112, rfl⟩
abbrev main_cst_33 : Ref sig .tc := ⟨.hbm, 113, rfl⟩
abbrev main_call15_v0 : Ref sig .tc := ⟨.hbm, 114, rfl⟩
abbrev main_call15_v1 : Ref sig .tc := ⟨.hbm, 115, rfl⟩
abbrev main_v57 : Ref sig .tc := ⟨.hbm, 116, rfl⟩
abbrev main_cst_34 : Ref sig .tc := ⟨.hbm, 117, rfl⟩
abbrev main_cst_35 : Ref sig .tc := ⟨.hbm, 118, rfl⟩
abbrev main_call16_v0 : Ref sig .tc := ⟨.hbm, 119, rfl⟩
abbrev main_call16_v1 : Ref sig .tc := ⟨.hbm, 120, rfl⟩
abbrev main_v58 : Ref sig .tc := ⟨.hbm, 121, rfl⟩
abbrev main_v59 : Ref sig .tc := ⟨.hbm, 122, rfl⟩
abbrev main_cst_36 : Ref sig .tc := ⟨.hbm, 123, rfl⟩
abbrev main_cst_37 : Ref sig .tc := ⟨.hbm, 124, rfl⟩
abbrev main_call18_v0 : Ref sig .tc := ⟨.hbm, 125, rfl⟩
abbrev main_call18_v1 : Ref sig .tc := ⟨.hbm, 126, rfl⟩
abbrev main_v60 : Ref sig .tc := ⟨.hbm, 127, rfl⟩
abbrev main_cst_38 : Ref sig .tc := ⟨.hbm, 128, rfl⟩
abbrev main_cst_39 : Ref sig .tc := ⟨.hbm, 129, rfl⟩
abbrev main_call19_v0 : Ref sig .tc := ⟨.hbm, 130, rfl⟩
abbrev main_call19_v1 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_cst_40 : Ref sig .tc := ⟨.hbm, 135, rfl⟩
abbrev main_cst_41 : Ref sig .tc := ⟨.hbm, 136, rfl⟩
abbrev main_call22_v0 : Ref sig .tc := ⟨.hbm, 137, rfl⟩
abbrev main_call22_v1 : Ref sig .tc := ⟨.hbm, 138, rfl⟩
abbrev main_v64 : Ref sig .tc := ⟨.hbm, 139, rfl⟩
abbrev main_cst_42 : Ref sig .tc := ⟨.hbm, 140, rfl⟩
abbrev main_cst_43 : Ref sig .tc := ⟨.hbm, 141, rfl⟩
abbrev main_call23_v0 : Ref sig .tc := ⟨.hbm, 142, rfl⟩
abbrev main_call23_v1 : Ref sig .tc := ⟨.hbm, 143, rfl⟩
abbrev main_v65 : Ref sig .tc := ⟨.hbm, 144, rfl⟩
abbrev main_v66 : Ref sig .tc := ⟨.hbm, 145, rfl⟩
abbrev main_cst_44 : Ref sig .tc := ⟨.hbm, 146, rfl⟩
abbrev main_cst_45 : Ref sig .tc := ⟨.hbm, 147, rfl⟩
abbrev main_call25_v0 : Ref sig .tc := ⟨.hbm, 148, rfl⟩
abbrev main_call25_v1 : Ref sig .tc := ⟨.hbm, 149, rfl⟩
abbrev main_v67 : Ref sig .tc := ⟨.hbm, 150, rfl⟩
abbrev main_cst_46 : Ref sig .tc := ⟨.hbm, 151, rfl⟩
abbrev main_cst_47 : Ref sig .tc := ⟨.hbm, 152, rfl⟩
abbrev main_call26_v0 : Ref sig .tc := ⟨.hbm, 153, rfl⟩
abbrev main_call26_v1 : Ref sig .tc := ⟨.hbm, 154, rfl⟩
abbrev main_v68 : Ref sig .tc := ⟨.hbm, 155, rfl⟩
abbrev main_v69 : Ref sig .tc := ⟨.hbm, 156, rfl⟩
abbrev main_v70 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev main_v76 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_cst_48 : Ref sig .tc := ⟨.hbm, 169, rfl⟩
abbrev main_v82 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_cst_49 : Ref sig .tc := ⟨.hbm, 174, rfl⟩
abbrev main_v86 : Ref sig .tc := ⟨.hbm, 175, rfl⟩
abbrev main_cst_50 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_cst_51 : Ref sig .tc := ⟨.hbm, 180, rfl⟩
abbrev main_v90 : Ref sig .tc := ⟨.hbm, 181, rfl⟩
abbrev main_v91 : Ref sig .tc := ⟨.hbm, 182, rfl⟩
abbrev main_cst_52 : Ref sig .tc := ⟨.hbm, 183, rfl⟩
abbrev main_v92 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩
abbrev main_cst_53 : Ref sig .tc := ⟨.hbm, 191, rfl⟩
abbrev main_call30_v0 : Ref sig .tc := ⟨.hbm, 192, rfl⟩
abbrev main_call30_v1 : Ref sig .tc := ⟨.hbm, 193, rfl⟩
abbrev main_call30_v2 : Ref sig .tc := ⟨.hbm, 194, rfl⟩
abbrev main_v99 : Ref sig .tc := ⟨.hbm, 195, rfl⟩
abbrev main_cst_54 : Ref sig .tc := ⟨.hbm, 196, rfl⟩
abbrev main_v100 : Ref sig .tc := ⟨.hbm, 197, rfl⟩
abbrev main_cst_55 : Ref sig .tc := ⟨.hbm, 198, rfl⟩
abbrev main_v101 : Ref sig .tc := ⟨.hbm, 199, rfl⟩
abbrev main_v102 : Ref sig .tc := ⟨.hbm, 200, rfl⟩
abbrev main_cst_56 : Ref sig .tc := ⟨.hbm, 201, rfl⟩
abbrev main_call31_v0 : Ref sig .tc := ⟨.hbm, 202, rfl⟩
abbrev main_call31_v1 : Ref sig .tc := ⟨.hbm, 203, rfl⟩
abbrev main_v103 : Ref sig .tc := ⟨.hbm, 204, rfl⟩
abbrev main_cst_57 : Ref sig .tc := ⟨.hbm, 205, rfl⟩
abbrev main_v104 : Ref sig .tc := ⟨.hbm, 206, rfl⟩
abbrev main_v105 : Ref sig .tc := ⟨.hbm, 207, rfl⟩
abbrev main_v106 : Ref sig .tc := ⟨.hbm, 208, rfl⟩
abbrev main_v107 : Ref sig .tc := ⟨.hbm, 209, rfl⟩
abbrev main_v108 : Ref sig .tc := ⟨.hbm, 210, rfl⟩
abbrev main_cst_58 : Ref sig .tc := ⟨.hbm, 211, rfl⟩
abbrev main_cst_59 : Ref sig .tc := ⟨.hbm, 212, rfl⟩
abbrev main_call32_v0 : Ref sig .tc := ⟨.hbm, 213, rfl⟩
abbrev main_call32_v1 : Ref sig .tc := ⟨.hbm, 214, rfl⟩
abbrev main_call32_v2 : Ref sig .tc := ⟨.hbm, 215, rfl⟩
abbrev main_call32_v3 : Ref sig .tc := ⟨.hbm, 216, rfl⟩
abbrev main_call32_v4 : Ref sig .tc := ⟨.hbm, 217, rfl⟩
abbrev main_v109 : Ref sig .tc := ⟨.hbm, 218, rfl⟩
abbrev main_v110 : Ref sig .tc := ⟨.hbm, 219, rfl⟩
abbrev main_v111 : Ref sig .tc := ⟨.hbm, 220, rfl⟩
abbrev main_v112 : Ref sig .tc := ⟨.hbm, 221, rfl⟩
abbrev main_v113 : Ref sig .tc := ⟨.hbm, 222, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x128x24576 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x24576 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Base.lean ====
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, e0]
    word_cmp
   : ∀ t : Fin grid0.N, cond0_0 (grid0.coords t) ↔ t.val % 24 = 0)

/-- The condition of the body's `scf.if` 1 (`k0_h2`), from the grid coordinates (the skeleton's scalar
    chain substituted). -/
abbrev cond0_1 (i : grid0.Coords) : Prop := k0_cond2 i = 1#1
/-- It holds at the points before point 12 — decided over the grid. -/
theorem hcond0_1 : ∀ t : Fin cfg0.N, cond0_1 (grid0.coords t) ↔ t.val < 12 :=
  (by decide +kernel : ∀ t : Fin grid0.N, cond0_1 (grid0.coords t) ↔ t.val < 12)

/-- The condition of the body's `scf.if` 2 (`k0_h3`), from the grid coordinates (the skeleton's scalar
    chain substituted). -/
abbrev cond0_2 (i : grid0.Coords) : Prop := k0_cond3 i = 1#1
/-- It holds at point 12 only — by arithmetic of the point. -/
theorem hcond0_2 : ∀ t : Fin cfg0.N, cond0_2 (grid0.coords t) ↔ t.val % 24 = 12 :=
  (fun t => by
    have ht : t.val < 24 := Nat.lt_of_lt_of_eq t.isLt N_0
    have e0 : (grid0.coords t 0).val = t.val / 1 % 24 := Pipeline.Grid.coords_val t 0 (by decide) rfl
    simp only [cond0_2, k0_cond3, e0]
    word_cmp
   : ∀ t : Fin grid0.N, cond0_2 (grid0.coords t) ↔ t.val % 24 = 12)

/-- The condition of the body's `scf.if` 3 (`k0_h4`), from the grid coordinates (the skeleton's scalar
    chain substituted). -/
abbrev cond0_3 (i : grid0.Coords) : Prop := k0_cond4 i = 1#1
/-- It holds at the points from point 12 on — decided over the grid. -/
theorem hcond0_3 : ∀ t : Fin cfg0.N, cond0_3 (grid0.coords t) ↔ 12 ≤ t.val :=
  (by decide +kernel : ∀ t : Fin grid0.N, cond0_3 (grid0.coords t) ↔ 12 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x16 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x2048 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S256x1024 .bf16 := Memref.whole cc0_scratch0
abbrev scM0_1 : Memref sig .tc .vmem S256x16 .bf16 := Memref.whole cc0_scratch1
abbrev scM0_2 : Memref sig .tc .vmem S4x1024x512 .bf16 := Memref.whole cc0_scratch2
abbrev scM0_3 : Memref sig .tc .vmem S12x256x2048 .f32 := Memref.whole cc0_scratch3
abbrev scM0_4 : Memref sig .tc .vmem S256x128 .f32 := Memref.whole cc0_scratch4
abbrev scM0_5 : Memref sig .tc .vmem S256x128 .f32 := Memref.whole cc0_scratch5
/-- The scratch `arg9` the kernel carries between points, as a view: what it holds is stated through it. -/
abbrev VS0_0 : View sig .tc .vmem S256x1024 .bf16 := scM0_0.view
/-- The scratch `arg10` the kernel carries between points, as a view: what it holds is stated through it. -/
abbrev VS0_1 : View sig .tc .vmem S256x16 .bf16 := scM0_1.view
/-- The scratch `arg13` the kernel carries between points, as a view: what it holds is stated through it. -/
abbrev VS0_4 : View sig .tc .vmem S256x128 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Gen

end
-- ==== Proof.Regions.lean ====
module

public import proofs.«01_k».proof.Proof.Base

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The kernel body as four conditional regions, run in order. -/

set_option maxRecDepth 65536 in
/-- The region run under condition 1. -/
noncomputable def reg1 (i : grid0.Coords) (k0_h1 : cond0_0 i) (arg1 : Memref sig .tc .vmem S256x1024 .bf16) (harg1 : arg1.IsWhole) (arg2 : Memref sig .tc .vmem S1024x16 .bf16) (harg2 : arg2.IsWhole) (arg3 : Memref sig .tc .vmem S512x2048 .i8) (harg3 : arg3.IsWhole) (arg4 : Memref sig .tc .vmem S16x2048 .f32) (harg4 : arg4.IsWhole) (arg5 : Memref sig .tc .vmem S16x2048 .bf16) (harg5 : arg5.IsWhole) (arg6 : Memref sig .tc .vmem S256x2048 .bf16) (harg6 : arg6.IsWhole) (arg7 : Memref sig .tc .vmem S256x2048 .fp8e4m3) (harg7 : arg7.IsWhole) (arg8 : Memref sig .tc .vmem S2x128 .f32) (harg8 : arg8.IsWhole) (arg9 : Memref sig .tc .vmem S256x1024 .bf16) (harg9 : arg9.IsWhole) (arg10 : Memref sig .tc .vmem S256x16 .bf16) (harg10 : arg10.IsWhole) (arg11 : Memref sig .tc .vmem S4x1024x512 .bf16) (harg11 : arg11.IsWhole) (arg12 : Memref sig .tc .vmem S12x256x2048 .f32) (harg12 : arg12.IsWhole) (arg13 : Memref sig .tc .vmem S256x128 .f32) (harg13 : arg13.IsWhole) (arg14 : Memref sig .tc .vmem S256x128 .f32) (harg14 : arg14.IsWhole) (kont : PUnit → Prog (TpuEff nD τ sig (Elt F) Λ₀ .tc) PUnit) :
    Prog (TpuEff nD τ sig (Elt F) Λ₀ .tc) PUnit := do
  let arg0 : BitVec 32 := BitVec.ofNat 32 (i 0).val
  let ⟨v13, v53, v55, c16_i32, c0_i32_18⟩ : Σ' (v13 : IVec S256x256 32) (v53 : IVec S256x256 32) (v55 : IVec S256x256 32) (c16_i32 : BitVec 32), BitVec 32 ← k0_part1 i arg1 harg1 arg2 harg2 arg3 harg3 arg4 harg4 arg5 harg5 arg6 harg6 arg7 harg7 arg8 harg8 arg9 harg9 arg10 harg10 arg11 harg11 arg12 harg12 arg13 harg13 arg14 harg14
  let ⟨v100, cst_30, v101⟩ : Σ' (v100 : IVec S256x256 1) (cst_30 : F .f32), FVec F S256x256 .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 v13 v53 v55 c16_i32 c0_i32_18
  let v134 : FVec F S256x1024 .bf16 ← k0_part3 i arg1 harg1 arg2 harg2 arg3 harg3 arg4 harg4 arg5 harg5 arg6 harg6 arg7 harg7 arg8 harg8 arg9 harg9 arg10 harg10 arg11 harg11 arg12 harg12 arg13 harg13 arg14 harg14 v100 cst_30 v101
  let v135 : Vec F S1024x16 .bf16 ← Prog.lift (.load arg2 (Rect.unit (s := S1024x16) ![0, 0] S1024x16.size inb_S1024x16_S1024x16_0_0).toLoadRect (View.loadsAt_vmem h_S1024x16))
  let v140 : Vec F S256x16 .bf16 ← Prog.lift (.load arg10 (Rect.unit (s := S256x16) ![0, 0] S256x16.size inb_S256x16_S256x16_0_0).toLoadRect (View.loadsAt_vmem h_S256x16))
  Prog.lift (.store arg10 (Rect.unit (s := S256x16) ![0, 0] S256x16.size inb_S256x16_S256x16_0_0) (k0_pay1 v134 v135) Finset.univ (View.stores_vmem h_S256x16 (harg10.storeExact_slice rfl _ packedbf16_S256x16_S256x16_0_0) (fun _ => rfl)) (.inl rfl))
  let v144 : Vec F S256x128 .f32 ← Prog.lift (.load arg13 (Rect.unit (s := S256x128) ![0, 0] S256x128.size inb_S256x128_S256x128_0_0).toLoadRect (View.loadsAt_vmem h_S256x128))
  Prog.lift (.store arg13 (Rect.unit (s := S256x128) ![0, 0] S256x128.size inb_S256x128_S256x128_0_0) (k0_pay2 (F := F)) Finset.univ (View.stores_vmem_bits_univ h_S256x128 rfl) (.inl rfl))
  kont ⟨⟩

set_option maxRecDepth 65536 in
/-- The region run under condition 2. -/
noncomputable def reg2 (i : grid0.Coords) (k0_h2 : k0_cond2 i = 1#1) (arg1 : Memref sig .tc .vmem S256x1024 .bf16) (harg1 : arg1.IsWhole) (arg2 : Memref sig .tc .vmem S1024x16 .bf16) (harg2 : arg2.IsWhole) (arg3 : Memref sig .tc .vmem S512x2048 .i8) (harg3 : arg3.IsWhole) (arg4 : Memref sig .tc .vmem S16x2048 .f32) (harg4 : arg4.IsWhole) (arg5 : Memref sig .tc .vmem S16x2048 .bf16) (harg5 : arg5.IsWhole) (arg6 : Memref sig .tc .vmem S256x2048 .bf16) (harg6 : arg6.IsWhole) (arg7 : Memref sig .tc .vmem S256x2048 .fp8e4m3) (harg7 : arg7.IsWhole) (arg8 : Memref sig .tc .vmem S2x128 .f32) (harg8 : arg8.IsWhole) (arg9 : Memref sig .tc .vmem S256x1024 .bf16) (harg9 : arg9.IsWhole) (arg10 : Memref sig .tc .vmem S256x16 .bf16) (harg10 : arg10.IsWhole) (arg11 : Memref sig .tc .vmem S4x1024x512 .bf16) (harg11 : arg11.IsWhole) (arg12 : Memref sig .tc .vmem S12x256x2048 .f32) (harg12 : arg12.IsWhole) (arg13 : Memref sig .tc .vmem S256x128 .f32) (harg13 : arg13.IsWhole) (arg14 : Memref sig .tc .vmem S256x128 .f32) (harg14 : arg14.IsWhole) (kont : PUnit → Prog (TpuEff nD τ sig (Elt F) Λ₀ .tc) PUnit) :
    Prog (TpuEff nD τ sig (Elt F) Λ₀ .tc) PUnit := do
  let arg0 : BitVec 32 := BitVec.ofNat 32 (i 0).val
  let ⟨v78, v79, v2209⟩ : Σ' (v78 : FVec F S16x128 .bf16) (v79 : Vec F S256x128 .f32), FVec F S16x128 .bf16 ← k0_part435 i arg1 harg1 arg2 harg2 arg3 harg3 arg4 harg4 arg5 harg5 arg6 harg6 arg7 harg7 arg8 harg8 arg9 harg9 arg10 harg10 arg11 harg11 arg12 harg12 arg13 harg13 arg14 harg14
  let ⟨v4009, v4380, v4382⟩ : Σ' (v4009 : FVec F S256x128 .f32) (v4380 : FVec F S16x128 .bf16), IVec S8x128 32 ← k0_part436 i arg1 harg1 arg2 harg2 arg3 harg3 arg4 harg4 arg5 harg5 arg6 harg6 arg7 harg7 arg8 harg8 arg9 harg9 arg10 harg10 arg11 harg11 arg12 harg12 arg13 harg13 arg14 harg14 arg0 k0_h2 v78 v79 v2209
  let ⟨v6576, v6578⟩ : Σ' (v6576 : FVec F S16x128 .bf16), IVec S8x128 32 ← k0_part437 i arg1 harg1 arg2 harg2 arg3 harg3 arg4 harg4 arg5 harg5 arg6 harg6 arg7 harg7 arg8 harg8 arg9 harg9 arg10 harg10 arg11 harg11 arg12 harg12 arg13 harg13 arg14 harg14 v78 v4380 v4382
  let ⟨v7939, v8798, v8800⟩ : Σ' (v7939 : FVec F S256x128 .f32) (v8798 : FVec F S16x128 .bf16), IVec S8x128 32 ← k0_part438 i arg1 harg1 arg2 harg2 arg3 harg3 arg4 harg4 arg5 harg5 arg6 harg6 arg7 harg7 arg8 harg8 arg9 harg9 arg10 harg10 arg11 harg11 arg12 harg12 arg13 harg13 arg14 harg14 arg0 k0_h2 v78 v4009 v6576 v6578
  let ⟨v10994, v10996⟩ : Σ' (v10994 : FVec F S16x128 .bf16), IVec S8x128 32 ← k0_part439 i arg1 harg1 arg2 harg2 arg3 harg3 arg4 harg4 arg5 harg5 arg6 harg6 arg7 harg7 arg8 harg8 arg9 harg9 arg10 harg10 arg11 harg11 arg12 harg12 arg13 harg13 arg14 harg14 v78 v8798 v8800
  let ⟨v11869, v13155, v13157, v13192⟩ : Σ' (v11869 : FVec F S256x128 .f32) (v13155 : FVec F S16x128 .bf16) (v13157 : IVec S8x128 32), FVec F S16x128 .bf16 ← k0_part440 i arg1 harg1 arg2 harg2 arg3 harg3 arg4 harg4 arg5 harg5 arg6 harg6 arg7 harg7 arg8 harg8 arg9 harg9 arg10 harg10 arg11 harg11 arg12 harg12 arg13 harg13 arg14 harg14 arg0 k0_h2 v78 v7939 v10994 v10996
  let ⟨v15351, v15353, v15388⟩ : Σ' (v15351 : FVec F S16x128 .bf16) (v15353 : IVec S8x128 32), FVec F S16x128 .bf16 ← k0_part441 i arg1 harg1 arg2 harg2 arg3 harg3 arg4 harg4 arg5 harg5 arg6 harg6 arg7 harg7 arg8 harg8 arg9 harg9 arg10 harg10 arg11 harg11 arg12 harg12 arg13 harg13 arg14 harg14 v78 v13155 v13157 v13192
  let ⟨v15412, v15414, v15421⟩ : Σ' (v15412 : FVec F S16x128 .bf16) (v15414 : IVec S8x128 32), FVec F S16x128 .bf16 ← k0_part424 i arg1 harg1 arg2 harg2 arg3 harg3 arg4 harg4 arg5 harg5 arg6 harg6 arg7 harg7 arg8 harg8 arg9 harg9 arg10 harg10 arg11 harg11 arg12 harg12 arg13 harg13 arg14 harg14 v78 v15351 v15353 v15388
  let v15463 : FVec F S16x128 .bf16 ← k0_part425 i arg1 harg1 arg2 harg2 arg3 harg3 arg4 harg4 arg5 harg5 arg6 harg6 arg7 harg7 arg8 harg8 arg9 harg9 arg10 harg10 arg11 harg11 arg12 harg12 arg13 harg13 arg14 harg14 v15412 v15414 v15421
  let ⟨v15473, v15475, v15496⟩ : Σ' (v15473 : FVec F S16x128 .bf16) (v15475 : IVec S8x128 32), FVec F S16x128 .bf16 ← k0_part426 i arg1 harg1 arg2 harg2 arg3 harg3 arg4 harg4 arg5 harg5 arg6 harg6 arg7 harg7 arg8 harg8 arg9 harg9 arg10 harg10 arg11 harg11 arg12 harg12 arg13 harg13 arg14 harg14 v78 v15463
  let v15534 : FVec F S16x128 .bf16 ← k0_part427 i arg1 harg1 arg2 harg2 arg3 harg3 arg4 harg4 arg5 harg5 arg6 harg6 arg7 harg7 arg8 harg8 arg9 harg9 arg10 harg10 arg11 harg11 arg12 harg12 arg13 harg13 arg14 harg14 v78 v15473 v15475 v15496
  let ⟨v15536, v15571⟩ : Σ' (v15536 : IVec S8x128 32), FVec F S16x128 .bf16 ← k0_part428 i arg1 harg1 arg2 harg2 arg3 harg3 arg4 harg4 arg5 harg5 arg6 harg6 arg7 harg7 arg8 harg8 arg9 harg9 arg10 harg10 arg11 harg11 arg12 harg12 arg13 harg13 arg14 harg14 v15534
  let ⟨v15595, v15597, v15604⟩ : Σ' (v15595 : FVec F S16x128 .bf16) (v15597 : IVec S8x128 32), FVec F S16x128 .bf16 ← k0_part429 i arg1 harg1 arg2 harg2 arg3 harg3 arg4 harg4 arg5 harg5 arg6 harg6 arg7 harg7 arg8 harg8 arg9 harg9 arg10 harg10 arg11 harg11 arg12 harg12 arg13 harg13 arg14 harg14 v78 v15534 v15536 v15571
  let v15646 : FVec F S16x128 .bf16 ← k0_part430 i arg1 harg1 arg2 harg2 arg3 harg3 arg4 harg4 arg5 harg5 arg6 harg6 arg7 harg7 arg8 harg8 arg9 harg9 arg10 harg10 arg11 harg11 arg12 harg12 arg13 harg13 arg14 harg14 v15595 v15597 v15604
  let ⟨v15656, v15658, v15679⟩ : Σ' (v15656 : FVec F S16x128 .bf16) (v15658 : IVec S8x128 32), FVec F S16x128 .bf16 ← k0_part431 i arg1 harg1 arg2 harg2 arg3 harg3 arg4 harg4 arg5 harg5 arg6 harg6 arg7 harg7 arg8 harg8 arg9 harg9 arg10 harg10 arg11 harg11 arg12 harg12 arg13 harg13 arg14 harg14 v78 v15646
  let v15717 : FVec F S16x128 .bf16 ← k0_part432 i arg1 harg1 arg2 harg2 arg3 harg3 arg4 harg4 arg5 harg5 arg6 harg6 arg7 harg7 arg8 harg8 arg9 harg9 arg10 harg10 arg11 harg11 arg12 harg12 arg13 harg13 arg14 harg14 v78 v15656 v15658 v15679
  let ⟨v15719, v15754⟩ : Σ' (v15719 : IVec S8x128 32), FVec F S16x128 .bf16 ← k0_part433 i arg1 harg1 arg2 harg2 arg3 harg3 arg4 harg4 arg5 harg5 arg6 harg6 arg7 harg7 arg8 harg8 arg9 harg9 arg10 harg10 arg11 harg11 arg12 harg12 arg13 harg13 arg14 harg14 v15717
  let ⟨v15781, v15786⟩ : Σ' (v15781 : FVec F S256x512 .f32), FVec F S256x512 .bf16 ← k0_part434 i arg1 harg1 arg2 harg2 arg3 harg3 arg4 harg4 arg5 harg5 arg6 harg6 arg7 harg7 arg8 harg8 arg9 harg9 arg10 harg10 arg11 harg11 arg12 harg12 arg13 harg13 arg14 harg14 arg0 k0_h2 v15717 v15719 v15754
  let v15787 : Vec F S256x512 .bf16 ← Prog.lift (.load arg6 (Rect.unit (s := S256x2048) ![0, 1536] S256x512.size inb_S256x2048_S256x512_0_1536).toLoadRect (View.loadsAt_vmem h_S256x512))
  Prog.lift (.store arg6 (Rect.unit (s := S256x2048) ![0, 1536] S256x512.size inb_S256x2048_S256x512_0_1536) v15786 Finset.univ (View.stores_vmem h_S256x512 (harg6.storeExact_slice rfl _ packedbf16_S256x2048_S256x512_0_1536) (fun _ => rfl)) (.inl rfl))
  let v15800 : Vec F S256x128 .f32 ← Prog.lift (.load arg13 (Rect.unit (s := S256x128) ![0, 0] S256x128.size inb_S256x128_S256x128_0_0).toLoadRect (View.loadsAt_vmem h_S256x128))
  Prog.lift (.store arg13 (Rect.unit (s := S256x128) ![0, 0] S256x128.size inb_S256x128_S256x128_0_0) (k0_pay3 v11869 v15781) Finset.univ (View.stores_vmem_bits_univ h_S256x128 rfl) (.inl rfl))
  kont ⟨⟩

set_option maxRecDepth 65536 in
/-- The region run under condition 3. -/
noncomputable def reg3 (i : grid0.Coords) (k0_h3 : k0_cond3 i = 1#1) (arg1 : Memref sig .tc .vmem S256x1024 .bf16) (harg1 : arg1.IsWhole) (arg2 : Memref sig .tc .vmem S1024x16 .bf16) (harg2 : arg2.IsWhole) (arg3 : Memref sig .tc .vmem S512x2048 .i8) (harg3 : arg3.IsWhole) (arg4 : Memref sig .tc .vmem S16x2048 .f32) (harg4 : arg4.IsWhole) (arg5 : Memref sig .tc .vmem S16x2048 .bf16) (harg5 : arg5.IsWhole) (arg6 : Memref sig .tc .vmem S256x2048 .bf16) (harg6 : arg6.IsWhole) (arg7 : Memref sig .tc .vmem S256x2048 .fp8e4m3) (harg7 : arg7.IsWhole) (arg8 : Memref sig .tc .vmem S2x128 .f32) (harg8 : arg8.IsWhole) (arg9 : Memref sig .tc .vmem S256x1024 .bf16) (harg9 : arg9.IsWhole) (arg10 : Memref sig .tc .vmem S256x16 .bf16) (harg10 : arg10.IsWhole) (arg11 : Memref sig .tc .vmem S4x1024x512 .bf16) (harg11 : arg11.IsWhole) (arg12 : Memref sig .tc .vmem S12x256x2048 .f32) (harg12 : arg12.IsWhole) (arg13 : Memref sig .tc .vmem S256x128 .f32) (harg13 : arg13.IsWhole) (arg14 : Memref sig .tc .vmem S256x128 .f32) (harg14 : arg14.IsWhole) (kont : PUnit → Prog (TpuEff nD τ sig (Elt F) Λ₀ .tc) PUnit) :
    Prog (TpuEff nD τ sig (Elt F) Λ₀ .tc) PUnit := do
  let arg0 : BitVec 32 := BitVec.ofNat 32 (i 0).val
  let ⟨v18, v46, v52, v54⟩ : Σ' (v18 : FVec F S256x128 .f32) (v46 : IVec S256x128 32) (v52 : IVec S256x128 1), IVec S256x128 32 ← k0_part442 i arg1 harg1 arg2 harg2 arg3 harg3 arg4 harg4 arg5 harg5 arg6 harg6 arg7 harg7 arg8 harg8 arg9 harg9 arg10 harg10 arg11 harg11 arg12 harg12 arg13 harg13 arg14 harg14
  let ⟨v96, v98, c0_i32_25⟩ : Σ' (v96 : IVec S256x128 1) (v98 : IVec S256x128 32), BitVec 32 ← k0_part443 i arg1 harg1 arg2 harg2 arg3 harg3 arg4 harg4 arg5 harg5 arg6 harg6 arg7 harg7 arg8 harg8 arg9 harg9 arg10 harg10 arg11 harg11 arg12 harg12 arg13 harg13 arg14 harg14 v18 v46 v52 v54
  let v111 : Vec F S256x128 .f32 ← Prog.lift (.load arg14 (Rect.unit (s := S256x128) ![0, 0] S256x128.size inb_S256x128_S256x128_0_0).toLoadRect (View.loadsAt_vmem h_S256x128))
  Prog.lift (.store arg14 (Rect.unit (s := S256x128) ![0, 0] S256x128.size inb_S256x128_S256x128_0_0) (k0_pay6 (F := F) v96 v98 c0_i32_25) Finset.univ (View.stores_vmem_bits_univ h_S256x128 rfl) (.inl rfl))
  let v122 : Vec F S1x128 .f32 ← Prog.lift (.load arg8 (Rect.unit (s := S2x128) ![0, 0] S1x128.size inb_S2x128_S1x128_0_0).toLoadRect (View.loadsAt_vmem h_S1x128))
  Prog.lift (.store arg8 (Rect.unit (s := S2x128) ![0, 0] S1x128.size inb_S2x128_S1x128_0_0) (k0_pay8 (F := F) v96 v98 c0_i32_25) Finset.univ (View.stores_vmem_bits_univ h_S1x128 rfl) (.inl rfl))
  let v128 : Vec F S1x128 .f32 ← Prog.lift (.load arg8 (Rect.unit (s := S2x128) ![1, 0] S1x128.size inb_S2x128_S1x128_1_0).toLoadRect (View.loadsAt_vmem h_S1x128))
  Prog.lift (.store arg8 (Rect.unit (s := S2x128) ![1, 0] S1x128.size inb_S2x128_S1x128_1_0) (k0_pay9 (F := F) v96 v98 c0_i32_25) Finset.univ (View.stores_vmem_bits_univ h_S1x128 rfl) (.inl rfl))
  kont ⟨⟩

set_option maxRecDepth 65536 in
/-- The region run under condition 4. -/
noncomputable def reg4 (i : grid0.Coords) (k0_h4 : k0_cond4 i = 1#1) (arg1 : Memref sig .tc .vmem S256x1024 .bf16) (harg1 : arg1.IsWhole) (arg2 : Memref sig .tc .vmem S1024x16 .bf16) (harg2 : arg2.IsWhole) (arg3 : Memref sig .tc .vmem S512x2048 .i8) (harg3 : arg3.IsWhole) (arg4 : Memref sig .tc .vmem S16x2048 .f32) (harg4 : arg4.IsWhole) (arg5 : Memref sig .tc .vmem S16x2048 .bf16) (harg5 : arg5.IsWhole) (arg6 : Memref sig .tc .vmem S256x2048 .bf16) (harg6 : arg6.IsWhole) (arg7 : Memref sig .tc .vmem S256x2048 .fp8e4m3) (harg7 : arg7.IsWhole) (arg8 : Memref sig .tc .vmem S2x128 .f32) (harg8 : arg8.IsWhole) (arg9 : Memref sig .tc .vmem S256x1024 .bf16) (harg9 : arg9.IsWhole) (arg10 : Memref sig .tc .vmem S256x16 .bf16) (harg10 : arg10.IsWhole) (arg11 : Memref sig .tc .vmem S4x1024x512 .bf16) (harg11 : arg11.IsWhole) (arg12 : Memref sig .tc .vmem S12x256x2048 .f32) (harg12 : arg12.IsWhole) (arg13 : Memref sig .tc .vmem S256x128 .f32) (harg13 : arg13.IsWhole) (arg14 : Memref sig .tc .vmem S256x128 .f32) (harg14 : arg14.IsWhole) (kont : PUnit → Prog (TpuEff nD τ sig (Elt F) Λ₀ .tc) PUnit) :
    Prog (TpuEff nD τ sig (Elt F) Λ₀ .tc) PUnit := do
  let arg0 : BitVec 32 := BitVec.ofNat 32 (i 0).val
  let v12 : Vec F S256x128 .f32 ← k0_part444 i arg1 harg1 arg2 harg2 arg3 harg3 arg4 harg4 arg5 harg5 arg6 harg6 arg7 harg7 arg8 harg8 arg9 harg9 arg10 harg10 arg11 harg11 arg12 harg12 arg13 harg13 arg14 harg14 arg0 k0_h4
  k0_part445 i arg1 harg1 arg2 harg2 arg3 harg3 arg4 harg4 arg5 harg5 arg6 harg6 arg7 harg7 arg8 harg8 arg9 harg9 arg10 harg10 arg11 harg11 arg12 harg12 arg13 harg13 arg14 harg14 arg0 k0_h4 v12
  let v114 : Vec F S1x256x128 .f32 ← k0_part446 i arg1 harg1 arg2 harg2 arg3 harg3 arg4 harg4 arg5 harg5 arg6 harg6 arg7 harg7 arg8 harg8 arg9 harg9 arg10 harg10 arg11 harg11 arg12 harg12 arg13 harg13 arg14 harg14 arg0 k0_h4 v12
  let ⟨v149, cst_81⟩ : Σ' (v149 : FVec F S256x128 .f32), F .f32 ← k0_part447 i arg1 harg1 arg2 harg2 arg3 harg3 arg4 harg4 arg5 harg5 arg6 harg6 arg7 harg7 arg8 harg8 arg9 harg9 arg10 harg10 arg11 harg11 arg12 harg12 arg13 harg13 arg14 harg14 arg0 k0_h4 v12 v114
  let ⟨cst_100, v184⟩ : Σ' (cst_100 : F .f32), FVec F S256x128 .f32 ← k0_part448 i arg1 harg1 arg2 harg2 arg3 harg3 arg4 harg4 arg5 harg5 arg6 harg6 arg7 harg7 arg8 harg8 arg9 harg9 arg10 harg10 arg11 harg11 arg12 harg12 arg13 harg13 arg14 harg14 arg0 k0_h4 v12 v149 cst_81
  let v188 : Vec F S256x128 .fp8e4m3 ← Prog.lift (.load arg7 (Rect.unit (s := S256x2048) ![0, 1920] S256x128.size inb_S256x2048_S256x128_0_1920).toLoadRect (View.loadsAt_vmem h_S256x128))
  Prog.lift (.store arg7 (Rect.unit (s := S256x2048) ![0, 1920] S256x128.size inb_S256x2048_S256x128_0_1920) (k0_pay10 cst_100 v184) Finset.univ (View.stores_vmem h_S256x128 (harg7.storeExact_slice rfl _ packedfp8e4m3_S256x2048_S256x128_0_1920) (fun _ => rfl)) (.inl rfl))
  kont ⟨⟩

set_option maxRecDepth 65536 in
/-- The body is its regions in order. -/
theorem skel_eq_regions (i : grid0.Coords) (arg1 : Memref sig .tc .vmem S256x1024 .bf16) (harg1 : arg1.IsWhole) (arg2 : Memref sig .tc .vmem S1024x16 .bf16) (harg2 : arg2.IsWhole) (arg3 : Memref sig .tc .vmem S512x2048 .i8) (harg3 : arg3.IsWhole) (arg4 : Memref sig .tc .vmem S16x2048 .f32) (harg4 : arg4.IsWhole) (arg5 : Memref sig .tc .vmem S16x2048 .bf16) (harg5 : arg5.IsWhole) (arg6 : Memref sig .tc .vmem S256x2048 .bf16) (harg6 : arg6.IsWhole) (arg7 : Memref sig .tc .vmem S256x2048 .fp8e4m3) (harg7 : arg7.IsWhole) (arg8 : Memref sig .tc .vmem S2x128 .f32) (harg8 : arg8.IsWhole) (arg9 : Memref sig .tc .vmem S256x1024 .bf16) (harg9 : arg9.IsWhole) (arg10 : Memref sig .tc .vmem S256x16 .bf16) (harg10 : arg10.IsWhole) (arg11 : Memref sig .tc .vmem S4x1024x512 .bf16) (harg11 : arg11.IsWhole) (arg12 : Memref sig .tc .vmem S12x256x2048 .f32) (harg12 : arg12.IsWhole) (arg13 : Memref sig .tc .vmem S256x128 .f32) (harg13 : arg13.IsWhole) (arg14 : Memref sig .tc .vmem S256x128 .f32) (harg14 : arg14.IsWhole) :
    cc0_qlora_nf4_skel (F := F) i arg1 harg1 arg2 harg2 arg3 harg3 arg4 harg4 arg5 harg5 arg6 harg6 arg7 harg7 arg8 harg8 arg9 harg9 arg10 harg10 arg11 harg11 arg12 harg12 arg13 harg13 arg14 harg14 =
      (let k4 : PUnit → Prog (TpuEff nD τ sig (Elt F) Λ₀ .tc) PUnit := fun _ => pure ⟨⟩
       let k3 : PUnit → Prog (TpuEff nD τ sig (Elt F) Λ₀ .tc) PUnit := fun _ => if h : k0_cond4 i = 1#1 then reg4 i h arg1 harg1 arg2 harg2 arg3 harg3 arg4 harg4 arg5 harg5 arg6 harg6 arg7 harg7 arg8 harg8 arg9 harg9 arg10 harg10 arg11 harg11 arg12 harg12 arg13 harg13 arg14 harg14 k4 else k4 ⟨⟩
       let k2 : PUnit → Prog (TpuEff nD τ sig (Elt F) Λ₀ .tc) PUnit := fun _ => if h : k0_cond3 i = 1#1 then reg3 i h arg1 harg1 arg2 harg2 arg3 harg3 arg4 harg4 arg5 harg5 arg6 harg6 arg7 harg7 arg8 harg8 arg9 harg9 arg10 harg10 arg11 harg11 arg12 harg12 arg13 harg13 arg14 harg14 k3 else k3 ⟨⟩
       let k1 : PUnit → Prog (TpuEff nD τ sig (Elt F) Λ₀ .tc) PUnit := fun _ => if h : k0_cond2 i = 1#1 then reg2 i h arg1 harg1 arg2 harg2 arg3 harg3 arg4 harg4 arg5 harg5 arg6 harg6 arg7 harg7 arg8 harg8 arg9 harg9 arg10 harg10 arg11 harg11 arg12 harg12 arg13 harg13 arg14 harg14 k2 else k2 ⟨⟩
       if h : cond0_0 i then reg1 i h arg1 harg1 arg2 harg2 arg3 harg3 arg4 harg4 arg5 harg5 arg6 harg6 arg7 harg7 arg8 harg8 arg9 harg9 arg10 harg10 arg11 harg11 arg12 harg12 arg13 harg13 arg14 harg14 k1 else k1 ⟨⟩) := rfl

end Cert.KernelIdeal.Gen

end
-- ==== Proof.Run1.lean ====
module

public import proofs.«01_k».proof.Proof.Regions

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 26804000 in set_option sl_exec.squeezeSlice true in set_option sl_exec.resultNames true in
/-- What region 1 leaves in the buffers it stores into, with its run. -/
noncomputable def run1 (c : Dev nD) (i : grid0.Coords) (h : cond0_0 i) (arg1 : Memref sig .tc .vmem S256x1024 .bf16) (harg1 : arg1.IsWhole) (arg2 : Memref sig .tc .vmem S1024x16 .bf16) (harg2 : arg2.IsWhole) (arg3 : Memref sig .tc .vmem S512x2048 .i8) (harg3 : arg3.IsWhole) (arg4 : Memref sig .tc .vmem S16x2048 .f32) (harg4 : arg4.IsWhole) (arg5 : Memref sig .tc .vmem S16x2048 .bf16) (harg5 : arg5.IsWhole) (arg6 : Memref sig .tc .vmem S256x2048 .bf16) (harg6 : arg6.IsWhole) (arg7 : Memref sig .tc .vmem S256x2048 .fp8e4m3) (harg7 : arg7.IsWhole) (arg8 : Memref sig .tc .vmem S2x128 .f32) (harg8 : arg8.IsWhole) (arg9 : Memref sig .tc .vmem S256x1024 .bf16) (harg9 : arg9.IsWhole) (arg10 : Memref sig .tc .vmem S256x16 .bf16) (harg10 : arg10.IsWhole) (arg11 : Memref sig .tc .vmem S4x1024x512 .bf16) (harg11 : arg11.IsWhole) (arg12 : Memref sig .tc .vmem S12x256x2048 .f32) (harg12 : arg12.IsWhole) (arg13 : Memref sig .tc .vmem S256x128 .f32) (harg13 : arg13.IsWhole) (arg14 : Memref sig .tc .vmem S256x128 .f32) (harg14 : arg14.IsWhole)
    (x1 : Vec F S256x1024 .bf16) (x2 : Vec F S1024x16 .bf16)  :
    Σ' (L9 : List (View.Piece (Elt F) S256x1024 .bf16)), Σ' (L10 : List (View.Piece (Elt F) S256x16 .bf16)), { L13 : List (View.Piece (Elt F) S256x128 .f32) //
      ∀ (E : Set ℕ) (kont : PUnit → Prog (TpuEff nD τ sig (Elt F) Λ₀ .tc) PUnit) (K : PUnit → sProp 𝕄),
        iprop(owns (c : Thread nD τ) arg1 fullShare x1 ∗ owns (c : Thread nD τ) arg2 fullShare x2 ∗ (∃ d, owns (c : Thread nD τ) arg9 fullShare d) ∗ (∃ d, owns (c : Thread nD τ) arg10 fullShare d) ∗ (∃ d, owns (c : Thread nD τ) arg13 fullShare d)
            ∗ (iprop(owns (c : Thread nD τ) arg1 fullShare x1 ∗ owns (c : Thread nD τ) arg2 fullShare x2 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg13.view.loc (c : Thread nD τ) ↦[arg13.view.set]{fullShare} arg13.view.writes (Elt F) f L13)) -∗ wp frame (wpE (defs₀ (F := F)) Variants.none c none) E (kont ⟨⟩) K))
          ⊢ wp frame (wpE (defs₀ (F := F)) Variants.none c none) E (reg1 i h arg1 harg1 arg2 harg2 arg3 harg3 arg4 harg4 arg5 harg5 arg6 harg6 arg7 harg7 arg8 harg8 arg9 harg9 arg10 harg10 arg11 harg11 arg12 harg12 arg13 harg13 arg14 harg14 kont) K } := by
  refine ⟨?_, ?_, ?_, fun E kont K => ?run⟩
  case run =>
    unfold reg1
    simp only [k0_part1_eq_skeleton, k0_part2_eq_skeleton, k0_part3_eq_skeleton]
    unfold owns
    iintro ⟨⟨%f1, %hf1, H1⟩, ⟨%f2, %hf2, H2⟩, ⟨%d9, %f9, -, H9⟩, ⟨%d10, %f10, -, H10⟩, ⟨%d13, %f13, -, H13⟩, Hk⟩
    obtain rfl := harg1.eq_unread hf1; obtain rfl := harg2.eq_unread hf2
    sl_exec
    iapply Hk
    isplitl [H1]
    · iexists _; isplitr; · ipureintro; exact harg1.read_unread _
      iexact H1
    isplitl [H2]
    · iexists _; isplitr; · ipureintro; exact harg2.read_unread _
      iexact H2
    isplitl [H9]
    · iexists _; iexact H9
    isplitl [H10]
    · iexists _; iexact H10
    iexists _; iexact H13

end Cert.KernelIdeal.Gen

end
-- ==== Proof.Run2.lean ====
module

public import proofs.«01_k».proof.Proof.Regions

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 26804000 in set_option sl_exec.squeezeSlice true in set_option sl_exec.resultNames true in
/-- What region 2 leaves in the buffers it stores into, with its run. -/
noncomputable def run2 (c : Dev nD) (i : grid0.Coords) (h : k0_cond2 i = 1#1) (arg1 : Memref sig .tc .vmem S256x1024 .bf16) (harg1 : arg1.IsWhole) (arg2 : Memref sig .tc .vmem S1024x16 .bf16) (harg2 : arg2.IsWhole) (arg3 : Memref sig .tc .vmem S512x2048 .i8) (harg3 : arg3.IsWhole) (arg4 : Memref sig .tc .vmem S16x2048 .f32) (harg4 : arg4.IsWhole) (arg5 : Memref sig .tc .vmem S16x2048 .bf16) (harg5 : arg5.IsWhole) (arg6 : Memref sig .tc .vmem S256x2048 .bf16) (harg6 : arg6.IsWhole) (arg7 : Memref sig .tc .vmem S256x2048 .fp8e4m3) (harg7 : arg7.IsWhole) (arg8 : Memref sig .tc .vmem S2x128 .f32) (harg8 : arg8.IsWhole) (arg9 : Memref sig .tc .vmem S256x1024 .bf16) (harg9 : arg9.IsWhole) (arg10 : Memref sig .tc .vmem S256x16 .bf16) (harg10 : arg10.IsWhole) (arg11 : Memref sig .tc .vmem S4x1024x512 .bf16) (harg11 : arg11.IsWhole) (arg12 : Memref sig .tc .vmem S12x256x2048 .f32) (harg12 : arg12.IsWhole) (arg13 : Memref sig .tc .vmem S256x128 .f32) (harg13 : arg13.IsWhole) (arg14 : Memref sig .tc .vmem S256x128 .f32) (harg14 : arg14.IsWhole)
    (x3 : Vec F S512x2048 .i8) (x4 : Vec F S16x2048 .f32) (x5 : Vec F S16x2048 .bf16) (x9 : Vec F S256x1024 .bf16) (x10 : Vec F S256x16 .bf16) (d12 : Vec F S12x256x2048 .f32) (d13 : Vec F S256x128 .f32) :
    Σ' (L6 : List (View.Piece (Elt F) S256x2048 .bf16)), Σ' (L11 : List (View.Piece (Elt F) S4x1024x512 .bf16)), Σ' (L12 : List (View.Piece (Elt F) S12x256x2048 .f32)), { L13 : List (View.Piece (Elt F) S256x128 .f32) //
      ∀ (E : Set ℕ) (kont : PUnit → Prog (TpuEff nD τ sig (Elt F) Λ₀ .tc) PUnit) (K : PUnit → sProp 𝕄),
        iprop(owns (c : Thread nD τ) arg3 fullShare x3 ∗ owns (c : Thread nD τ) arg4 fullShare x4 ∗ owns (c : Thread nD τ) arg5 fullShare x5 ∗ owns (c : Thread nD τ) arg9 fullShare x9 ∗ owns (c : Thread nD τ) arg10 fullShare x10 ∗ (∃ d, owns (c : Thread nD τ) arg6 fullShare d) ∗ (∃ d, owns (c : Thread nD τ) arg11 fullShare d) ∗ owns (c : Thread nD τ) arg12 fullShare d12 ∗ owns (c : Thread nD τ) arg13 fullShare d13
            ∗ (iprop(owns (c : Thread nD τ) arg3 fullShare x3 ∗ owns (c : Thread nD τ) arg4 fullShare x4 ∗ owns (c : Thread nD τ) arg5 fullShare x5 ∗ owns (c : Thread nD τ) arg9 fullShare x9 ∗ owns (c : Thread nD τ) arg10 fullShare x10 ∗ (∃ f, arg6.view.loc (c : Thread nD τ) ↦[arg6.view.set]{fullShare} arg6.view.writes (Elt F) f L6) ∗ (∃ f, arg11.view.loc (c : Thread nD τ) ↦[arg11.view.set]{fullShare} arg11.view.writes (Elt F) f L11) ∗ (arg12.view.loc (c : Thread nD τ) ↦[arg12.view.set]{fullShare} arg12.view.writes (Elt F) (harg12.unread d12) L12) ∗ (arg13.view.loc (c : Thread nD τ) ↦[arg13.view.set]{fullShare} arg13.view.writes (Elt F) (harg13.unread d13) L13)) -∗ wp frame (wpE (defs₀ (F := F)) Variants.none c none) E (kont ⟨⟩) K))
          ⊢ wp frame (wpE (defs₀ (F := F)) Variants.none c none) E (reg2 i h arg1 harg1 arg2 harg2 arg3 harg3 arg4 harg4 arg5 harg5 arg6 harg6 arg7 harg7 arg8 harg8 arg9 harg9 arg10 harg10 arg11 harg11 arg12 harg12 arg13 harg13 arg14 harg14 kont) K } := by
  refine ⟨?_, ?_, ?_, ?_, fun E kont K => ?run⟩
  case run =>
    unfold reg2
    simp only [k0_part435_eq_skeleton, k0_part436_eq_skeleton, k0_part437_eq_skeleton, k0_part438_eq_skeleton, k0_part439_eq_skeleton, k0_part440_eq_skeleton, k0_part441_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton]
    unfold owns
    iintro ⟨⟨%f3, %hf3, H3⟩, ⟨%f4, %hf4, H4⟩, ⟨%f5, %hf5, H5⟩, ⟨%f9, %hf9, H9⟩, ⟨%f10, %hf10, H10⟩, ⟨%d6, %f6, -, H6⟩, ⟨%d11, %f11, -, H11⟩, ⟨%f12, %hf12, H12⟩, ⟨%f13, %hf13, H13⟩, Hk⟩
    obtain rfl := harg3.eq_unread hf3; obtain rfl := harg4.eq_unread hf4; obtain rfl := harg5.eq_unread hf5; obtain rfl := harg9.eq_unread hf9; obtain rfl := harg10.eq_unread hf10; obtain rfl := harg12.eq_unread hf12; obtain rfl := harg13.eq_unread hf13
    sl_exec
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H9]
    · iexists _; isplitr; · ipureintro; exact harg9.read_unread _
      iexact H9
    isplitl [H10]
    · iexists _; isplitr; · ipureintro; exact harg10.read_unread _
      iexact H10
    isplitl [H6]
    · iexists _; iexact H6
    isplitl [H11]
    · iexists _; iexact H11
    isplitl [H12]
    · iexact H12
    iexact H13

end Cert.KernelIdeal.Gen

end
-- ==== Proof.Run3.lean ====
module

public import proofs.«01_k».proof.Proof.Regions

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 26804000 in set_option sl_exec.squeezeSlice true in set_option sl_exec.resultNames true in
/-- What region 3 leaves in the buffers it stores into, with its run. -/
noncomputable def run3 (c : Dev nD) (i : grid0.Coords) (h : k0_cond3 i = 1#1) (arg1 : Memref sig .tc .vmem S256x1024 .bf16) (harg1 : arg1.IsWhole) (arg2 : Memref sig .tc .vmem S1024x16 .bf16) (harg2 : arg2.IsWhole) (arg3 : Memref sig .tc .vmem S512x2048 .i8) (harg3 : arg3.IsWhole) (arg4 : Memref sig .tc .vmem S16x2048 .f32) (harg4 : arg4.IsWhole) (arg5 : Memref sig .tc .vmem S16x2048 .bf16) (harg5 : arg5.IsWhole) (arg6 : Memref sig .tc .vmem S256x2048 .bf16) (harg6 : arg6.IsWhole) (arg7 : Memref sig .tc .vmem S256x2048 .fp8e4m3) (harg7 : arg7.IsWhole) (arg8 : Memref sig .tc .vmem S2x128 .f32) (harg8 : arg8.IsWhole) (arg9 : Memref sig .tc .vmem S256x1024 .bf16) (harg9 : arg9.IsWhole) (arg10 : Memref sig .tc .vmem S256x16 .bf16) (harg10 : arg10.IsWhole) (arg11 : Memref sig .tc .vmem S4x1024x512 .bf16) (harg11 : arg11.IsWhole) (arg12 : Memref sig .tc .vmem S12x256x2048 .f32) (harg12 : arg12.IsWhole) (arg13 : Memref sig .tc .vmem S256x128 .f32) (harg13 : arg13.IsWhole) (arg14 : Memref sig .tc .vmem S256x128 .f32) (harg14 : arg14.IsWhole)
    (x13 : Vec F S256x128 .f32)  :
    Σ' (L8 : List (View.Piece (Elt F) S2x128 .f32)), { L14 : List (View.Piece (Elt F) S256x128 .f32) //
      ∀ (E : Set ℕ) (kont : PUnit → Prog (TpuEff nD τ sig (Elt F) Λ₀ .tc) PUnit) (K : PUnit → sProp 𝕄),
        iprop(owns (c : Thread nD τ) arg13 fullShare x13 ∗ (∃ d, owns (c : Thread nD τ) arg8 fullShare d) ∗ (∃ d, owns (c : Thread nD τ) arg14 fullShare d)
            ∗ (iprop(owns (c : Thread nD τ) arg13 fullShare x13 ∗ (∃ f, arg8.view.loc (c : Thread nD τ) ↦[arg8.view.set]{fullShare} arg8.view.writes (Elt F) f L8) ∗ (∃ f, arg14.view.loc (c : Thread nD τ) ↦[arg14.view.set]{fullShare} arg14.view.writes (Elt F) f L14)) -∗ wp frame (wpE (defs₀ (F := F)) Variants.none c none) E (kont ⟨⟩) K))
          ⊢ wp frame (wpE (defs₀ (F := F)) Variants.none c none) E (reg3 i h arg1 harg1 arg2 harg2 arg3 harg3 arg4 harg4 arg5 harg5 arg6 harg6 arg7 harg7 arg8 harg8 arg9 harg9 arg10 harg10 arg11 harg11 arg12 harg12 arg13 harg13 arg14 harg14 kont) K } := by
  refine ⟨?_, ?_, fun E kont K => ?run⟩
  case run =>
    unfold reg3
    simp only [k0_part442_eq_skeleton, k0_part443_eq_skeleton]
    unfold owns
    iintro ⟨⟨%f13, %hf13, H13⟩, ⟨%d8, %f8, -, H8⟩, ⟨%d14, %f14, -, H14⟩, Hk⟩
    obtain rfl := harg13.eq_unread hf13
    sl_exec
    iapply Hk
    isplitl [H13]
    · iexists _; isplitr; · ipureintro; exact harg13.read_unread _
      iexact H13
    isplitl [H8]
    · iexists _; iexact H8
    iexists _; iexact H14

end Cert.KernelIdeal.Gen

end
-- ==== Proof.Run4.lean ====
module

public import proofs.«01_k».proof.Proof.Regions

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 26804000 in set_option sl_exec.squeezeSlice true in set_option sl_exec.resultNames true in
/-- What region 4 leaves in the buffers it stores into, with its run. -/
noncomputable def run4 (c : Dev nD) (i : grid0.Coords) (h : k0_cond4 i = 1#1) (arg1 : Memref sig .tc .vmem S256x1024 .bf16) (harg1 : arg1.IsWhole) (arg2 : Memref sig .tc .vmem S1024x16 .bf16) (harg2 : arg2.IsWhole) (arg3 : Memref sig .tc .vmem S512x2048 .i8) (harg3 : arg3.IsWhole) (arg4 : Memref sig .tc .vmem S16x2048 .f32) (harg4 : arg4.IsWhole) (arg5 : Memref sig .tc .vmem S16x2048 .bf16) (harg5 : arg5.IsWhole) (arg6 : Memref sig .tc .vmem S256x2048 .bf16) (harg6 : arg6.IsWhole) (arg7 : Memref sig .tc .vmem S256x2048 .fp8e4m3) (harg7 : arg7.IsWhole) (arg8 : Memref sig .tc .vmem S2x128 .f32) (harg8 : arg8.IsWhole) (arg9 : Memref sig .tc .vmem S256x1024 .bf16) (harg9 : arg9.IsWhole) (arg10 : Memref sig .tc .vmem S256x16 .bf16) (harg10 : arg10.IsWhole) (arg11 : Memref sig .tc .vmem S4x1024x512 .bf16) (harg11 : arg11.IsWhole) (arg12 : Memref sig .tc .vmem S12x256x2048 .f32) (harg12 : arg12.IsWhole) (arg13 : Memref sig .tc .vmem S256x128 .f32) (harg13 : arg13.IsWhole) (arg14 : Memref sig .tc .vmem S256x128 .f32) (harg14 : arg14.IsWhole)
    (x12 : Vec F S12x256x2048 .f32) (x14 : Vec F S256x128 .f32)  :
    { L7 : List (View.Piece (Elt F) S256x2048 .fp8e4m3) //
      ∀ (E : Set ℕ) (kont : PUnit → Prog (TpuEff nD τ sig (Elt F) Λ₀ .tc) PUnit) (K : PUnit → sProp 𝕄),
        iprop(owns (c : Thread nD τ) arg12 fullShare x12 ∗ owns (c : Thread nD τ) arg14 fullShare x14 ∗ (∃ d, owns (c : Thread nD τ) arg7 fullShare d)
            ∗ (iprop(owns (c : Thread nD τ) arg12 fullShare x12 ∗ owns (c : Thread nD τ) arg14 fullShare x14 ∗ (∃ f, arg7.view.loc (c : Thread nD τ) ↦[arg7.view.set]{fullShare} arg7.view.writes (Elt F) f L7)) -∗ wp frame (wpE (defs₀ (F := F)) Variants.none c none) E (kont ⟨⟩) K))
          ⊢ wp frame (wpE (defs₀ (F := F)) Variants.none c none) E (reg4 i h arg1 harg1 arg2 harg2 arg3 harg3 arg4 harg4 arg5 harg5 arg6 harg6 arg7 harg7 arg8 harg8 arg9 harg9 arg10 harg10 arg11 harg11 arg12 harg12 arg13 harg13 arg14 harg14 kont) K } := by
  refine ⟨?_, fun E kont K => ?run⟩
  case run =>
    unfold reg4
    simp only [k0_part444_eq_skeleton, k0_part445_eq_skeleton, k0_part446_eq_skeleton, k0_part447_eq_skeleton, k0_part448_eq_skeleton]
    unfold owns
    iintro ⟨⟨%f12, %hf12, H12⟩, ⟨%f14, %hf14, H14⟩, ⟨%d7, %f7, -, H7⟩, Hk⟩
    obtain rfl := harg12.eq_unread hf12; obtain rfl := harg14.eq_unread hf14
    sl_exec
    iapply Hk
    isplitl [H12]
    · iexists _; isplitr; · ipureintro; exact harg12.read_unread _
      iexact H12
    isplitl [H14]
    · iexists _; isplitr; · ipureintro; exact harg14.read_unread _
      iexact H14
    iexists _; iexact H7

end Cert.KernelIdeal.Gen

end
-- ==== Proof.Spec.lean ====
module

public import proofs.«01_k».proof.Proof.Run1
public import proofs.«01_k».proof.Proof.Run2
public import proofs.«01_k».proof.Proof.Run3
public import proofs.«01_k».proof.Proof.Run4

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What each region leaves, at a grid point's own buffers. -/

section
variable (c : Dev nD) (t : Fin cfg0.N) (h : cond0_0 (grid0.coords t)) (x1 : Vec F S256x1024 .bf16) (x2 : Vec F S1024x16 .bf16)

/-- What buffer 9 reads after region 1, run over contents `f`. -/
def o1_9 (f : scM0_0.view.ty.Contents (Elt F)) : Vec F S256x1024 .bf16 :=
  scM0_0.view.read (Elt F) (scM0_0.view.writes (Elt F) f (run1.{1} (F := F) c (grid0.coords t) h (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) x1 x2).1)

/-- What buffer 10 reads after region 1, run over contents `f`. -/
def o1_10 (f : scM0_1.view.ty.Contents (Elt F)) : Vec F S256x16 .bf16 :=
  scM0_1.view.read (Elt F) (scM0_1.view.writes (Elt F) f (run1.{1} (F := F) c (grid0.coords t) h (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) x1 x2).2.1)

/-- What buffer 13 reads after region 1, run over contents `f`. -/
def o1_13 (f : scM0_4.view.ty.Contents (Elt F)) : Vec F S256x128 .f32 :=
  scM0_4.view.read (Elt F) (scM0_4.view.writes (Elt F) f (run1.{1} (F := F) c (grid0.coords t) h (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) x1 x2).2.2.1)

set_option maxHeartbeats 2000000 in
/-- Region 1 at a grid point. -/
theorem spec1 (E : Set ℕ) (kont : PUnit.{1} → Prog (TpuEff nD τ sig (Elt F) Λ₀ .tc) PUnit.{1}) (K : PUnit.{1} → sProp 𝕄) :
    iprop(owns (c : Thread nD τ) (ms0_0 t) fullShare x1 ∗ owns (c : Thread nD τ) (ms0_1 t) fullShare x2 ∗ (∃ d, owns (c : Thread nD τ) scM0_0 fullShare d) ∗ (∃ d, owns (c : Thread nD τ) scM0_1 fullShare d) ∗ (∃ d, owns (c : Thread nD τ) scM0_4 fullShare d)
        ∗ (iprop(owns (c : Thread nD τ) (ms0_0 t) fullShare x1 ∗ owns (c : Thread nD τ) (ms0_1 t) fullShare x2 ∗ (∃ f, owns (c : Thread nD τ) scM0_0 fullShare (o1_9 c t h x1 x2 f)) ∗ (∃ f, owns (c : Thread nD τ) scM0_1 fullShare (o1_10 c t h x1 x2 f)) ∗ (∃ f, owns (c : Thread nD τ) scM0_4 fullShare (o1_13 c t h x1 x2 f))) -∗ wp frame (wpE (defs₀ (F := F)) Variants.none c none) E (kont ⟨⟩) K))
      ⊢ wp frame (wpE (defs₀ (F := F)) Variants.none c none) E (reg1 (grid0.coords t) h (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) kont) K := by
  iintro ⟨H1, H2, G9, G10, G13, Hk⟩
  iapply ((run1.{1} (F := F) c (grid0.coords t) h (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) x1 x2).2.2.2 E kont K)
  isplitl [H1]; · iexact H1
  isplitl [H2]; · iexact H2
  isplitl [G9]; · iexact G9
  isplitl [G10]; · iexact G10
  isplitl [G13]; · iexact G13
  iintro ⟨H1, H2, ⟨%f9, G9⟩, ⟨%f10, G10⟩, ⟨%f13, G13⟩⟩
  iapply Hk
  isplitl [H1]; · iexact H1
  isplitl [H2]; · iexact H2
  isplitl [G9]
  · iexists f9
    unfold owns; iexists _; isplitr
    · ipureintro; unfold o1_9; rfl
    iexact G9
  isplitl [G10]
  · iexists f10
    unfold owns; iexists _; isplitr
    · ipureintro; unfold o1_10; rfl
    iexact G10
  iexists f13
  unfold owns; iexists _; isplitr
  · ipureintro; unfold o1_13; rfl
  iexact G13

end

section
variable (c : Dev nD) (t : Fin cfg0.N) (h : k0_cond2 (grid0.coords t) = 1#1) (x3 : Vec F S512x2048 .i8) (x4 : Vec F S16x2048 .f32) (x5 : Vec F S16x2048 .bf16) (x9 : Vec F S256x1024 .bf16) (x10 : Vec F S256x16 .bf16) (d12 : Vec F S12x256x2048 .f32) (d13 : Vec F S256x128 .f32)

/-- What buffer 6 reads after region 2, run over contents `f`. -/
def o2_6 (f : (ms0_5 t).view.ty.Contents (Elt F)) : Vec F S256x2048 .bf16 :=
  (ms0_5 t).view.read (Elt F) ((ms0_5 t).view.writes (Elt F) f (run2.{1} (F := F) c (grid0.coords t) h (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) x3 x4 x5 x9 x10 d12 d13).1)

/-- What buffer 12 reads after region 2. -/
def o2_12 : Vec F S12x256x2048 .f32 :=
  scM0_3.view.read (Elt F) (scM0_3.view.writes (Elt F) (Memref.IsWhole.unread (m := scM0_3) (Memref.isWhole_whole _) d12) (run2.{1} (F := F) c (grid0.coords t) h (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) x3 x4 x5 x9 x10 d12 d13).2.2.1)

/-- What buffer 13 reads after region 2. -/
def o2_13 : Vec F S256x128 .f32 :=
  scM0_4.view.read (Elt F) (scM0_4.view.writes (Elt F) (Memref.IsWhole.unread (m := scM0_4) (Memref.isWhole_whole _) d13) (run2.{1} (F := F) c (grid0.coords t) h (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) x3 x4 x5 x9 x10 d12 d13).2.2.2.1)

set_option maxHeartbeats 2000000 in
/-- Region 2 at a grid point. -/
theorem spec2 (E : Set ℕ) (kont : PUnit.{1} → Prog (TpuEff nD τ sig (Elt F) Λ₀ .tc) PUnit.{1}) (K : PUnit.{1} → sProp 𝕄) :
    iprop(owns (c : Thread nD τ) (ms0_2 t) fullShare x3 ∗ owns (c : Thread nD τ) (ms0_3 t) fullShare x4 ∗ owns (c : Thread nD τ) (ms0_4 t) fullShare x5 ∗ owns (c : Thread nD τ) scM0_0 fullShare x9 ∗ owns (c : Thread nD τ) scM0_1 fullShare x10 ∗ (∃ d, owns (c : Thread nD τ) (ms0_5 t) fullShare d) ∗ (∃ d, owns (c : Thread nD τ) scM0_2 fullShare d) ∗ owns (c : Thread nD τ) scM0_3 fullShare d12 ∗ owns (c : Thread nD τ) scM0_4 fullShare d13
        ∗ (iprop(owns (c : Thread nD τ) (ms0_2 t) fullShare x3 ∗ owns (c : Thread nD τ) (ms0_3 t) fullShare x4 ∗ owns (c : Thread nD τ) (ms0_4 t) fullShare x5 ∗ owns (c : Thread nD τ) scM0_0 fullShare x9 ∗ owns (c : Thread nD τ) scM0_1 fullShare x10 ∗ (∃ f, owns (c : Thread nD τ) (ms0_5 t) fullShare (o2_6 c t h x3 x4 x5 x9 x10 d12 d13 f)) ∗ (∃ d, owns (c : Thread nD τ) scM0_2 fullShare d) ∗ owns (c : Thread nD τ) scM0_3 fullShare (o2_12 c t h x3 x4 x5 x9 x10 d12 d13) ∗ owns (c : Thread nD τ) scM0_4 fullShare (o2_13 c t h x3 x4 x5 x9 x10 d12 d13)) -∗ wp frame (wpE (defs₀ (F := F)) Variants.none c none) E (kont ⟨⟩) K))
      ⊢ wp frame (wpE (defs₀ (F := F)) Variants.none c none) E (reg2 (grid0.coords t) h (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) kont) K := by
  iintro ⟨H3, H4, H5, H9, H10, G6, G11, G12, G13, Hk⟩
  iapply ((run2.{1} (F := F) c (grid0.coords t) h (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) x3 x4 x5 x9 x10 d12 d13).2.2.2.2 E kont K)
  isplitl [H3]; · iexact H3
  isplitl [H4]; · iexact H4
  isplitl [H5]; · iexact H5
  isplitl [H9]; · iexact H9
  isplitl [H10]; · iexact H10
  isplitl [G6]; · iexact G6
  isplitl [G11]; · iexact G11
  isplitl [G12]; · iexact G12
  isplitl [G13]; · iexact G13
  iintro ⟨H3, H4, H5, H9, H10, ⟨%f6, G6⟩, ⟨%f11, G11⟩, G12, G13⟩
  iapply Hk
  isplitl [H3]; · iexact H3
  isplitl [H4]; · iexact H4
  isplitl [H5]; · iexact H5
  isplitl [H9]; · iexact H9
  isplitl [H10]; · iexact H10
  isplitl [G6]
  · iexists f6
    unfold owns; iexists _; isplitr
    · ipureintro; unfold o2_6; rfl
    iexact G6
  isplitl [G11]
  · iexists (scM0_2.view.read (Elt F) (scM0_2.view.writes (Elt F) f11 (run2.{1} (F := F) c (grid0.coords t) h (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) x3 x4 x5 x9 x10 d12 d13).2.1))
    unfold owns; iexists _; isplitr
    · ipureintro; exact rfl
    iexact G11
  isplitl [G12]
  · unfold owns; iexists _; isplitr
    · ipureintro; unfold o2_12; rfl
    iexact G12
  unfold owns; iexists _; isplitr
  · ipureintro; unfold o2_13; rfl
  iexact G13

end

section
variable (c : Dev nD) (t : Fin cfg0.N) (h : k0_cond3 (grid0.coords t) = 1#1) (x13 : Vec F S256x128 .f32)

/-- What buffer 8 reads after region 3, run over contents `f`. -/
def o3_8 (f : (ms0_7 t).view.ty.Contents (Elt F)) : Vec F S2x128 .f32 :=
  (ms0_7 t).view.read (Elt F) ((ms0_7 t).view.writes (Elt F) f (run3.{1} (F := F) c (grid0.coords t) h (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) x13).1)

/-- What buffer 14 reads after region 3, run over contents `f`. -/
def o3_14 (f : scM0_5.view.ty.Contents (Elt F)) : Vec F S256x128 .f32 :=
  scM0_5.view.read (Elt F) (scM0_5.view.writes (Elt F) f (run3.{1} (F := F) c (grid0.coords t) h (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) x13).2.1)

set_option maxHeartbeats 2000000 in
/-- Region 3 at a grid point. -/
theorem spec3 (E : Set ℕ) (kont : PUnit.{1} → Prog (TpuEff nD τ sig (Elt F) Λ₀ .tc) PUnit.{1}) (K : PUnit.{1} → sProp 𝕄) :
    iprop(owns (c : Thread nD τ) scM0_4 fullShare x13 ∗ (∃ d, owns (c : Thread nD τ) (ms0_7 t) fullShare d) ∗ (∃ d, owns (c : Thread nD τ) scM0_5 fullShare d)
        ∗ (iprop(owns (c : Thread nD τ) scM0_4 fullShare x13 ∗ (∃ f, owns (c : Thread nD τ) (ms0_7 t) fullShare (o3_8 c t h x13 f)) ∗ (∃ f, owns (c : Thread nD τ) scM0_5 fullShare (o3_14 c t h x13 f))) -∗ wp frame (wpE (defs₀ (F := F)) Variants.none c none) E (kont ⟨⟩) K))
      ⊢ wp frame (wpE (defs₀ (F := F)) Variants.none c none) E (reg3 (grid0.coords t) h (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) kont) K := by
  iintro ⟨H13, G8, G14, Hk⟩
  iapply ((run3.{1} (F := F) c (grid0.coords t) h (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) x13).2.2 E kont K)
  isplitl [H13]; · iexact H13
  isplitl [G8]; · iexact G8
  isplitl [G14]; · iexact G14
  iintro ⟨H13, ⟨%f8, G8⟩, ⟨%f14, G14⟩⟩
  iapply Hk
  isplitl [H13]; · iexact H13
  isplitl [G8]
  · iexists f8
    unfold owns; iexists _; isplitr
    · ipureintro; unfold o3_8; rfl
    iexact G8
  iexists f14
  unfold owns; iexists _; isplitr
  · ipureintro; unfold o3_14; rfl
  iexact G14

end

section
variable (c : Dev nD) (t : Fin cfg0.N) (h : k0_cond4 (grid0.coords t) = 1#1) (x12 : Vec F S12x256x2048 .f32) (x14 : Vec F S256x128 .f32)

/-- What buffer 7 reads after region 4, run over contents `f`. -/
def o4_7 (f : (ms0_6 t).view.ty.Contents (Elt F)) : Vec F S256x2048 .fp8e4m3 :=
  (ms0_6 t).view.read (Elt F) ((ms0_6 t).view.writes (Elt F) f (run4.{1} (F := F) c (grid0.coords t) h (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) x12 x14).1)

set_option maxHeartbeats 2000000 in
/-- Region 4 at a grid point. -/
theorem spec4 (E : Set ℕ) (kont : PUnit.{1} → Prog (TpuEff nD τ sig (Elt F) Λ₀ .tc) PUnit.{1}) (K : PUnit.{1} → sProp 𝕄) :
    iprop(owns (c : Thread nD τ) scM0_3 fullShare x12 ∗ owns (c : Thread nD τ) scM0_5 fullShare x14 ∗ (∃ d, owns (c : Thread nD τ) (ms0_6 t) fullShare d)
        ∗ (iprop(owns (c : Thread nD τ) scM0_3 fullShare x12 ∗ owns (c : Thread nD τ) scM0_5 fullShare x14 ∗ (∃ f, owns (c : Thread nD τ) (ms0_6 t) fullShare (o4_7 c t h x12 x14 f))) -∗ wp frame (wpE (defs₀ (F := F)) Variants.none c none) E (kont ⟨⟩) K))
      ⊢ wp frame (wpE (defs₀ (F := F)) Variants.none c none) E (reg4 (grid0.coords t) h (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) kont) K := by
  iintro ⟨H12, H14, G7, Hk⟩
  iapply ((run4.{1} (F := F) c (grid0.coords t) h (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) x12 x14).2 E kont K)
  isplitl [H12]; · iexact H12
  isplitl [H14]; · iexact H14
  isplitl [G7]; · iexact G7
  iintro ⟨H12, H14, ⟨%f7, G7⟩⟩
  iapply Hk
  isplitl [H12]; · iexact H12
  isplitl [H14]; · iexact H14
  iexists f7
  unfold owns; iexists _; isplitr
  · ipureintro; unfold o4_7; rfl
  iexact G7

end

end Cert.KernelIdeal.Gen

end
-- ==== Proof.Body.lean ====
module

public import proofs.«01_k».proof.Proof.Spec

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body at a grid point, over any statement of what the kept buffers and the outputs hold. -/

/-- The kept buffers at contents satisfying `P`, and the generator register. -/
def PhiP (c : Dev nD) (P : Vec F S256x1024 .bf16 → Vec F S256x16 .bf16 → Vec F S12x256x2048 .f32 → Vec F S256x128 .f32 → Vec F S256x128 .f32 → Prop) : sProp 𝕄 :=
  iprop(∃ x9 x10 x12 x13 x14, ⌜P x9 x10 x12 x13 x14⌝ ∗ ((owns (c : Thread nD τ) scM0_0 fullShare x9 ∗ owns (c : Thread nD τ) scM0_1 fullShare x10 ∗ (∃ d, owns (c : Thread nD τ) scM0_2 fullShare d) ∗ owns (c : Thread nD τ) scM0_3 fullShare x12 ∗ owns (c : Thread nD τ) scM0_4 fullShare x13 ∗ owns (c : Thread nD τ) scM0_5 fullShare x14) ∗ (∃ r, prngReg c r)))

/-- The windows' buffers: the inputs at their blocks, the outputs at contents satisfying `B6`, `B7`, `B8`. -/
def WinP (c : Dev nD) (t : Fin cfg0.N) (x1 : Vec F S256x1024 .bf16) (x2 : Vec F S1024x16 .bf16) (x3 : Vec F S512x2048 .i8) (x4 : Vec F S16x2048 .f32) (x5 : Vec F S16x2048 .bf16) (B6 : Vec F S256x2048 .bf16 → Prop) (B7 : Vec F S256x2048 .fp8e4m3 → Prop) (B8 : Vec F S2x128 .f32 → Prop) : sProp 𝕄 :=
  iprop(owns (c : Thread nD τ) (ms0_0 t) fullShare x1 ∗ owns (c : Thread nD τ) (ms0_1 t) fullShare x2 ∗ owns (c : Thread nD τ) (ms0_2 t) fullShare x3 ∗ owns (c : Thread nD τ) (ms0_3 t) fullShare x4 ∗ owns (c : Thread nD τ) (ms0_4 t) fullShare x5 ∗ (∃ d, ⌜B6 d⌝ ∗ owns (c : Thread nD τ) (ms0_5 t) fullShare d) ∗ (∃ d, ⌜B7 d⌝ ∗ owns (c : Thread nD τ) (ms0_6 t) fullShare d) ∗ (∃ d, ⌜B8 d⌝ ∗ owns (c : Thread nD τ) (ms0_7 t) fullShare d))

section
variable (c : Dev nD) (t : Fin cfg0.N) (x1 : Vec F S256x1024 .bf16) (x2 : Vec F S1024x16 .bf16) (x3 : Vec F S512x2048 .i8) (x4 : Vec F S16x2048 .f32) (x5 : Vec F S16x2048 .bf16) (B6 A6 : Vec F S256x2048 .bf16 → Prop) (B7 A7 : Vec F S256x2048 .fp8e4m3 → Prop) (B8 A8 : Vec F S2x128 .f32 → Prop)
  (P P' : Vec F S256x1024 .bf16 → Vec F S256x16 .bf16 → Vec F S12x256x2048 .f32 → Vec F S256x128 .f32 → Vec F S256x128 .f32 → Prop)

set_option maxHeartbeats 2000000 in
/-- A point that runs region 1 then region 2. -/
theorem bodyA (OW : sProp 𝕄) (h1 : cond0_0 (grid0.coords t)) (h2 : k0_cond2 (grid0.coords t) = 1#1) (h3 : ¬ k0_cond3 (grid0.coords t) = 1#1) (h4 : ¬ k0_cond4 (grid0.coords t) = 1#1) (hs : ∀ x9 x10 x12 x13 x14, P x9 x10 x12 x13 x14 → ∀ (f9 : scM0_0.view.ty.Contents (Elt F)) (f10 : scM0_1.view.ty.Contents (Elt F)) (f13 : scM0_4.view.ty.Contents (Elt F)) (f6 : (ms0_5 t).view.ty.Contents (Elt F)), P' (o1_9 c t h1 x1 x2 f9) (o1_10 c t h1 x1 x2 f10) (o2_12 c t h2 x3 x4 x5 (o1_9 c t h1 x1 x2 f9) (o1_10 c t h1 x1 x2 f10) x12 (o1_13 c t h1 x1 x2 f13)) (o2_13 c t h2 x3 x4 x5 (o1_9 c t h1 x1 x2 f9) (o1_10 c t h1 x1 x2 f10) x12 (o1_13 c t h1 x1 x2 f13)) x14 ∧ A6 (o2_6 c t h2 x3 x4 x5 (o1_9 c t h1 x1 x2 f9) (o1_10 c t h1 x1 x2 f10) x12 (o1_13 c t h1 x1 x2 f13) f6)) (hi7 : ∀ d, B7 d → A7 d) (hi8 : ∀ d, B8 d → A8 d) :
    iprop(PhiP c P ∗ OW ∗ WinP c t x1 x2 x3 x4 x5 B6 B7 B8) ⊢ wp frame (wpE (defs₀ (F := F)) Variants.none c none) Set.univ (bodyAt0 t)
      (fun _ => iprop(PhiP c P' ∗ OW ∗ WinP c t x1 x2 x3 x4 x5 A6 A7 A8)) := by
  unfold bodyAt0
  rw [cc0_qlora_nf4_eq_skeleton, skel_eq_regions.{1,1,1,1}]
  dsimp only
  unfold PhiP WinP
  iintro ⟨⟨%x9, %x10, %x12, %x13, %x14, %hP, ⟨H9, H10, H11, H12, H13, H14⟩, Hg⟩, Ho, H1, H2, H3, H4, H5, ⟨%d6, %h6, H6⟩, ⟨%d7, %h7, H7⟩, ⟨%d8, %h8, H8⟩⟩
  rw [dif_pos h1]
  iapply (spec1 c t h1 x1 x2 Set.univ _ _)
  isplitl [H1]; · iexact H1
  isplitl [H2]; · iexact H2
  isplitl [H9]; · iexists _; iexact H9
  isplitl [H10]; · iexists _; iexact H10
  isplitl [H13]; · iexists _; iexact H13
  iintro ⟨H1, H2, ⟨%f9, H9⟩, ⟨%f10, H10⟩, ⟨%f13, H13⟩⟩
  rw [dif_pos h2]
  iapply (spec2 c t h2 x3 x4 x5 (o1_9 c t h1 x1 x2 f9) (o1_10 c t h1 x1 x2 f10) x12 (o1_13 c t h1 x1 x2 f13) Set.univ _ _)
  isplitl [H3]; · iexact H3
  isplitl [H4]; · iexact H4
  isplitl [H5]; · iexact H5
  isplitl [H9]; · iexact H9
  isplitl [H10]; · iexact H10
  isplitl [H6]; · iexists _; iexact H6
  isplitl [H11]; · iexact H11
  isplitl [H12]; · iexact H12
  isplitl [H13]; · iexact H13
  iintro ⟨H3, H4, H5, H9, H10, ⟨%f6, H6⟩, H11, H12, H13⟩
  rw [dif_neg h3]
  rw [dif_neg h4]
  rw [show (pure PUnit.unit : Prog (TpuEff nD τ sig (Elt F) Λ₀ .tc) PUnit) = .ret PUnit.unit from rfl, wp_ret]
  obtain ⟨hP', hA6⟩ := hs _ _ _ _ _ hP f9 f10 f13 f6
  imodintro
  isplitl [H9 H10 H11 H12 H13 H14 Hg]
  · iexists (o1_9 c t h1 x1 x2 f9)
    iexists (o1_10 c t h1 x1 x2 f10)
    iexists (o2_12 c t h2 x3 x4 x5 (o1_9 c t h1 x1 x2 f9) (o1_10 c t h1 x1 x2 f10) x12 (o1_13 c t h1 x1 x2 f13))
    iexists (o2_13 c t h2 x3 x4 x5 (o1_9 c t h1 x1 x2 f9) (o1_10 c t h1 x1 x2 f10) x12 (o1_13 c t h1 x1 x2 f13))
    iexists x14
    isplitr; · ipureintro; exact hP'
    isplitr [Hg]
    · isplitl [H9]; · iexact H9
      isplitl [H10]; · iexact H10
      isplitl [H11]; · iexact H11
      isplitl [H12]; · iexact H12
      isplitl [H13]; · iexact H13
      iexact H14
    iexact Hg
  isplitl [Ho]; · iexact Ho
  isplitl [H1]; · iexact H1
  isplitl [H2]; · iexact H2
  isplitl [H3]; · iexact H3
  isplitl [H4]; · iexact H4
  isplitl [H5]; · iexact H5
  isplitl [H6]
  · iexists (o2_6 c t h2 x3 x4 x5 (o1_9 c t h1 x1 x2 f9) (o1_10 c t h1 x1 x2 f10) x12 (o1_13 c t h1 x1 x2 f13) f6); isplitr; · ipureintro; exact hA6
    iexact H6
  isplitl [H7]
  · iexists d7; isplitr; · ipureintro; exact hi7 _ h7
    iexact H7
  iexists d8; isplitr; · ipureintro; exact hi8 _ h8
  iexact H8

set_option maxHeartbeats 2000000 in
/-- A point that runs region 2. -/
theorem bodyB (OW : sProp 𝕄) (h1 : ¬ cond0_0 (grid0.coords t)) (h2 : k0_cond2 (grid0.coords t) = 1#1) (h3 : ¬ k0_cond3 (grid0.coords t) = 1#1) (h4 : ¬ k0_cond4 (grid0.coords t) = 1#1) (hs : ∀ x9 x10 x12 x13 x14, P x9 x10 x12 x13 x14 → ∀ (f6 : (ms0_5 t).view.ty.Contents (Elt F)), P' x9 x10 (o2_12 c t h2 x3 x4 x5 x9 x10 x12 x13) (o2_13 c t h2 x3 x4 x5 x9 x10 x12 x13) x14 ∧ A6 (o2_6 c t h2 x3 x4 x5 x9 x10 x12 x13 f6)) (hi7 : ∀ d, B7 d → A7 d) (hi8 : ∀ d, B8 d → A8 d) :
    iprop(PhiP c P ∗ OW ∗ WinP c t x1 x2 x3 x4 x5 B6 B7 B8) ⊢ wp frame (wpE (defs₀ (F := F)) Variants.none c none) Set.univ (bodyAt0 t)
      (fun _ => iprop(PhiP c P' ∗ OW ∗ WinP c t x1 x2 x3 x4 x5 A6 A7 A8)) := by
  unfold bodyAt0
  rw [cc0_qlora_nf4_eq_skeleton, skel_eq_regions.{1,1,1,1}]
  dsimp only
  unfold PhiP WinP
  iintro ⟨⟨%x9, %x10, %x12, %x13, %x14, %hP, ⟨H9, H10, H11, H12, H13, H14⟩, Hg⟩, Ho, H1, H2, H3, H4, H5, ⟨%d6, %h6, H6⟩, ⟨%d7, %h7, H7⟩, ⟨%d8, %h8, H8⟩⟩
  rw [dif_neg h1]
  rw [dif_pos h2]
  iapply (spec2 c t h2 x3 x4 x5 x9 x10 x12 x13 Set.univ _ _)
  isplitl [H3]; · iexact H3
  isplitl [H4]; · iexact H4
  isplitl [H5]; · iexact H5
  isplitl [H9]; · iexact H9
  isplitl [H10]; · iexact H10
  isplitl [H6]; · iexists _; iexact H6
  isplitl [H11]; · iexact H11
  isplitl [H12]; · iexact H12
  isplitl [H13]; · iexact H13
  iintro ⟨H3, H4, H5, H9, H10, ⟨%f6, H6⟩, H11, H12, H13⟩
  rw [dif_neg h3]
  rw [dif_neg h4]
  rw [show (pure PUnit.unit : Prog (TpuEff nD τ sig (Elt F) Λ₀ .tc) PUnit) = .ret PUnit.unit from rfl, wp_ret]
  obtain ⟨hP', hA6⟩ := hs _ _ _ _ _ hP f6
  imodintro
  isplitl [H9 H10 H11 H12 H13 H14 Hg]
  · iexists x9
    iexists x10
    iexists (o2_12 c t h2 x3 x4 x5 x9 x10 x12 x13)
    iexists (o2_13 c t h2 x3 x4 x5 x9 x10 x12 x13)
    iexists x14
    isplitr; · ipureintro; exact hP'
    isplitr [Hg]
    · isplitl [H9]; · iexact H9
      isplitl [H10]; · iexact H10
      isplitl [H11]; · iexact H11
      isplitl [H12]; · iexact H12
      isplitl [H13]; · iexact H13
      iexact H14
    iexact Hg
  isplitl [Ho]; · iexact Ho
  isplitl [H1]; · iexact H1
  isplitl [H2]; · iexact H2
  isplitl [H3]; · iexact H3
  isplitl [H4]; · iexact H4
  isplitl [H5]; · iexact H5
  isplitl [H6]
  · iexists (o2_6 c t h2 x3 x4 x5 x9 x10 x12 x13 f6); isplitr; · ipureintro; exact hA6
    iexact H6
  isplitl [H7]
  · iexists d7; isplitr; · ipureintro; exact hi7 _ h7
    iexact H7
  iexists d8; isplitr; · ipureintro; exact hi8 _ h8
  iexact H8

set_option maxHeartbeats 2000000 in
/-- A point that runs region 3 then region 4. -/
theorem bodyC (OW : sProp 𝕄) (h1 : ¬ cond0_0 (grid0.coords t)) (h2 : ¬ k0_cond2 (grid0.coords t) = 1#1) (h3 : k0_cond3 (grid0.coords t) = 1#1) (h4 : k0_cond4 (grid0.coords t) = 1#1) (hs : ∀ x9 x10 x12 x13 x14, P x9 x10 x12 x13 x14 → ∀ (f8 : (ms0_7 t).view.ty.Contents (Elt F)) (f14 : scM0_5.view.ty.Contents (Elt F)) (f7 : (ms0_6 t).view.ty.Contents (Elt F)), P' x9 x10 x12 x13 (o3_14 c t h3 x13 f14) ∧ A8 (o3_8 c t h3 x13 f8) ∧ A7 (o4_7 c t h4 x12 (o3_14 c t h3 x13 f14) f7)) (hi6 : ∀ d, B6 d → A6 d) :
    iprop(PhiP c P ∗ OW ∗ WinP c t x1 x2 x3 x4 x5 B6 B7 B8) ⊢ wp frame (wpE (defs₀ (F := F)) Variants.none c none) Set.univ (bodyAt0 t)
      (fun _ => iprop(PhiP c P' ∗ OW ∗ WinP c t x1 x2 x3 x4 x5 A6 A7 A8)) := by
  unfold bodyAt0
  rw [cc0_qlora_nf4_eq_skeleton, skel_eq_regions.{1,1,1,1}]
  dsimp only
  unfold PhiP WinP
  iintro ⟨⟨%x9, %x10, %x12, %x13, %x14, %hP, ⟨H9, H10, H11, H12, H13, H14⟩, Hg⟩, Ho, H1, H2, H3, H4, H5, ⟨%d6, %h6, H6⟩, ⟨%d7, %h7, H7⟩, ⟨%d8, %h8, H8⟩⟩
  rw [dif_neg h1]
  rw [dif_neg h2]
  rw [dif_pos h3]
  iapply (spec3 c t h3 x13 Set.univ _ _)
  isplitl [H13]; · iexact H13
  isplitl [H8]; · iexists _; iexact H8
  isplitl [H14]; · iexists _; iexact H14
  iintro ⟨H13, ⟨%f8, H8⟩, ⟨%f14, H14⟩⟩
  rw [dif_pos h4]
  iapply (spec4 c t h4 x12 (o3_14 c t h3 x13 f14) Set.univ _ _)
  isplitl [H12]; · iexact H12
  isplitl [H14]; · iexact H14
  isplitl [H7]; · iexists _; iexact H7
  iintro ⟨H12, H14, ⟨%f7, H7⟩⟩
  rw [show (pure PUnit.unit : Prog (TpuEff nD τ sig (Elt F) Λ₀ .tc) PUnit) = .ret PUnit.unit from rfl, wp_ret]
  obtain ⟨hP', hA8, hA7⟩ := hs _ _ _ _ _ hP f8 f14 f7
  imodintro
  isplitl [H9 H10 H11 H12 H13 H14 Hg]
  · iexists x9
    iexists x10
    iexists x12
    iexists x13
    iexists (o3_14 c t h3 x13 f14)
    isplitr; · ipureintro; exact hP'
    isplitr [Hg]
    · isplitl [H9]; · iexact H9
      isplitl [H10]; · iexact H10
      isplitl [H11]; · iexact H11
      isplitl [H12]; · iexact H12
      isplitl [H13]; · iexact H13
      iexact H14
    iexact Hg
  isplitl [Ho]; · iexact Ho
  isplitl [H1]; · iexact H1
  isplitl [H2]; · iexact H2
  isplitl [H3]; · iexact H3
  isplitl [H4]; · iexact H4
  isplitl [H5]; · iexact H5
  isplitl [H6]
  · iexists d6; isplitr; · ipureintro; exact hi6 _ h6
    iexact H6
  isplitl [H7]
  · iexists (o4_7 c t h4 x12 (o3_14 c t h3 x13 f14) f7); isplitr; · ipureintro; exact hA7
    iexact H7
  iexists (o3_8 c t h3 x13 f8); isplitr; · ipureintro; exact hA8
  iexact H8

set_option maxHeartbeats 2000000 in
/-- A point that runs region 4. -/
theorem bodyD (OW : sProp 𝕄) (h1 : ¬ cond0_0 (grid0.coords t)) (h2 : ¬ k0_cond2 (grid0.coords t) = 1#1) (h3 : ¬ k0_cond3 (grid0.coords t) = 1#1) (h4 : k0_cond4 (grid0.coords t) = 1#1) (hs : ∀ x9 x10 x12 x13 x14, P x9 x10 x12 x13 x14 → ∀ (f7 : (ms0_6 t).view.ty.Contents (Elt F)), P' x9 x10 x12 x13 x14 ∧ A7 (o4_7 c t h4 x12 x14 f7)) (hi6 : ∀ d, B6 d → A6 d) (hi8 : ∀ d, B8 d → A8 d) :
    iprop(PhiP c P ∗ OW ∗ WinP c t x1 x2 x3 x4 x5 B6 B7 B8) ⊢ wp frame (wpE (defs₀ (F := F)) Variants.none c none) Set.univ (bodyAt0 t)
      (fun _ => iprop(PhiP c P' ∗ OW ∗ WinP c t x1 x2 x3 x4 x5 A6 A7 A8)) := by
  unfold bodyAt0
  rw [cc0_qlora_nf4_eq_skeleton, skel_eq_regions.{1,1,1,1}]
  dsimp only
  unfold PhiP WinP
  iintro ⟨⟨%x9, %x10, %x12, %x13, %x14, %hP, ⟨H9, H10, H11, H12, H13, H14⟩, Hg⟩, Ho, H1, H2, H3, H4, H5, ⟨%d6, %h6, H6⟩, ⟨%d7, %h7, H7⟩, ⟨%d8, %h8, H8⟩⟩
  rw [dif_neg h1]
  rw [dif_neg h2]
  rw [dif_neg h3]
  rw [dif_pos h4]
  iapply (spec4 c t h4 x12 x14 Set.univ _ _)
  isplitl [H12]; · iexact H12
  isplitl [H14]; · iexact H14
  isplitl [H7]; · iexists _; iexact H7
  iintro ⟨H12, H14, ⟨%f7, H7⟩⟩
  rw [show (pure PUnit.unit : Prog (TpuEff nD τ sig (Elt F) Λ₀ .tc) PUnit) = .ret PUnit.unit from rfl, wp_ret]
  obtain ⟨hP', hA7⟩ := hs _ _ _ _ _ hP f7
  imodintro
  isplitl [H9 H10 H11 H12 H13 H14 Hg]
  · iexists x9
    iexists x10
    iexists x12
    iexists x13
    iexists x14
    isplitr; · ipureintro; exact hP'
    isplitr [Hg]
    · isplitl [H9]; · iexact H9
      isplitl [H10]; · iexact H10
      isplitl [H11]; · iexact H11
      isplitl [H12]; · iexact H12
      isplitl [H13]; · iexact H13
      iexact H14
    iexact Hg
  isplitl [Ho]; · iexact Ho
  isplitl [H1]; · iexact H1
  isplitl [H2]; · iexact H2
  isplitl [H3]; · iexact H3
  isplitl [H4]; · iexact H4
  isplitl [H5]; · iexact H5
  isplitl [H6]
  · iexists d6; isplitr; · ipureintro; exact hi6 _ h6
    iexact H6
  isplitl [H7]
  · iexists (o4_7 c t h4 x12 x14 f7); isplitr; · ipureintro; exact hA7
    iexact H7
  iexists d8; isplitr; · ipureintro; exact hi8 _ h8
  iexact H8

end

end Cert.KernelIdeal.Gen

end
-- ==== Proof.KFrame.lean ====
module

public import proofs.«01_k».proof.Proof.Body

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Nothing is said of what the outputs hold: the argument arrays come out unchanged. -/

/-- The output windows. -/
def outWin : Fin 8 → Bool := fun w => w.val == 5 || w.val == 6 || w.val == 7

/-- The proof data that say nothing of the outputs. -/
def datF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := PhiP c (fun _ _ _ _ _ => True)
  q _ := fullShare
  owed _ := 0

theorem datF_A (c : Dev nD) (w : Fin cfg0.W) : (datF m 0 c).A w = V m c (Pipeline.arrRef spec0 w) := by
  dsimp only [datF]

theorem datF_after0 (c : Dev nD) (t : Fin cfg0.N) : (datF m 0 c).after 0 t = iblk m c 0 t := by dsimp only [datF]
theorem datF_after1 (c : Dev nD) (t : Fin cfg0.N) : (datF m 0 c).after 1 t = iblk m c 1 t := by dsimp only [datF]
theorem datF_after2 (c : Dev nD) (t : Fin cfg0.N) : (datF m 0 c).after 2 t = iblk m c 2 t := by dsimp only [datF]
theorem datF_after3 (c : Dev nD) (t : Fin cfg0.N) : (datF m 0 c).after 3 t = iblk m c 3 t := by dsimp only [datF]
theorem datF_after4 (c : Dev nD) (t : Fin cfg0.N) : (datF m 0 c).after 4 t = iblk m c 4 t := by dsimp only [datF]
theorem datF_before0 (c : Dev nD) (t : Fin cfg0.N) (d) : (datF m 0 c).before 0 t d = iblk m c 0 t :=
  before0_0_of m (datF m 0 c) (datF_A m c 0) (datF_after0 m c) t d
theorem datF_before1 (c : Dev nD) (t : Fin cfg0.N) (d) : (datF m 0 c).before 1 t d = iblk m c 1 t :=
  before0_1_of m (datF m 0 c) (datF_A m c 1) (datF_after1 m c) t d
theorem datF_before2 (c : Dev nD) (t : Fin cfg0.N) (d) : (datF m 0 c).before 2 t d = iblk m c 2 t :=
  before0_2_of m (datF m 0 c) (datF_A m c 2) (datF_after2 m c) t d
theorem datF_before3 (c : Dev nD) (t : Fin cfg0.N) (d) : (datF m 0 c).before 3 t d = iblk m c 3 t :=
  before0_3_of m (datF m 0 c) (datF_A m c 3) (datF_after3 m c) t d
theorem datF_before4 (c : Dev nD) (t : Fin cfg0.N) (d) : (datF m 0 c).before 4 t d = iblk m c 4 t :=
  before0_4_of m (datF m 0 c) (datF_A m c 4) (datF_after4 m c) t d

/-- What the body is called with at a point. -/
def preF (c : Dev nD) (t : Fin cfg0.N) : sProp 𝕄 :=
  iprop((datF m 0 c).Φ t.castSucc ∗ (datF m 0 c).owesAt () t.castSucc
    ∗ (∃ d, owns (c : Thread nD τ) (ms0_0 t) fullShare ((datF m 0 c).before 0 t d))
    ∗ (∃ d, owns (c : Thread nD τ) (ms0_1 t) fullShare ((datF m 0 c).before 1 t d))
    ∗ (∃ d, owns (c : Thread nD τ) (ms0_2 t) fullShare ((datF m 0 c).before 2 t d))
    ∗ (∃ d, owns (c : Thread nD τ) (ms0_3 t) fullShare ((datF m 0 c).before 3 t d))
    ∗ (∃ d, owns (c : Thread nD τ) (ms0_4 t) fullShare ((datF m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- What it returns. -/
def postF (c : Dev nD) (t : Fin cfg0.N) : sProp 𝕄 :=
  iprop((datF m 0 c).Φ t.succ ∗ (datF m 0 c).owesAt () t.succ
    ∗ (datF m 0 c).leavesExact 0 t
    ∗ (datF m 0 c).leavesExact 1 t
    ∗ (datF m 0 c).leavesExact 2 t
    ∗ (datF m 0 c).leavesExact 3 t
    ∗ (datF m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d))

/-- Any contents at all. -/
abbrev anyV {s : Shape} {e : EltTy} : Vec F s e → Prop := fun _ => True

/-- The body at any point, the outputs at anything. -/
theorem bodyAny (c : Dev nD) (t : Fin cfg0.N) (OW : sProp 𝕄) (x1 x2 x3 x4 x5) :
    iprop(PhiP c (fun _ _ _ _ _ => True) ∗ OW ∗ WinP (F := F) c t x1 x2 x3 x4 x5 anyV anyV anyV) ⊢ wp frame (wpE (defs₀ (F := F)) Variants.none c none) Set.univ (bodyAt0 t)
      (fun _ => iprop(PhiP c (fun _ _ _ _ _ => True) ∗ OW ∗ WinP c t x1 x2 x3 x4 x5 anyV anyV anyV)) := by
  have hN : t.val < 24 := lt_of_lt_of_eq t.isLt (show cfg0.N = 24 from N_0)
  by_cases hA : t.val < 12
  · by_cases h0 : t.val % 24 = 0
    · exact bodyA (A6 := anyV) (A7 := anyV) (A8 := anyV) (P' := fun _ _ _ _ _ => True) c t x1 x2 x3 x4 x5 _ _ _ _ OW ((hcond0_0 t).mpr h0) ((hcond0_1 t).mpr hA) (fun h => by have := (hcond0_2 t).mp h; omega) (fun h => by have := (hcond0_3 t).mp h; omega)
        (fun _ _ _ _ _ _ _ _ _ _ => ⟨trivial, trivial⟩) (fun _ _ => trivial) (fun _ _ => trivial)
    · exact bodyB (A6 := anyV) (A7 := anyV) (A8 := anyV) (P' := fun _ _ _ _ _ => True) c t x1 x2 x3 x4 x5 _ _ _ _ OW (fun h => h0 ((hcond0_0 t).mp h)) ((hcond0_1 t).mpr hA) (fun h => by have := (hcond0_2 t).mp h; omega) (fun h => by have := (hcond0_3 t).mp h; omega)
        (fun _ _ _ _ _ _ _ => ⟨trivial, trivial⟩) (fun _ _ => trivial) (fun _ _ => trivial)
  · by_cases h2 : t.val % 24 = 12
    · exact bodyC (A6 := anyV) (A7 := anyV) (A8 := anyV) (P' := fun _ _ _ _ _ => True) c t x1 x2 x3 x4 x5 _ _ _ _ OW (fun h => by have := (hcond0_0 t).mp h; omega) (fun h => hA ((hcond0_1 t).mp h)) ((hcond0_2 t).mpr h2) ((hcond0_3 t).mpr (by omega))
        (fun _ _ _ _ _ _ _ _ _ => ⟨trivial, trivial, trivial⟩) (fun _ _ => trivial)
    · exact bodyD (A6 := anyV) (A7 := anyV) (A8 := anyV) (P' := fun _ _ _ _ _ => True) c t x1 x2 x3 x4 x5 _ _ _ _ OW (fun h => by have := (hcond0_0 t).mp h; omega) (fun h => hA ((hcond0_1 t).mp h)) (fun h => h2 ((hcond0_2 t).mp h)) ((hcond0_3 t).mpr (by omega))
        (fun _ _ _ _ _ _ _ => ⟨trivial, trivial⟩) (fun _ _ => trivial) (fun _ _ => trivial)

set_option maxHeartbeats 4000000 in
theorem sound_F (c : Dev nD) (t : Fin cfg0.N) :
    preF m c t ⊢ wp frame (wpE (defs₀ (F := F)) Variants.none c none) Set.univ (bodyAt0 t) (fun _ => postF m c t) := by
  refine triple_restated (bodyAny c t ((datF m 0 c).owesAt () t.castSucc) (iblk m c 0 t) (iblk m c 1 t) (iblk m c 2 t) (iblk m c 3 t) (iblk m c 4 t)) rfl ?_ fun _ => ?_
  · unfold preF WinP
    simp only [datF_before0, datF_before1, datF_before2, datF_before3, datF_before4]
    rw [show (datF m 0 c).Φ t.castSucc = PhiP c (fun _ _ _ _ _ => True) from rfl]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iexists d5; isplitr; · ipureintro; exact trivial
      iexact H5
    isplitl [H6]
    · iexists d6; isplitr; · ipureintro; exact trivial
      iexact H6
    iexists d7; isplitr; · ipureintro; exact trivial
    iexact H7
  · unfold postF WinP
    rw [show (datF m 0 c).leavesExact 0 t = owns (c : Thread nD τ) (ms0_0 t) fullShare ((datF m 0 c).after 0 t) from by
      unfold Dat.leavesExact; rw [liveAt0_0 t], datF_after0]
    rw [show (datF m 0 c).leavesExact 1 t = owns (c : Thread nD τ) (ms0_1 t) fullShare ((datF m 0 c).after 1 t) from by
      unfold Dat.leavesExact; rw [liveAt0_1 t], datF_after1]
    rw [show (datF m 0 c).leavesExact 2 t = owns (c : Thread nD τ) (ms0_2 t) fullShare ((datF m 0 c).after 2 t) from by
      unfold Dat.leavesExact; rw [liveAt0_2 t], datF_after2]
    rw [show (datF m 0 c).leavesExact 3 t = owns (c : Thread nD τ) (ms0_3 t) fullShare ((datF m 0 c).after 3 t) from by
      unfold Dat.leavesExact; rw [liveAt0_3 t], datF_after3]
    rw [show (datF m 0 c).leavesExact 4 t = owns (c : Thread nD τ) (ms0_4 t) fullShare ((datF m 0 c).after 4 t) from by
      unfold Dat.leavesExact; rw [liveAt0_4 t], datF_after4]
    rw [show (datF m 0 c).owesAt () t.succ = (datF m 0 c).owesAt () t.castSucc from rfl, show (datF m 0 c).Φ t.succ = PhiP c (fun _ _ _ _ _ => True) from rfl]
    iintro ⟨HΦ, Ho, H0, H1, H2, H3, H4, ⟨%d5, -, H5⟩, ⟨%d6, -, H6⟩, ⟨%d7, -, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexists d5; iexact H5
    isplitl [H6]; · iexists d6; iexact H6
    iexists d7; iexact H7

/-- The body table's row at a point. -/
theorem row_at (t : Fin cfg0.N) :
    defs₀ (F := F) .tc cfg0.body (cfg0.bodyArgs t (cfg0.slots t)) = bodyAt0 t := by
  unfold defs₀; rw [Defs.onTc_tc]

theorem obl_F (c : Dev nD) : BodyObligation (datF (F := F) m 0 c) (defs₀ (F := F)) Variants.none () Set.univ outWin := fun t => by
  rw [bigSep_W0, bigSep_W0, row_at]
  exact triple_restated (sound_F m c t) rfl .rfl fun _ => .rfl

/-- The kept buffers at anything are what the region is handed. -/
theorem PhiP_in (c : Dev nD) : (Pipeline.ΦA spec0 c : sProp 𝕄) ⊢ PhiP c (fun _ _ _ _ _ => True) := by
  rw [PhiA0_eq]; unfold PhiP
  iintro ⟨⟨⟨%x9, H9⟩, ⟨%x10, H10⟩, H11, ⟨%x12, H12⟩, ⟨%x13, H13⟩, ⟨%x14, H14⟩⟩, Hg⟩
  iexists x9; iexists x10; iexists x12; iexists x13; iexists x14
  isplitr; · ipureintro; exact trivial
  isplitr [Hg]
  · isplitl [H9]; · iexact H9
    isplitl [H10]; · iexact H10
    isplitl [H11]; · iexact H11
    isplitl [H12]; · iexact H12
    isplitl [H13]; · iexact H13
    iexact H14
  iexact Hg

/-- And give it back. -/
theorem PhiP_out (c : Dev nD) (Q) : (PhiP c Q : sProp 𝕄) ⊢ Pipeline.ΦA spec0 c := by
  rw [PhiA0_eq]; unfold PhiP
  iintro ⟨%x9, %x10, %x12, %x13, %x14, -, ⟨H9, H10, H11, H12, H13, H14⟩, Hg⟩
  isplitr [Hg]
  · isplitl [H9]; · iexists x9; iexact H9
    isplitl [H10]; · iexists x10; iexact H10
    isplitl [H11]; · iexact H11
    isplitl [H12]; · iexists x12; iexact H12
    isplitl [H13]; · iexists x13; iexact H13
    iexists x14; iexact H14
  iexact Hg

set_option backward.isDefEq.respectTransparency.types false in
theorem run_F : θ_run defs (onTc (τ := τ) (main (F := F))) (s₀ m ρ) (fun r => (Pipeline.RDat.FramePost (cfgs 0) (fun c => (datF m 0 c).toRForget outWin) (V m)) r ∧ r.2.sem = fun _ => 0) :=
  Pipeline.θ_run_frame_track_forget (Q' := _) cfgs (datF m) (0 : Fin 1) launch0 defs₀ Variants.none outWin m ρ main
    (hbody := fun c => (obl_F m c).loose) (hshare := fun c => (datF m 0 c).share_full fun _ => rfl)
    (howed := fun _ _ => rfl) (V := V m) (hmain := hmain m Variants.none) (hA := datF_A m) (hin := fun c => PhiP_in c) (hout := fun c => PhiP_out c _)

/-- The argument arrays end as they began, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
     ⟨((h.1 c).2 main_arg0 (Pipeline.mem_restRefs_of main_arg0 (by decide) (by decide))).trans (V_main_arg0 m c),
      (h.1.arr_in c 2 rfl).trans ((datF_A m c 2).trans (V_main_arg1 m c)),
      (h.1.arr_in c 3 rfl).trans ((datF_A m c 3).trans (V_main_arg2 m c)),
      (h.1.arr_in c 1 rfl).trans ((datF_A m c 1).trans (V_main_arg3 m c)),
      (h.1.arr_in c 4 rfl).trans ((datF_A m c 4).trans (V_main_arg4 m c))⟩, h.2⟩) (run_F m ρ)

end Cert.KernelIdeal.Gen

end
-- ==== Proof.KernelFrame.lean ====
module
public import proofs.«01_k».proof.Defs
public import proofs.«01_k».proof.Proof.Gen.Kernel
public import proofs.«01_k».proof.Proof.Gen.KernelIdeal
public import proofs.«01_k».proof.Proof.KFrame
@[expose] public section
open Idealize.ShloMosaic Idealize.SL.Sem
namespace Cert.Proof
/-- The bit-exact program and the idealized one are the same text: the frame of the one is the frame of the other. -/
theorem quiescent_same : @Cert.quiescent_Kernel Cert.Kernel.Gen.facts =
  (letI := Cert.KernelIdeal.Gen.facts
   ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)) := by sl_kernel_rfl
/-- The bit-exact program's frame. -/
theorem frame_kernel : @Cert.quiescent_Kernel Cert.Kernel.Gen.facts := by
  rw [quiescent_same]
  exact fun m g _ => Cert.KernelIdeal.Gen.frame m g
end Cert.Proof
end
-- ==== Proof.Dec.lean ====
module

public import proofs.«01_k».proof.Proof.Base
public import Idealize.ShloMosaic.Lib.Pointwise
public import Idealize.ShloMosaic.Lib.BitcastFour
public import Idealize.ShloMosaic.Lib.ValueIdx

@[expose] public section

set_option maxRecDepth 16384

noncomputable section

namespace Cert.KernelIdeal.Gen

open Idealize.ShloMosaic Idealize.ShloMosaic.TcCoe Idealize.ShloMosaic.Tactic
open Idealize.ShloMosaic.ValueIdx hiding ix1 ix2 ix3 ix4

/-- The code of a packed byte: its low or its high four bits, as a word. -/
def nib (b : BitVec 8) (j : Nat) : BitVec 32 := (if j % 2 = 0 then b &&& 15#8 else b >>> 4).setWidth 32

/-- The words of the codes at bit offset `q` of each half word. -/
def codesAt (p : IVec S8x128 32) : IVec S16x128 32 :=
  extsi 32 (bitcast S16x128 16 (andi p (broadcast S8x128 983055#32)) bitcasts_S8x128_w32_S16x128_w16) natLt_16_32

theorem ix2_bridge {n0 n1 : Nat} (a : Fin n0) (b : Fin n1) : ValueIdx.ix2 a b = ix2 a b := by
  funext i; match i with | ⟨0, _⟩ => rfl | ⟨1, _⟩ => rfl

theorem mask_bit (h : Nat) (hh : h < 2) (i : Nat) (hi : i < 16) : (983055#32 : BitVec 32).getLsbD (16 * h + i) = decide (i < 4) := by
  interval_cases h <;> interval_cases i <;> rfl

theorem codesAt_apply (p : IVec S8x128 32) (s : Fin 16) (l : Fin 128) :
    codesAt p (ix2 s l) = ((p (ix2 ⟨s.val / 2, by omega⟩ l) >>> (16 * (s.val % 2))) &&& 15#32) := by
  have hb : ∀ i, i < 16 → (bitcast S16x128 16 (andi p (broadcast S8x128 983055#32)) bitcasts_S8x128_w32_S16x128_w16 (ix2 s l)).getLsbD i
      = ((p (ix2 ⟨s.val / 2, by omega⟩ l)).getLsbD (16 * (s.val % 2) + i) && decide (i < 4)) := by
    intro i hi
    rw [bitcast_getLsbD _ _ _ _ hi (by decide)]
    have hr : S16x128.row (ix2 s l) = s.val := rfl
    have e1 : (s.val * 16 + i) % 32 = 16 * (s.val % 2) + i := by omega
    have e2 : (s.val * 16 + i) / 32 = s.val / 2 := by omega
    have hidx : Shape.Bitcasts.srcIdx bitcasts_S8x128_w32_S16x128_w16 (ix2 s l) ((S16x128.row (ix2 s l) * 16 + i) / 32)
        (fun a ha => (Nat.div_lt_iff_lt_mul (by decide)).2 (Shape.Bitcasts.pos_lt bitcasts_S8x128_w32_S16x128_w16 (ix2 s l) i hi a ha))
        = ix2 ⟨s.val / 2, by omega⟩ l := by
      funext a
      apply Fin.ext
      match a with
      | ⟨0, h0⟩ => rw [Shape.Bitcasts.srcIdx_row _ _ _ _ _ rfl, hr, e2]; rfl
      | ⟨1, h1⟩ => rw [Shape.Bitcasts.srcIdx_other _ _ _ _ _ (by show ¬ (1 + 2 = 2); omega)]; rfl
    rw [hidx, hr, e1]
    show (IntOp.andi (p _) (983055#32)).getLsbD _ = _
    unfold IntOp.andi
    rw [BitVec.getLsbD_and, mask_bit _ (Nat.mod_lt _ (by decide)) i hi]
  apply BitVec.eq_of_getLsbD_eq
  intro i hi
  show (BitVec.signExtend 32 (bitcast S16x128 16 (andi p (broadcast S8x128 983055#32)) bitcasts_S8x128_w32_S16x128_w16 (ix2 s l))).getLsbD i = _
  rw [BitVec.getLsbD_signExtend, BitVec.msb_eq_getLsbD_last, hb 15 (by decide)]
  have h15 : (15#32 : BitVec 32).getLsbD i = decide (i < 4) := by interval_cases i <;> rfl
  rw [BitVec.getLsbD_and, BitVec.getLsbD_ushiftRight, h15]
  by_cases h : i < 16
  · rw [if_pos h, hb i h]; simp [hi]
  · rw [if_neg h]
    have : ¬ i < 4 := by omega
    simp [this]

/-- The packed words shifted by `4 j`. -/
theorem packed_code (v : IVec S32x128 8) (j : Fin 4) (s : Fin 16) (l : Fin 128) :
    (((bitcast S8x128 32 v bitcasts_S32x128_w8_S8x128_w32 (ix2 ⟨s.val / 2, by omega⟩ l)) >>> (4 * j.val)) >>> (16 * (s.val % 2))) &&& 15#32
      = nib (v (ix2 ⟨2 * s.val + j.val / 2, by omega⟩ l)) j.val := by
  apply BitVec.eq_of_getLsbD_eq
  intro i hi
  have h15 : (15#32 : BitVec 32).getLsbD i = decide (i < 4) := by interval_cases i <;> rfl
  rw [BitVec.getLsbD_and, BitVec.getLsbD_ushiftRight, BitVec.getLsbD_ushiftRight, h15]
  by_cases h4 : i < 4
  · rw [← ix2_bridge, bitcast_8_32_getLsbD_ix2 v _ ⟨s.val / 2, by omega⟩ l (4 * j.val + (16 * (s.val % 2) + i)) (by omega)
      ⟨2 * s.val + j.val / 2, by omega⟩ (by show 2 * s.val + j.val / 2 = 4 * (s.val / 2) + _; omega)]
    rw [ix2_bridge]
    have e : (4 * j.val + (16 * (s.val % 2) + i)) % 8 = 4 * (j.val % 2) + i := by omega
    rw [e]
    unfold nib
    rw [BitVec.getLsbD_setWidth]
    have h15' : (15#8 : BitVec 8).getLsbD i = decide (i < 4) := by interval_cases i <;> rfl
    by_cases hj : j.val % 2 = 0
    · rw [if_pos hj, hj, BitVec.getLsbD_and, h15']; simp [h4, hi]
    · have hj1 : j.val % 2 = 1 := by omega
      rw [if_neg hj, hj1, BitVec.getLsbD_ushiftRight]; simp [h4, hi]
  · unfold nib
    rw [BitVec.getLsbD_setWidth]
    by_cases hj : j.val % 2 = 0
    · rw [if_pos hj, BitVec.getLsbD_and]
      by_cases h8 : i < 8
      · have h15' : (15#8 : BitVec 8).getLsbD i = decide (i < 4) := by interval_cases i <;> rfl
        rw [h15']; simp [h4]
      · rw [BitVec.getLsbD_of_ge _ i (by omega)]; simp [h4]
    · rw [if_neg hj, BitVec.getLsbD_ushiftRight, BitVec.getLsbD_of_ge _ (4 + i) (by omega)]; simp [h4]

theorem nib_lt (b : BitVec 8) (j : Nat) : (nib b j).toNat < 16 := by
  unfold nib
  rw [BitVec.toNat_setWidth]
  have hb := b.isLt
  split
  · rw [BitVec.toNat_and]
    have : b.toNat &&& (15#8).toNat ≤ (15#8).toNat := Nat.and_le_right
    have h15 : (15#8).toNat = 15 := rfl
    rw [h15] at this ⊢
    exact lt_of_le_of_lt (Nat.mod_le _ _) (by omega)
  · rw [BitVec.toNat_ushiftRight, Nat.shiftRight_eq_div_pow]
    exact lt_of_le_of_lt (Nat.mod_le _ _) (by omega)

variable {F : FTy → Type} [FloatOps F]

/-- The table of a block of 64 rows: the sixteen values times the block's scale. -/
def tabF (am1 : Vec F S1x128 .f32) : FVec F S16x128 .bf16 := k0_pay24 (iota .tc S16x128 32 [0] iota_S16x128_d0_w32) k0_pay21 k0_pay22 am1

/-- What the decode stores for sixteen rows, from a table and the words of the codes. -/
def storeF (tab : FVec F S16x128 .bf16) (p : IVec S8x128 32) : Vec F S1x16x128 .bf16 :=
  shapeCast S1x16x128 (shapeCast S16x128 (dynamicGather 0 tab (shapeCast S16x128 (shapeCast S16x128x1 (codesAt p) shapeCasts_S16x128_S16x128x1) shapeCasts_S16x128x1_S16x128)) shapeCasts_S16x128_S16x128) shapeCasts_S16x128_S1x16x128

/-- The packed words shifted right by `4 j`. -/
def shiftF (v : IVec S32x128 8) : Fin 4 → IVec S8x128 32
  | 0 => bitcast S8x128 32 v bitcasts_S32x128_w8_S8x128_w32
  | 1 => shrui (bitcast S8x128 32 v bitcasts_S32x128_w8_S8x128_w32) (broadcast S8x128 4#32)
  | 2 => shrui (bitcast S8x128 32 v bitcasts_S32x128_w8_S8x128_w32) (broadcast S8x128 8#32)
  | 3 => shrui (bitcast S8x128 32 v bitcasts_S32x128_w8_S8x128_w32) (broadcast S8x128 12#32)

theorem shiftF_apply (v : IVec S32x128 8) (j : Fin 4) (r : Fin 8) (l : Fin 128) :
    shiftF v j (ix2 r l) = (bitcast S8x128 32 v bitcasts_S32x128_w8_S8x128_w32 (ix2 r l)) >>> (4 * j.val) := by
  match j with
  | 0 => simp [shiftF]
  | 1 => rfl
  | 2 => rfl
  | 3 => rfl

theorem storeF_apply (tab : FVec F S16x128 .bf16) (v : IVec S32x128 8) (j : Fin 4) (s : Fin 16) (l : Fin 128) (z : Fin 1) :
    storeF tab (shiftF v j) (ix3 z s l)
      = tab (ix2 ⟨(nib (v (ix2 ⟨2 * s.val + j.val / 2, by omega⟩ l)) j.val).toNat, nib_lt _ _⟩ l) := by
  have hc : codesAt (shiftF v j) (ix2 s l) = nib (v (ix2 ⟨2 * s.val + j.val / 2, by omega⟩ l)) j.val := by
    rw [codesAt_apply, shiftF_apply, packed_code]
  unfold storeF
  pointwise
  congr 2
  apply Fin.ext
  show (codesAt (shiftF v j) (ix2 s l)).toNat % 16 = _
  rw [hc, Nat.mod_eq_of_lt (nib_lt _ _)]

/-- The words of the sixteen values. -/
def nfBits : Fin 16 → BitVec 32 := ![0xBF800000#32, 0xBF3239B1#32, 0xBF066B30#32, 0xBECA32A0#32, 0xBE91A24D#32, 0xBE3D353F#32, 0xBDBA7871#32, 0x00000000#32,
  0x3DA2FAFF#32, 0x3E24CAE3#32, 0x3E7C04DD#32, 0x3EAD033A#32, 0x3EE1A4B8#32, 0x3F1007AB#32, 0x3F3913B3#32, 0x3F800000#32]

/-- The sixteen values. -/
def nf4 (c : Fin 16) : Ideal .f32 := Scalar.ofBits .f32 (nfBits c)

theorem tabF_apply (am1 : Vec Ideal S1x128 .f32) (c : Fin 16) (l : Fin 128) :
    tabF (F := Ideal) am1 (ix2 c l) = nf4 c * am1 (ix2 0 l) := by
  unfold tabF
  pointwise [k0_pay24, k0_pay23, k0_pay22, k0_pay21]
  fin_cases c <;> simp [nf4, nfBits, Scalar.select, IntOp.cmpi, Scalar.ofBits, FloatOps.ofBits]

end Cert.KernelIdeal.Gen

end
-- ==== Proof.Pieces.lean ====
module

public import proofs.«01_k».proof.Proof.Run2
public import proofs.«01_k».proof.Proof.Dec

@[expose] public section

set_option maxRecDepth 16384

noncomputable section

namespace Cert.KernelIdeal.Gen

open Idealize.ShloMosaic Idealize.ShloMosaic.TcCoe Idealize.ShloMosaic.Tactic
open Idealize.ShloMosaic.ValueIdx hiding ix1 ix2 ix3 ix4

variable {F : FTy → Type} [FloatOps F]

/-- The block of columns (of 128) that piece `k` of the decode works on. -/
abbrev pcG (k : Nat) : Nat := 4 * (k / 256 % 4) + k / 64 % 4

theorem pc_wp_inb (k : Nat) : ∀ a, (![32 * (k / 4 % 16), 128 * pcG k] : Fin 2 → Nat) a + S32x128.size a ≤ S512x2048.size a
  | ⟨0, _⟩ => by show 32 * (k / 4 % 16) + 32 ≤ 512; omega
  | ⟨1, _⟩ => by show 128 * (4 * (k / 256 % 4) + k / 64 % 4) + 128 ≤ 2048; omega

theorem pc_am_inb (k : Nat) : ∀ a, (![k / 4 % 16, 128 * pcG k] : Fin 2 → Nat) a + S1x128.size a ≤ S16x2048.size a
  | ⟨0, _⟩ => by show k / 4 % 16 + 1 ≤ 16; omega
  | ⟨1, _⟩ => by show 128 * (4 * (k / 256 % 4) + k / 64 % 4) + 128 ≤ 2048; omega

theorem pc_w_inb (k : Nat) : ∀ a, (![k / 256 % 4, 16 * (k % 64), 128 * (k / 64 % 4)] : Fin 3 → Nat) a + S1x16x128.size a ≤ S4x1024x512.size a
  | ⟨0, _⟩ => by show k / 256 % 4 + 1 ≤ 4; omega
  | ⟨1, _⟩ => by show 16 * (k % 64) + 16 ≤ 1024; omega
  | ⟨2, _⟩ => by show 128 * (k / 64 % 4) + 128 ≤ 512; omega

/-- Piece `k` of the decode: sixteen rows of 128 columns, from the packed words and the scales of one block. -/
def pc (arg3 : Memref sig .tc .vmem S512x2048 .i8) (harg3 : arg3.IsWhole) (arg4 : Memref sig .tc .vmem S16x2048 .f32) (harg4 : arg4.IsWhole)
    (x3 : Vec F S512x2048 .i8) (x4 : Vec F S16x2048 .f32) (k : Nat) : View.Piece (Elt F) S4x1024x512 .bf16 :=
  ⟨Rect.unit (s := S4x1024x512) ![k / 256 % 4, 16 * (k % 64), 128 * (k / 64 % 4)] S1x16x128.size (pc_w_inb k),
    storeF (tabF (View.readAt (Elt F) arg4.view (Rect.unit (s := S16x2048) ![k / 4 % 16, 128 * pcG k] S1x128.size (pc_am_inb k)).toLoadRect (harg4.unread x4)))
      (shiftF (View.readAt (Elt F) arg3.view (Rect.unit (s := S512x2048) ![32 * (k / 4 % 16), 128 * pcG k] S32x128.size (pc_wp_inb k)).toLoadRect (harg3.unread x3))
        ⟨k % 4, Nat.mod_lt _ (by decide)⟩)⟩

/-- The first `n` pieces, the last one first. -/
def pcs (arg3 : Memref sig .tc .vmem S512x2048 .i8) (harg3 : arg3.IsWhole) (arg4 : Memref sig .tc .vmem S16x2048 .f32) (harg4 : arg4.IsWhole)
    (x3 : Vec F S512x2048 .i8) (x4 : Vec F S16x2048 .f32) : Nat → List (View.Piece (Elt F) S4x1024x512 .bf16)
  | 0 => []
  | n + 1 => pc arg3 harg3 arg4 harg4 x3 x4 n :: pcs arg3 harg3 arg4 harg4 x3 x4 n

variable (c : Dev nD) (arg3 : Memref sig .tc .vmem S512x2048 .i8) (harg3 : arg3.IsWhole) (arg4 : Memref sig .tc .vmem S16x2048 .f32) (harg4 : arg4.IsWhole)
    (x3 : Vec F S512x2048 .i8) (x4 : Vec F S16x2048 .f32)

theorem H11_256_eq : run2.sl.H11_256 c arg3 harg3 arg4 harg4 x3 x4 = pcs arg3 harg3 arg4 harg4 x3 x4 256 := by sl_kernel_rfl
theorem H11_512_eq : run2.sl.H11_512 c arg3 harg3 arg4 harg4 x3 x4 = pcs arg3 harg3 arg4 harg4 x3 x4 512 := by sl_kernel_rfl
theorem H11_768_eq : run2.sl.H11_768 c arg3 harg3 arg4 harg4 x3 x4 = pcs arg3 harg3 arg4 harg4 x3 x4 768 := by sl_kernel_rfl
theorem H11_1024_eq : run2.sl.H11_1024 c arg3 harg3 arg4 harg4 x3 x4 = pcs arg3 harg3 arg4 harg4 x3 x4 1024 := by sl_kernel_rfl

end Cert.KernelIdeal.Gen

end
-- ==== Proof.Vals2.lean ====
module

public import proofs.«01_k».proof.Proof.Pieces
public import Idealize.ShloMosaic.Lib.WholeRead

@[expose] public section

set_option maxRecDepth 16384

noncomputable section

namespace Cert.KernelIdeal.Gen

open Idealize.ShloMosaic Idealize.ShloMosaic.TcCoe Idealize.ShloMosaic.Tactic
open Idealize.ShloMosaic.ValueIdx hiding ix1 ix2 ix3 ix4 eq_ix1 eq_ix2 eq_ix3 eq_ix4

/-- The weight of row `k` and column `n` that the packed bytes and the scales stand for. -/
def decW (x3 : Vec Ideal S512x2048 .i8) (x4 : Vec Ideal S16x2048 .f32) (k : Fin 1024) (n : Fin 2048) : EReal :=
  nf4 ⟨(nib (x3 (ix2 ⟨32 * (k.val / 64) + 2 * (k.val % 16) + k.val / 16 % 4 / 2, by omega⟩ n)) (k.val / 16 % 4)).toNat, nib_lt _ _⟩
    * x4 (ix2 ⟨k.val / 64, by omega⟩ n)

/-- What the four planes of decoded weights hold. -/
def planeW (x3 : Vec Ideal S512x2048 .i8) (x4 : Vec Ideal S16x2048 .f32) : S4x1024x512.Idx → EReal :=
  fun y => decW x3 x4 (y 1) ⟨512 * (y 0).val + (y 2).val, by have h0 : (y 0).val < 4 := (y 0).isLt; have h2 : (y 2).val < 512 := (y 2).isLt; omega⟩

theorem unit_idx2 {n0 n1 m0 m1 o0 o1 : Nat} (inb : ∀ a, (![o0, o1] : Fin 2 → Nat) a + (⟨2, ![m0, m1]⟩ : Shape).size a ≤ (⟨2, ![n0, n1]⟩ : Shape).size a)
    (a : Fin m0) (b : Fin m1) (ha : o0 + a.val < n0) (hb : o1 + b.val < n1) :
    (Rect.unit (s := ⟨2, ![n0, n1]⟩) ![o0, o1] (⟨2, ![m0, m1]⟩ : Shape).size inb).toLoadRect.idx (ix2 a b) = ix2 ⟨o0 + a.val, ha⟩ ⟨o1 + b.val, hb⟩ := by
  funext k
  apply Fin.ext
  match k with
  | ⟨0, _⟩ => show o0 + 1 * a.val = o0 + a.val; omega
  | ⟨1, _⟩ => show o1 + 1 * b.val = o1 + b.val; omega

theorem unit_idx3 {n0 n1 n2 m0 m1 m2 o0 o1 o2 : Nat}
    (inb : ∀ a, (![o0, o1, o2] : Fin 3 → Nat) a + (⟨3, ![m0, m1, m2]⟩ : Shape).size a ≤ (⟨3, ![n0, n1, n2]⟩ : Shape).size a)
    (a : Fin m0) (b : Fin m1) (c : Fin m2) (ha : o0 + a.val < n0) (hb : o1 + b.val < n1) (hc : o2 + c.val < n2) :
    (Rect.unit (s := ⟨3, ![n0, n1, n2]⟩) ![o0, o1, o2] (⟨3, ![m0, m1, m2]⟩ : Shape).size inb).toLoadRect.idx (ix3 a b c)
      = ix3 ⟨o0 + a.val, ha⟩ ⟨o1 + b.val, hb⟩ ⟨o2 + c.val, hc⟩ := by
  funext k
  apply Fin.ext
  match k with
  | ⟨0, _⟩ => show o0 + 1 * a.val = o0 + a.val; omega
  | ⟨1, _⟩ => show o1 + 1 * b.val = o1 + b.val; omega
  | ⟨2, _⟩ => show o2 + 1 * c.val = o2 + c.val; omega

section
variable (c : Dev nD) (arg3 : Memref sig .tc .vmem S512x2048 .i8) (harg3 : arg3.IsWhole) (arg4 : Memref sig .tc .vmem S16x2048 .f32) (harg4 : arg4.IsWhole)
    (x3 : Vec Ideal S512x2048 .i8) (x4 : Vec Ideal S16x2048 .f32)

/-- Every piece of the decode is the planes' value on its rectangle. -/
theorem pc_apply (k : Nat) (x : (pc (F := Ideal) arg3 harg3 arg4 harg4 x3 x4 k).1.shape.Idx) :
    (pc (F := Ideal) arg3 harg3 arg4 harg4 x3 x4 k).2 x = planeW x3 x4 ((pc (F := Ideal) arg3 harg3 arg4 harg4 x3 x4 k).1.emb x) := by
  obtain ⟨z, s, l, rfl⟩ : ∃ (z : Fin 1) (s : Fin 16) (l : Fin 128), x = ix3 z s l := ⟨_, _, _, eq_ix3 x⟩
  have hL : (pc (F := Ideal) arg3 harg3 arg4 harg4 x3 x4 k).2 (ix3 z s l)
      = storeF (tabF (View.readAt (Elt Ideal) arg4.view (Rect.unit (s := S16x2048) ![k / 4 % 16, 128 * pcG k] S1x128.size (pc_am_inb k)).toLoadRect (harg4.unread x4)))
      (shiftF (View.readAt (Elt Ideal) arg3.view (Rect.unit (s := S512x2048) ![32 * (k / 4 % 16), 128 * pcG k] S32x128.size (pc_wp_inb k)).toLoadRect (harg3.unread x3))
        ⟨k % 4, Nat.mod_lt _ (by decide)⟩) (ix3 z s l) := rfl
  have hE : (pc (F := Ideal) arg3 harg3 arg4 harg4 x3 x4 k).1.emb (ix3 z s l)
      = ix3 (n0 := 4) (n1 := 1024) (n2 := 512) ⟨k / 256 % 4 + z.val, by omega⟩ ⟨16 * (k % 64) + s.val, by omega⟩ ⟨128 * (k / 64 % 4) + l.val, by omega⟩ :=
    unit_idx3 (pc_w_inb k) z s l _ _ _
  rw [hL, hE, storeF_apply, tabF_apply, harg4.readAt_unread, harg3.readAt_unread]
  unfold planeW decW
  rw [unit_idx2 (pc_am_inb k) 0 l (by show _ + 0 < 16; omega) (by show 128 * (4 * (k / 256 % 4) + k / 64 % 4) + l.val < 2048; omega)]
  rw [unit_idx2 (pc_wp_inb k) _ l (by show 32 * (k / 4 % 16) + (2 * s.val + k % 4 / 2) < 512; omega) (by show 128 * (4 * (k / 256 % 4) + k / 64 % 4) + l.val < 2048; omega)]
  have hz : z.val = 0 := by omega
  have e1 : (16 * (k % 64) + s.val) / 16 % 4 = k % 4 := by omega
  have e2 : (16 * (k % 64) + s.val) / 64 = k / 4 % 16 := by omega
  have e3 : (16 * (k % 64) + s.val) % 16 = s.val := by omega
  have e4 : 512 * (k / 256 % 4 + z.val) + (128 * (k / 64 % 4) + l.val) = 128 * (4 * (k / 256 % 4) + k / 64 % 4) + l.val := by omega
  simp only [ix3_0, ix3_1, ix3_2, e1, e2, e3, e4]
  congr 6
  exact congrArg₂ ix2 (Fin.ext (Nat.add_assoc _ _ _).symm) rfl

theorem pc_mem {k n : Nat} (h : k < n) : pc (F := Ideal) arg3 harg3 arg4 harg4 x3 x4 k ∈ pcs (F := Ideal) arg3 harg3 arg4 harg4 x3 x4 n := by
  induction n with
  | zero => omega
  | succ n ih =>
    rcases Nat.lt_succ_iff_lt_or_eq.1 h with h | rfl
    · exact List.mem_cons_of_mem _ (ih h)
    · exact List.mem_cons_self

theorem pcs_apply (n : Nat) : ∀ p ∈ pcs (F := Ideal) arg3 harg3 arg4 harg4 x3 x4 n, ∀ x : p.1.shape.Idx, p.2 x = planeW x3 x4 (p.1.emb x) := by
  induction n with
  | zero => intro p hp; exact absurd hp List.not_mem_nil
  | succ n ih =>
    intro p hp
    rcases List.mem_cons.1 hp with rfl | hp
    · exact pc_apply arg3 harg3 arg4 harg4 x3 x4 n
    · exact ih p hp

theorem plane_inb (p : Fin 4) : ∀ a, (![p.val, 0, 0] : Fin 3 → Nat) a + S1x1024x512.size a ≤ S4x1024x512.size a
  | ⟨0, _⟩ => by show p.val + 1 ≤ 4; omega
  | ⟨1, _⟩ => by show 0 + 1024 ≤ 1024; omega
  | ⟨2, _⟩ => by show 0 + 512 ≤ 512; omega

/-- A load of plane `p` after its pieces reads the decoded weights. -/
theorem plane_readCov (arg11 : Memref sig .tc .vmem S4x1024x512 .bf16) (p : Fin 4) (z : Fin 1) (k : Fin 1024) (l : Fin 512) :
    arg11.view.readCov (pcs (F := Ideal) arg3 harg3 arg4 harg4 x3 x4 (256 * (p.val + 1)))
      (Rect.unit (s := S4x1024x512) ![p.val, 0, 0] S1x1024x512.size (plane_inb p)).toLoadRect (ix3 z k l)
      = decW x3 x4 k ⟨512 * p.val + l.val, by omega⟩ := by
  rw [View.readCov_eq_canon']
  have hi : (Rect.unit (s := S4x1024x512) ![p.val, 0, 0] S1x1024x512.size (plane_inb p)).toLoadRect.idx (ix3 z k l)
      = ix3 (n0 := 4) (n1 := 1024) (n2 := 512) p k l := by
    rw [unit_idx3 (plane_inb p) z k l (by omega) (by omega) (by omega)]
    have hz : z.val = 0 := by omega
    simp [hz]
  show View.canon _ ((Rect.unit (s := S4x1024x512) ![p.val, 0, 0] S1x1024x512.size (plane_inb p)).toLoadRect.idx (ix3 z k l)) = _
  rw [hi, View.canon_apply_of_pieces (planeW x3 x4) _ (pcs_apply arg3 harg3 arg4 harg4 x3 x4 _)]
  · rfl
  · refine ⟨_, pc_mem arg3 harg3 arg4 harg4 x3 x4 (k := 256 * p.val + 64 * (l.val / 128) + k.val / 16) (by omega), ?_⟩
    refine (Rect.mem_set_unit (inb := pc_w_inb _)).2 ?_
    intro a
    match a with
    | ⟨0, _⟩ => show (256 * p.val + 64 * (l.val / 128) + k.val / 16) / 256 % 4 ≤ p.val ∧ p.val < (256 * p.val + 64 * (l.val / 128) + k.val / 16) / 256 % 4 + 1; omega
    | ⟨1, _⟩ => show 16 * ((256 * p.val + 64 * (l.val / 128) + k.val / 16) % 64) ≤ k.val ∧ k.val < 16 * ((256 * p.val + 64 * (l.val / 128) + k.val / 16) % 64) + 16; omega
    | ⟨2, _⟩ => show 128 * ((256 * p.val + 64 * (l.val / 128) + k.val / 16) / 64 % 4) ≤ l.val ∧ l.val < 128 * ((256 * p.val + 64 * (l.val / 128) + k.val / 16) / 64 % 4) + 128; omega
end

/-- The two products of a block of columns, at an index. -/
theorem chunk_apply (a9 : Vec Ideal S256x1024 .bf16) (w : Vec Ideal S1x1024x512 .bf16) (a10 : Vec Ideal S256x16 .bf16) (lb : Vec Ideal S16x512 .bf16)
    (r : Fin 256) (l : Fin 512) :
    k0_pay1892 (F := Ideal) a9 w a10 lb (ix2 r l)
      = ((∑ k : Fin 1024, a9 (ix2 r k) * w (ix3 0 k l) : EReal) + ∑ j : Fin 16, a10 (ix2 r j) * lb (ix2 j l) : EReal) := by
  pointwise [k0_pay1892]

/-- A block of the output: the decoded weights' product and the low-rank product. -/
def Yf (x3 : Vec Ideal S512x2048 .i8) (x4 : Vec Ideal S16x2048 .f32) (x5 : Vec Ideal S16x2048 .bf16) (x9 : Vec Ideal S256x1024 .bf16)
    (x10 : Vec Ideal S256x16 .bf16) (r : Fin 256) (n : Fin 2048) : EReal :=
  (∑ k : Fin 1024, x9 (ix2 r k) * decW x3 x4 k n : EReal) + ∑ j : Fin 16, x10 (ix2 r j) * x5 (ix2 j n)

/-- The absolute value. -/
def absE (x : EReal) : EReal := x ⊔ -x

/-- The greatest of a start and the absolute values of four blocks of 128 columns. -/
def mx4 {F : FTy → Type} [FloatOps F] (d : FVec F S256x128 .f32) (y : FVec F S256x512 .f32) : FVec F S256x128 .f32 :=
  maximumf (maximumf (maximumf (maximumf d (absf (extractStridedSlice S256x128 ![0, 0] y slices_S256x512_o0_0_S256x128)))
    (absf (extractStridedSlice S256x128 ![0, 128] y slices_S256x512_o0_128_S256x128)))
    (absf (extractStridedSlice S256x128 ![0, 256] y slices_S256x512_o0_256_S256x128)))
    (absf (extractStridedSlice S256x128 ![0, 384] y slices_S256x512_o0_384_S256x128))

theorem mx4_apply (d : FVec Ideal S256x128 .f32) (y : FVec Ideal S256x512 .f32) (r : Fin 256) (l : Fin 128) :
    mx4 d y (ix2 r l) = (d (ix2 r l) ⊔ Finset.univ.sup fun g : Fin 4 => absE (y (ix2 r ⟨128 * g.val + l.val, by omega⟩)) : EReal) := by
  unfold mx4 absE
  pointwise
  have ha : ∀ x : Ideal .f32, FloatOps.absf x = ((x : EReal) ⊔ -(x : EReal) : EReal) := fun _ => rfl
  simp only [ha, Fin.univ_succ, Finset.sup_insert]
  simp [max_assoc]

/-- The greatest absolute value among the columns of lane `l` of a row. -/
def laneMax (Y : Fin 2048 → EReal) (l : Fin 128) : EReal := Finset.univ.sup fun g : Fin 16 => absE (Y ⟨128 * g.val + l.val, by omega⟩)

theorem laneMax_eq (Y : Fin 2048 → EReal) (l : Fin 128) (d : EReal) (y : Fin 4 → Fin 512 → EReal)
    (hy : ∀ p l', y p l' = Y ⟨512 * p.val + l'.val, by omega⟩) :
    (((d ⊔ Finset.univ.sup fun g : Fin 4 => absE (y 0 ⟨128 * g.val + l.val, by omega⟩)) ⊔ Finset.univ.sup fun g : Fin 4 => absE (y 1 ⟨128 * g.val + l.val, by omega⟩))
      ⊔ Finset.univ.sup fun g : Fin 4 => absE (y 2 ⟨128 * g.val + l.val, by omega⟩)) ⊔ (Finset.univ.sup fun g : Fin 4 => absE (y 3 ⟨128 * g.val + l.val, by omega⟩))
      = d ⊔ laneMax Y l := by
  have hle : ∀ p : Fin 4, (Finset.univ.sup fun g : Fin 4 => absE (y p ⟨128 * g.val + l.val, by omega⟩)) ≤ laneMax Y l := by
    intro p
    refine Finset.sup_le fun g _ => ?_
    rw [hy]
    refine le_trans (le_of_eq ?_) (Finset.le_sup (f := fun g : Fin 16 => absE (Y ⟨128 * g.val + l.val, by omega⟩)) (Finset.mem_univ (⟨4 * p.val + g.val, by omega⟩ : Fin 16)))
    congr 2
    exact Fin.ext (by show 512 * p.val + (128 * g.val + l.val) = 128 * (4 * p.val + g.val) + l.val; omega)
  refine le_antisymm (sup_le (sup_le (sup_le (sup_le le_sup_left ?_) ?_) ?_) ?_) (sup_le ?_ (Finset.sup_le fun g _ => ?_))
  · exact le_sup_of_le_right (hle 0)
  · exact le_sup_of_le_right (hle 1)
  · exact le_sup_of_le_right (hle 2)
  · exact le_sup_of_le_right (hle 3)
  · exact le_sup_of_le_left (le_sup_of_le_left (le_sup_of_le_left le_sup_left))
  · have key : ∀ p : Fin 4, p.val = g.val / 4 → absE (Y ⟨128 * g.val + l.val, by omega⟩) ≤ Finset.univ.sup fun g : Fin 4 => absE (y p ⟨128 * g.val + l.val, by omega⟩) := by
      intro p hp
      refine le_trans (le_of_eq ?_) (Finset.le_sup (f := fun g : Fin 4 => absE (y p ⟨128 * g.val + l.val, by omega⟩)) (Finset.mem_univ (⟨g.val % 4, by omega⟩ : Fin 4)))
      simp only [hy]
      congr 2
      exact Fin.ext (by show 128 * g.val + l.val = 512 * p.val + (128 * (g.val % 4) + l.val); omega)
    have h4 : g.val / 4 < 4 := by omega
    rcases (by omega : g.val / 4 = 0 ∨ g.val / 4 = 1 ∨ g.val / 4 = 2 ∨ g.val / 4 = 3) with h | h | h | h
    · exact le_sup_of_le_left (le_sup_of_le_left (le_sup_of_le_left (le_sup_of_le_right (key 0 h.symm))))
    · exact le_sup_of_le_left (le_sup_of_le_left (le_sup_of_le_right (key 1 h.symm)))
    · exact le_sup_of_le_left (le_sup_of_le_right (key 2 h.symm))
    · exact le_sup_of_le_right (key 3 h.symm)

end Cert.KernelIdeal.Gen

end
-- ==== Proof.Lists2.lean ====
module

public import proofs.«01_k».proof.Proof.Vals2

@[expose] public section

set_option maxRecDepth 16384

noncomputable section

namespace Cert.KernelIdeal.Gen

open Idealize.ShloMosaic Idealize.ShloMosaic.TcCoe Idealize.ShloMosaic.Tactic
open Idealize.ShloMosaic.ValueIdx hiding ix1 ix2 ix3 ix4 eq_ix1 eq_ix2 eq_ix3 eq_ix4

variable {F : FTy → Type} [FloatOps F]

theorem lb_inb (p : Fin 4) : ∀ a, (![0, 512 * p.val] : Fin 2 → Nat) a + S16x512.size a ≤ S16x2048.size a
  | ⟨0, _⟩ => by show 0 + 16 ≤ 16; omega
  | ⟨1, _⟩ => by show 512 * p.val + 512 ≤ 2048; omega

theorem y_inb (p : Fin 4) : ∀ a, (![0, 512 * p.val] : Fin 2 → Nat) a + S256x512.size a ≤ S256x2048.size a
  | ⟨0, _⟩ => by show 0 + 256 ≤ 256; omega
  | ⟨1, _⟩ => by show 512 * p.val + 512 ≤ 2048; omega

/-- The grid coordinate, as the kernel computes it. -/
def rowOf (i : grid0.Coords) : Nat := (Scalar.indexCast (BitVec.ofNat 32 (i 0).val) : Index).toNat

theorem rowOf_eq (i : grid0.Coords) : rowOf i = (i 0).val := by
  have hi : (i 0).val < 24 := (i 0).isLt
  show (BitVec.ofNat 32 (i 0).val).toNat = _
  rw [BitVec.toNat_ofNat]
  omega

theorem y32_inb (i : grid0.Coords) (hi : (i 0).val < 12) (p : Fin 4) : ∀ a, (![rowOf i, 0, 512 * p.val] : Fin 3 → Nat) a + S1x256x512.size a ≤ S12x256x2048.size a
  | ⟨0, _⟩ => by show rowOf i + 1 ≤ 12; rw [rowOf_eq]; omega
  | ⟨1, _⟩ => by show 0 + 256 ≤ 256; omega
  | ⟨2, _⟩ => by show 512 * p.val + 512 ≤ 2048; omega

section
variable (c : Dev nD) (i : grid0.Coords) (h : k0_cond2 i = 1#1) (arg1 : Memref sig .tc .vmem S256x1024 .bf16) (harg1 : arg1.IsWhole) (arg2 : Memref sig .tc .vmem S1024x16 .bf16) (harg2 : arg2.IsWhole) (arg3 : Memref sig .tc .vmem S512x2048 .i8) (harg3 : arg3.IsWhole) (arg4 : Memref sig .tc .vmem S16x2048 .f32) (harg4 : arg4.IsWhole) (arg5 : Memref sig .tc .vmem S16x2048 .bf16) (harg5 : arg5.IsWhole) (arg6 : Memref sig .tc .vmem S256x2048 .bf16) (harg6 : arg6.IsWhole) (arg7 : Memref sig .tc .vmem S256x2048 .fp8e4m3) (harg7 : arg7.IsWhole) (arg8 : Memref sig .tc .vmem S2x128 .f32) (harg8 : arg8.IsWhole) (arg9 : Memref sig .tc .vmem S256x1024 .bf16) (harg9 : arg9.IsWhole) (arg10 : Memref sig .tc .vmem S256x16 .bf16) (harg10 : arg10.IsWhole) (arg11 : Memref sig .tc .vmem S4x1024x512 .bf16) (harg11 : arg11.IsWhole) (arg12 : Memref sig .tc .vmem S12x256x2048 .f32) (harg12 : arg12.IsWhole) (arg13 : Memref sig .tc .vmem S256x128 .f32) (harg13 : arg13.IsWhole) (arg14 : Memref sig .tc .vmem S256x128 .f32) (harg14 : arg14.IsWhole)
    (x3 : Vec F S512x2048 .i8) (x4 : Vec F S16x2048 .f32) (x5 : Vec F S16x2048 .bf16) (x9 : Vec F S256x1024 .bf16) (x10 : Vec F S256x16 .bf16) (d12 : Vec F S12x256x2048 .f32) (d13 : Vec F S256x128 .f32)

/-- Block `p` of 512 columns of the output. -/
def ych (p : Fin 4) : FVec F S256x512 .f32 :=
  k0_pay1892 (View.readAt (Elt F) arg9.view (Rect.unit (s := S256x1024) ![0, 0] S256x1024.size inb_S256x1024_S256x1024_0_0).toLoadRect (harg9.unread x9))
    (arg11.view.readCov (pcs arg3 harg3 arg4 harg4 x3 x4 (256 * (p.val + 1))) (Rect.unit (s := S4x1024x512) ![p.val, 0, 0] S1x1024x512.size (plane_inb p)).toLoadRect)
    (View.readAt (Elt F) arg10.view (Rect.unit (s := S256x16) ![0, 0] S256x16.size inb_S256x16_S256x16_0_0).toLoadRect (harg10.unread x10))
    (View.readAt (Elt F) arg5.view (Rect.unit (s := S16x2048) ![0, 512 * p.val] S16x512.size (lb_inb p)).toLoadRect (harg5.unread x5))

/-- The store of block `p` into the output. -/
def q6 (p : Fin 4) : View.Piece (Elt F) S256x2048 .bf16 :=
  ⟨Rect.unit (s := S256x2048) ![0, 512 * p.val] S256x512.size (y_inb p), truncf .bf16 (ych arg3 harg3 arg4 harg4 arg5 harg5 arg9 harg9 arg10 harg10 arg11 x3 x4 x5 x9 x10 p) bitsLt_bf16_f32⟩

/-- The store of block `p` into the kept rows. -/
def q12 (hi : (i 0).val < 12) (p : Fin 4) : View.Piece (Elt F) S12x256x2048 .f32 :=
  ⟨Rect.unit (s := S12x256x2048) ![rowOf i, 0, 512 * p.val] S1x256x512.size (y32_inb i hi p), shapeCast S1x256x512 (ych arg3 harg3 arg4 harg4 arg5 harg5 arg9 harg9 arg10 harg10 arg11 x3 x4 x5 x9 x10 p) shapeCasts_S256x512_S1x256x512⟩

theorem run2_L6 : (run2 c i h arg1 harg1 arg2 harg2 arg3 harg3 arg4 harg4 arg5 harg5 arg6 harg6 arg7 harg7 arg8 harg8 arg9 harg9 arg10 harg10 arg11 harg11 arg12 harg12 arg13 harg13 arg14 harg14 x3 x4 x5 x9 x10 d12 d13).1 = [q6 arg3 harg3 arg4 harg4 arg5 harg5 arg9 harg9 arg10 harg10 arg11 x3 x4 x5 x9 x10 3, q6 arg3 harg3 arg4 harg4 arg5 harg5 arg9 harg9 arg10 harg10 arg11 x3 x4 x5 x9 x10 2, q6 arg3 harg3 arg4 harg4 arg5 harg5 arg9 harg9 arg10 harg10 arg11 x3 x4 x5 x9 x10 1, q6 arg3 harg3 arg4 harg4 arg5 harg5 arg9 harg9 arg10 harg10 arg11 x3 x4 x5 x9 x10 0] := by sl_kernel_rfl

theorem run2_L12 (hi : (i 0).val < 12) : (run2 c i h arg1 harg1 arg2 harg2 arg3 harg3 arg4 harg4 arg5 harg5 arg6 harg6 arg7 harg7 arg8 harg8 arg9 harg9 arg10 harg10 arg11 harg11 arg12 harg12 arg13 harg13 arg14 harg14 x3 x4 x5 x9 x10 d12 d13).2.2.1 = [q12 i arg3 harg3 arg4 harg4 arg5 harg5 arg9 harg9 arg10 harg10 arg11 x3 x4 x5 x9 x10 hi 3, q12 i arg3 harg3 arg4 harg4 arg5 harg5 arg9 harg9 arg10 harg10 arg11 x3 x4 x5 x9 x10 hi 2, q12 i arg3 harg3 arg4 harg4 arg5 harg5 arg9 harg9 arg10 harg10 arg11 x3 x4 x5 x9 x10 hi 1, q12 i arg3 harg3 arg4 harg4 arg5 harg5 arg9 harg9 arg10 harg10 arg11 x3 x4 x5 x9 x10 hi 0] := by sl_kernel_rfl

theorem run2_L13 : (run2 c i h arg1 harg1 arg2 harg2 arg3 harg3 arg4 harg4 arg5 harg5 arg6 harg6 arg7 harg7 arg8 harg8 arg9 harg9 arg10 harg10 arg11 harg11 arg12 harg12 arg13 harg13 arg14 harg14 x3 x4 x5 x9 x10 d12 d13).2.2.2.1
    = [⟨Rect.unit (s := S256x128) ![0, 0] S256x128.size inb_S256x128_S256x128_0_0,
        shapeCast S256x128 (mx4 (mx4 (mx4 (mx4 (View.readAt (Elt F) arg13.view (Rect.unit (s := S256x128) ![0, 0] S256x128.size inb_S256x128_S256x128_0_0).toLoadRect (harg13.unread d13))
          (ych arg3 harg3 arg4 harg4 arg5 harg5 arg9 harg9 arg10 harg10 arg11 x3 x4 x5 x9 x10 0)) (ych arg3 harg3 arg4 harg4 arg5 harg5 arg9 harg9 arg10 harg10 arg11 x3 x4 x5 x9 x10 1)) (ych arg3 harg3 arg4 harg4 arg5 harg5 arg9 harg9 arg10 harg10 arg11 x3 x4 x5 x9 x10 2)) (ych arg3 harg3 arg4 harg4 arg5 harg5 arg9 harg9 arg10 harg10 arg11 x3 x4 x5 x9 x10 3)) shapeCasts_S256x128_S256x128⟩] := by sl_kernel_rfl
end

end Cert.KernelIdeal.Gen

end
-- ==== Proof.Read2.lean ====
module

public import proofs.«01_k».proof.Proof.Lists2

@[expose] public section

set_option maxRecDepth 16384

noncomputable section

namespace Cert.KernelIdeal.Gen

open Idealize.ShloMosaic Idealize.ShloMosaic.TcCoe Idealize.ShloMosaic.Tactic
open Idealize.ShloMosaic.ValueIdx hiding ix1 ix2 ix3 ix4 eq_ix1 eq_ix2 eq_ix3 eq_ix4

section
variable (c : Dev nD) (i : grid0.Coords) (h : k0_cond2 i = 1#1) (arg1 : Memref sig .tc .vmem S256x1024 .bf16) (harg1 : arg1.IsWhole) (arg2 : Memref sig .tc .vmem S1024x16 .bf16) (harg2 : arg2.IsWhole) (arg3 : Memref sig .tc .vmem S512x2048 .i8) (harg3 : arg3.IsWhole) (arg4 : Memref sig .tc .vmem S16x2048 .f32) (harg4 : arg4.IsWhole) (arg5 : Memref sig .tc .vmem S16x2048 .bf16) (harg5 : arg5.IsWhole) (arg6 : Memref sig .tc .vmem S256x2048 .bf16) (harg6 : arg6.IsWhole) (arg7 : Memref sig .tc .vmem S256x2048 .fp8e4m3) (harg7 : arg7.IsWhole) (arg8 : Memref sig .tc .vmem S2x128 .f32) (harg8 : arg8.IsWhole) (arg9 : Memref sig .tc .vmem S256x1024 .bf16) (harg9 : arg9.IsWhole) (arg10 : Memref sig .tc .vmem S256x16 .bf16) (harg10 : arg10.IsWhole) (arg11 : Memref sig .tc .vmem S4x1024x512 .bf16) (harg11 : arg11.IsWhole) (arg12 : Memref sig .tc .vmem S12x256x2048 .f32) (harg12 : arg12.IsWhole) (arg13 : Memref sig .tc .vmem S256x128 .f32) (harg13 : arg13.IsWhole) (arg14 : Memref sig .tc .vmem S256x128 .f32) (harg14 : arg14.IsWhole)
    (x3 : Vec Ideal S512x2048 .i8) (x4 : Vec Ideal S16x2048 .f32) (x5 : Vec Ideal S16x2048 .bf16) (x9 : Vec Ideal S256x1024 .bf16) (x10 : Vec Ideal S256x16 .bf16) (d12 : Vec Ideal S12x256x2048 .f32) (d13 : Vec Ideal S256x128 .f32)

theorem ych_apply (p : Fin 4) (r : Fin 256) (l : Fin 512) :
    ych (F := Ideal) arg3 harg3 arg4 harg4 arg5 harg5 arg9 harg9 arg10 harg10 arg11 x3 x4 x5 x9 x10 p (ix2 r l) = Yf x3 x4 x5 x9 x10 r ⟨512 * p.val + l.val, by omega⟩ := by
  unfold ych Yf
  rw [chunk_apply]
  refine congrArg₂ (fun a b : EReal => a + b) (Finset.sum_congr rfl fun k _ => ?_) (Finset.sum_congr rfl fun j _ => ?_)
  · rw [plane_readCov, harg9.readAt_unread, unit_idx2 _ r k (by omega) (by omega)]
    refine congrArg (fun q => x9 q * decW x3 x4 k ⟨512 * p.val + l.val, by omega⟩) (congrArg₂ ix2 (Fin.ext ?_) (Fin.ext ?_)) <;> simp
  · rw [harg10.readAt_unread, harg5.readAt_unread, unit_idx2 _ r j (by omega) (by omega), unit_idx2 _ j l (by omega) (by omega)]
    refine congrArg₂ (fun q w => x10 q * x5 w) (congrArg₂ ix2 (Fin.ext ?_) (Fin.ext ?_)) (congrArg₂ ix2 (Fin.ext ?_) rfl) <;> simp

/-- What the output block reads after the region. -/
theorem read_L6 (f : arg6.view.ty.Contents (Elt Ideal)) :
    arg6.view.read (Elt Ideal) (arg6.view.writes (Elt Ideal) f (run2 (F := Ideal) c i h arg1 harg1 arg2 harg2 arg3 harg3 arg4 harg4 arg5 harg5 arg6 harg6 arg7 harg7 arg8 harg8 arg9 harg9 arg10 harg10 arg11 harg11 arg12 harg12 arg13 harg13 arg14 harg14 x3 x4 x5 x9 x10 d12 d13).1) = fun q => Yf x3 x4 x5 x9 x10 (q 0) (q 1) := by
  rw [run2_L6]
  funext y
  refine View.read_writes_apply_of_pieces (Val := Elt Ideal) arg6.view _ (fun q => (Yf x3 x4 x5 x9 x10 (q 0) (q 1) : Elt Ideal .bf16)) _ ?_ y ?_
  · have hp : ∀ p : Fin 4, ∀ x : (q6 (F := Ideal) arg3 harg3 arg4 harg4 arg5 harg5 arg9 harg9 arg10 harg10 arg11 x3 x4 x5 x9 x10 p).1.shape.Idx,
        (q6 (F := Ideal) arg3 harg3 arg4 harg4 arg5 harg5 arg9 harg9 arg10 harg10 arg11 x3 x4 x5 x9 x10 p).2 x = (fun q : S256x2048.Idx => Yf x3 x4 x5 x9 x10 (q 0) (q 1)) ((q6 (F := Ideal) arg3 harg3 arg4 harg4 arg5 harg5 arg9 harg9 arg10 harg10 arg11 x3 x4 x5 x9 x10 p).1.emb x) := by
      intro p x
      obtain ⟨r, l, rfl⟩ : ∃ (r : Fin 256) (l : Fin 512), x = ix2 r l := ⟨_, _, eq_ix2 x⟩
      have hE : (q6 (F := Ideal) arg3 harg3 arg4 harg4 arg5 harg5 arg9 harg9 arg10 harg10 arg11 x3 x4 x5 x9 x10 p).1.emb (ix2 r l)
          = ix2 (n0 := 256) (n1 := 2048) ⟨0 + r.val, by omega⟩ ⟨512 * p.val + l.val, by omega⟩ := unit_idx2 (y_inb p) r l _ _
      rw [hE]
      refine (ych_apply arg3 harg3 arg4 harg4 arg5 harg5 arg9 harg9 arg10 harg10 arg11 x3 x4 x5 x9 x10 p r l).trans ?_
      refine congrArg₂ (Yf x3 x4 x5 x9 x10) (Fin.ext ?_) rfl
      show r.val = 0 + r.val; omega
    simp only [List.forall_mem_cons, List.not_mem_nil, false_imp_iff, implies_true, and_true]
    exact ⟨hp 3, hp 2, hp 1, hp 0⟩
  · have hy0 : (y 0).val < 256 := (y 0).isLt
    have hy1 : (y 1).val < 2048 := (y 1).isLt
    refine ⟨q6 (F := Ideal) arg3 harg3 arg4 harg4 arg5 harg5 arg9 harg9 arg10 harg10 arg11 x3 x4 x5 x9 x10 ⟨(y 1).val / 512, by omega⟩, ?_, (Rect.mem_set_unit (inb := y_inb _)).2 ?_⟩
    · rcases (by omega : (y 1).val / 512 = 0 ∨ (y 1).val / 512 = 1 ∨ (y 1).val / 512 = 2 ∨ (y 1).val / 512 = 3) with e | e | e | e <;> simp [e]
    · intro a
      match a with
      | ⟨0, _⟩ => show 0 ≤ (y 0).val ∧ (y 0).val < 0 + 256; omega
      | ⟨1, _⟩ => show 512 * ((y 1).val / 512) ≤ (y 1).val ∧ (y 1).val < 512 * ((y 1).val / 512) + 512; omega

/-- What the kept rows read after the region: block `i` is the output block, the others are as before. -/
theorem read_L12 (hi : (i 0).val < 12) :
    arg12.view.read (Elt Ideal) (arg12.view.writes (Elt Ideal) (harg12.unread d12) (run2 (F := Ideal) c i h arg1 harg1 arg2 harg2 arg3 harg3 arg4 harg4 arg5 harg5 arg6 harg6 arg7 harg7 arg8 harg8 arg9 harg9 arg10 harg10 arg11 harg11 arg12 harg12 arg13 harg13 arg14 harg14 x3 x4 x5 x9 x10 d12 d13).2.2.1)
      = fun y => if (y 0).val = (i 0).val then Yf x3 x4 x5 x9 x10 (y 1) (y 2) else d12 y := by
  rw [run2_L12 (hi := hi)]
  have hrow : rowOf i = (i 0).val := rowOf_eq i
  funext y
  have hy1 : (y 1).val < 256 := (y 1).isLt
  have hy2 : (y 2).val < 2048 := (y 2).isLt
  by_cases hy : (y 0).val = (i 0).val
  · rw [if_pos hy]
    refine View.read_writes_apply_of_pieces (Val := Elt Ideal) arg12.view _ (fun q => (Yf x3 x4 x5 x9 x10 (q 1) (q 2) : Elt Ideal .f32)) _ ?_ y ?_
    · have hp : ∀ p : Fin 4, ∀ x : (q12 (F := Ideal) i arg3 harg3 arg4 harg4 arg5 harg5 arg9 harg9 arg10 harg10 arg11 x3 x4 x5 x9 x10 hi p).1.shape.Idx,
          (q12 (F := Ideal) i arg3 harg3 arg4 harg4 arg5 harg5 arg9 harg9 arg10 harg10 arg11 x3 x4 x5 x9 x10 hi p).2 x = (fun q : S12x256x2048.Idx => Yf x3 x4 x5 x9 x10 (q 1) (q 2)) ((q12 (F := Ideal) i arg3 harg3 arg4 harg4 arg5 harg5 arg9 harg9 arg10 harg10 arg11 x3 x4 x5 x9 x10 hi p).1.emb x) := by
        intro p x
        obtain ⟨z, r, l, rfl⟩ : ∃ (z : Fin 1) (r : Fin 256) (l : Fin 512), x = ix3 z r l := ⟨_, _, _, eq_ix3 x⟩
        have hE : (q12 (F := Ideal) i arg3 harg3 arg4 harg4 arg5 harg5 arg9 harg9 arg10 harg10 arg11 x3 x4 x5 x9 x10 hi p).1.emb (ix3 z r l)
            = ix3 (n0 := 12) (n1 := 256) (n2 := 2048) ⟨rowOf i + z.val, by omega⟩ ⟨0 + r.val, by omega⟩ ⟨512 * p.val + l.val, by omega⟩ :=
          unit_idx3 (y32_inb i hi p) z r l _ _ _
        have hV : (q12 (F := Ideal) i arg3 harg3 arg4 harg4 arg5 harg5 arg9 harg9 arg10 harg10 arg11 x3 x4 x5 x9 x10 hi p).2 (ix3 z r l) = ych (F := Ideal) arg3 harg3 arg4 harg4 arg5 harg5 arg9 harg9 arg10 harg10 arg11 x3 x4 x5 x9 x10 p (ix2 r l) := by
          show shapeCast S1x256x512 (ych (F := Ideal) arg3 harg3 arg4 harg4 arg5 harg5 arg9 harg9 arg10 harg10 arg11 x3 x4 x5 x9 x10 p) shapeCasts_S256x512_S1x256x512 (ix3 z r l) = _
          pointwise
        rw [hE, hV]
        refine (ych_apply arg3 harg3 arg4 harg4 arg5 harg5 arg9 harg9 arg10 harg10 arg11 x3 x4 x5 x9 x10 p r l).trans ?_
        refine congrArg₂ (Yf x3 x4 x5 x9 x10) (Fin.ext ?_) rfl
        show r.val = 0 + r.val; omega
      simp only [List.forall_mem_cons, List.not_mem_nil, false_imp_iff, implies_true, and_true]
      exact ⟨hp 3, hp 2, hp 1, hp 0⟩
    · refine ⟨q12 (F := Ideal) i arg3 harg3 arg4 harg4 arg5 harg5 arg9 harg9 arg10 harg10 arg11 x3 x4 x5 x9 x10 hi ⟨(y 2).val / 512, by omega⟩, ?_, (Rect.mem_set_unit (inb := y32_inb i hi _)).2 ?_⟩
      · rcases (by omega : (y 2).val / 512 = 0 ∨ (y 2).val / 512 = 1 ∨ (y 2).val / 512 = 2 ∨ (y 2).val / 512 = 3) with e | e | e | e <;> simp [e]
      · intro a
        match a with
        | ⟨0, _⟩ => show rowOf i ≤ (y 0).val ∧ (y 0).val < rowOf i + 1; omega
        | ⟨1, _⟩ => show 0 ≤ (y 1).val ∧ (y 1).val < 0 + 256; omega
        | ⟨2, _⟩ => show 512 * ((y 2).val / 512) ≤ (y 2).val ∧ (y 2).val < 512 * ((y 2).val / 512) + 512; omega
  · rw [if_neg hy, View.read_writes_apply_of_forall_not_mem]
    · exact congrFun (harg12.read_unread d12) y
    · have hp : ∀ p : Fin 4, y ∉ (q12 (F := Ideal) i arg3 harg3 arg4 harg4 arg5 harg5 arg9 harg9 arg10 harg10 arg11 x3 x4 x5 x9 x10 hi p).1.set := by
        intro p hm
        have h0 := (Rect.mem_set_unit (inb := y32_inb i hi p)).1 hm ⟨0, by decide⟩
        have h0' : rowOf i ≤ (y 0).val ∧ (y 0).val < rowOf i + 1 := h0
        omega
      simp only [List.forall_mem_cons, List.not_mem_nil, false_imp_iff, implies_true, and_true]
      exact ⟨hp 3, hp 2, hp 1, hp 0⟩

/-- What the running maximum reads after the region. -/
theorem read_L13 :
    arg13.view.read (Elt Ideal) (arg13.view.writes (Elt Ideal) (harg13.unread d13) (run2 (F := Ideal) c i h arg1 harg1 arg2 harg2 arg3 harg3 arg4 harg4 arg5 harg5 arg6 harg6 arg7 harg7 arg8 harg8 arg9 harg9 arg10 harg10 arg11 harg11 arg12 harg12 arg13 harg13 arg14 harg14 x3 x4 x5 x9 x10 d12 d13).2.2.2.1)
      = fun q => ((d13 q : EReal) ⊔ laneMax (Yf x3 x4 x5 x9 x10 (q 0)) (q 1) : EReal) := by
  rw [run2_L13]
  funext y
  obtain ⟨r, l, rfl⟩ : ∃ (r : Fin 256) (l : Fin 128), y = ix2 r l := ⟨_, _, eq_ix2 y⟩
  refine View.read_writes_apply_of_pieces (Val := Elt Ideal) arg13.view _ (fun q => (((d13 q : EReal) ⊔ laneMax (Yf x3 x4 x5 x9 x10 (q 0)) (q 1) : EReal) : Elt Ideal .f32)) _ ?_ (ix2 r l) ?_
  · simp only [List.forall_mem_cons, List.not_mem_nil, false_imp_iff, implies_true, and_true]
    intro x
    obtain ⟨r, l, rfl⟩ : ∃ (r : Fin 256) (l : Fin 128), x = ix2 r l := ⟨_, _, eq_ix2 x⟩
    have hE : (Rect.unit (s := S256x128) ![0, 0] S256x128.size inb_S256x128_S256x128_0_0).emb (ix2 r l) = ix2 (n0 := 256) (n1 := 128) r l := by
      refine (unit_idx2 inb_S256x128_S256x128_0_0 r l (by omega) (by omega)).trans (congrArg₂ ix2 (Fin.ext ?_) (Fin.ext ?_)) <;> simp
    rw [hE]
    have hc : ∀ v : FVec Ideal S256x128 .f32, shapeCast S256x128 v shapeCasts_S256x128_S256x128 (ix2 r l) = v (ix2 r l) := by
      intro v; pointwise
    refine (hc _).trans ?_
    rw [mx4_apply, mx4_apply, mx4_apply, mx4_apply, harg13.readAt_unread]
    have hE' : (Rect.unit (s := S256x128) ![0, 0] S256x128.size inb_S256x128_S256x128_0_0).toLoadRect.idx (ix2 r l) = ix2 (n0 := 256) (n1 := 128) r l := hE
    rw [hE']
    exact laneMax_eq (Yf x3 x4 x5 x9 x10 r) l (d13 (ix2 r l)) (fun p l' => ych (F := Ideal) arg3 harg3 arg4 harg4 arg5 harg5 arg9 harg9 arg10 harg10 arg11 x3 x4 x5 x9 x10 p (ix2 r l')) (fun p l' => ych_apply arg3 harg3 arg4 harg4 arg5 harg5 arg9 harg9 arg10 harg10 arg11 x3 x4 x5 x9 x10 p r l')
  · refine ⟨_, List.mem_cons_self, (Rect.mem_set_unit (inb := inb_S256x128_S256x128_0_0)).2 ?_⟩
    intro a
    match a with
    | ⟨0, _⟩ => show 0 ≤ r.val ∧ r.val < 0 + 256; omega
    | ⟨1, _⟩ => show 0 ≤ l.val ∧ l.val < 0 + 128; omega
end

end Cert.KernelIdeal.Gen

end
-- ==== Proof.Read1.lean ====
module

public import proofs.«01_k».proof.Proof.Run1
public import proofs.«01_k».proof.Proof.Read2
public import Idealize.ShloMosaic.Lib.IdealHost

@[expose] public section

set_option maxRecDepth 16384

noncomputable section

namespace Cert.KernelIdeal.Gen

open Idealize.ShloMosaic Idealize.ShloMosaic.TcCoe Idealize.ShloMosaic.Tactic
open Idealize.ShloMosaic.ValueIdx hiding ix1 ix2 ix3 ix4 eq_ix1 eq_ix2 eq_ix3 eq_ix4

/-- The column of the input that column `k` of the permuted input is. -/
def xcol (k : Nat) : Nat := 64 * (k / 64) + (4 * (k % 16) + k % 64 / 16)

theorem xcol_lt (k : Fin 1024) : xcol k.val < 1024 := by unfold xcol; omega

/-- The input with its columns permuted. -/
def xpF (x1 : Vec Ideal S256x1024 .bf16) : Vec Ideal S256x1024 .bf16 := fun q => x1 (ix2 (q 0) ⟨xcol (q 1).val, xcol_lt (q 1)⟩)

theorem two_bf16 : Ideal.ofBits .bf16 0x4000#16 = ((2 : ℝ) : EReal) := by
  simp [Ideal.ofBits, Ideal.ieee, -EReal.coe_mul]; norm_num

/-- The low-rank product's first half, doubled. -/
def hF (x1 : Vec Ideal S256x1024 .bf16) (x2 : Vec Ideal S1024x16 .bf16) : Vec Ideal S256x16 .bf16 :=
  fun q => ((∑ k : Fin 1024, (x1 (ix2 (q 0) k) : EReal) * x2 (ix2 k (q 1))) * ((2 : ℝ) : EReal) : EReal)

/-- The remainder by 64, as the kernel computes it. -/
def w53 (w : BitVec 32) : BitVec 32 :=
  let m := Scalar.select (Scalar.cmpi .eq 64#32 0#32) 1#32 64#32
  let r := IntOp.remsi .vector w m
  Scalar.select (IntOp.andi (IntOp.xori (IntOp.cmpi .slt r 0#32) (Scalar.cmpi .slt m 0#32)) (IntOp.cmpi .ne r 0#32)) (IntOp.addi r m) r

/-- The quotient by a positive word, as the kernel computes it. -/
def wquo (w d : BitVec 32) : BitVec 32 :=
  Scalar.select (IntOp.andi (IntOp.cmpi .ne (IntOp.subi ((IntOp.cmpi .sgt w 0#32).setWidth 32) ((IntOp.cmpi .slt w 0#32).setWidth 32))
      (Scalar.subi (Scalar.extui (Scalar.cmpi .sgt d 0#32)) (Scalar.extui (Scalar.cmpi .slt d 0#32)))) (IntOp.cmpi .ne (IntOp.remsi .vector w d) 0#32))
    (IntOp.subi (IntOp.divsi .vector w d) 1#32) (IntOp.divsi .vector w d)

/-- The wanted column, as the kernel computes it. -/
def wwant (w : BitVec 32) : BitVec 32 :=
  let m := Scalar.select (Scalar.cmpi .eq 16#32 0#32) 1#32 16#32
  let r := IntOp.remsi .vector (w53 w) m
  let s := Scalar.select (IntOp.andi (IntOp.xori (IntOp.cmpi .slt r 0#32) (Scalar.cmpi .slt m 0#32)) (IntOp.cmpi .ne r 0#32)) (IntOp.addi r m) r
  IntOp.addi (IntOp.addi (IntOp.muli (wquo w 64#32) 64#32) (IntOp.muli 4#32 s)) (wquo (w53 w) 16#32)

theorem wwant_eq : ∀ b : Fin 256, wwant (BitVec.ofNat 32 b.val) = BitVec.ofNat 32 (xcol b.val) := by decide +kernel

theorem r_mask (a b : Fin 256) : run1.sl.r (ix2 a b) = BitVec.ofBool (decide (a.val = xcol b.val)) := by
  have h : run1.sl.r (ix2 a b) = IntOp.cmpi .eq (BitVec.ofNat 32 a.val) (wwant (BitVec.ofNat 32 b.val)) := by
    unfold run1.sl.r run1.sl.v13
    pointwise [k0_pay11, k0_pay12, k0_pay13]
    rfl
  rw [h, wwant_eq]
  show BitVec.ofBool _ = _
  congr 1
  have hx : xcol b.val < 256 := by unfold xcol; omega
  rw [Bool.eq_iff_iff, beq_iff_eq, decide_eq_true_eq]
  constructor
  · intro e
    have := congrArg BitVec.toNat e
    rw [BitVec.toNat_ofNat, BitVec.toNat_ofNat] at this
    omega
  · intro e; rw [e]

/-- The permuting matrix, at an index. -/
theorem perm_apply (a b : Fin 256) : k0_pay15 (F := Ideal) run1.sl.r run1.sl.cst_30 k0_pay14 (ix2 a b) = (if a.val = xcol b.val then 1 else 0 : EReal) := by
  pointwise [k0_pay15, k0_pay14]
  rw [r_mask]
  unfold run1.sl.cst_30
  by_cases e : a.val = xcol b.val <;> simp [e, Scalar.select, Scalar.ofBits, FloatOps.ofBits]

theorem xp_chunk (v : Vec Ideal S256x256 .bf16) (r b : Fin 256) :
    k0_pay16 (F := Ideal) run1.sl.r run1.sl.cst_30 k0_pay14 v (ix2 r b) = v (ix2 r ⟨xcol b.val, by unfold xcol; omega⟩) := by
  have h : k0_pay16 (F := Ideal) run1.sl.r run1.sl.cst_30 k0_pay14 v (ix2 r b)
      = (∑ k : Fin 256, (v (ix2 r k) : EReal) * k0_pay15 (F := Ideal) run1.sl.r run1.sl.cst_30 k0_pay14 (ix2 k b) : EReal) := by
    pointwise [k0_pay16]
  rw [h, Finset.sum_eq_single (⟨xcol b.val, by unfold xcol; omega⟩ : Fin 256)]
  · rw [perm_apply, if_pos rfl, mul_one]
  · intro k _ hk
    rw [perm_apply, if_neg (fun e => hk (Fin.ext e)), mul_zero]
  · intro hk; exact absurd (Finset.mem_univ _) hk

theorem x9_inb (p : Fin 4) : ∀ a, (![0, 256 * p.val] : Fin 2 → Nat) a + S256x256.size a ≤ S256x1024.size a
  | ⟨0, _⟩ => by show 0 + 256 ≤ 256; omega
  | ⟨1, _⟩ => by show 256 * p.val + 256 ≤ 1024; omega

section
variable (c : Dev nD) (i : grid0.Coords) (h : cond0_0 i) (arg1 : Memref sig .tc .vmem S256x1024 .bf16) (harg1 : arg1.IsWhole) (arg2 : Memref sig .tc .vmem S1024x16 .bf16) (harg2 : arg2.IsWhole) (arg3 : Memref sig .tc .vmem S512x2048 .i8) (harg3 : arg3.IsWhole) (arg4 : Memref sig .tc .vmem S16x2048 .f32) (harg4 : arg4.IsWhole) (arg5 : Memref sig .tc .vmem S16x2048 .bf16) (harg5 : arg5.IsWhole) (arg6 : Memref sig .tc .vmem S256x2048 .bf16) (harg6 : arg6.IsWhole) (arg7 : Memref sig .tc .vmem S256x2048 .fp8e4m3) (harg7 : arg7.IsWhole) (arg8 : Memref sig .tc .vmem S2x128 .f32) (harg8 : arg8.IsWhole) (arg9 : Memref sig .tc .vmem S256x1024 .bf16) (harg9 : arg9.IsWhole) (arg10 : Memref sig .tc .vmem S256x16 .bf16) (harg10 : arg10.IsWhole) (arg11 : Memref sig .tc .vmem S4x1024x512 .bf16) (harg11 : arg11.IsWhole) (arg12 : Memref sig .tc .vmem S12x256x2048 .f32) (harg12 : arg12.IsWhole) (arg13 : Memref sig .tc .vmem S256x128 .f32) (harg13 : arg13.IsWhole) (arg14 : Memref sig .tc .vmem S256x128 .f32) (harg14 : arg14.IsWhole)

/-- The store of block `p` of the permuted input. -/
def q9 {F : FTy → Type} [FloatOps F] (x1 : Vec F S256x1024 .bf16) (p : Fin 4) : View.Piece (Elt F) S256x1024 .bf16 :=
  ⟨Rect.unit (s := S256x1024) ![0, 256 * p.val] S256x256.size (x9_inb p),
    k0_pay16 run1.sl.r run1.sl.cst_30 k0_pay14 (View.readAt (Elt F) arg1.view (Rect.unit (s := S256x1024) ![0, 256 * p.val] S256x256.size (x9_inb p)).toLoadRect (harg1.unread x1))⟩

theorem run1_L9 {F : FTy → Type} [FloatOps F] (x1 : Vec F S256x1024 .bf16) (x2 : Vec F S1024x16 .bf16) :
    (run1.{1} c i h arg1 harg1 arg2 harg2 arg3 harg3 arg4 harg4 arg5 harg5 arg6 harg6 arg7 harg7 arg8 harg8 arg9 harg9 arg10 harg10 arg11 harg11 arg12 harg12 arg13 harg13 arg14 harg14 x1 x2).1 = [q9 arg1 harg1 x1 3, q9 arg1 harg1 x1 2, q9 arg1 harg1 x1 1, q9 arg1 harg1 x1 0] := by sl_kernel_rfl

theorem run1_L10 {F : FTy → Type} [FloatOps F] (x1 : Vec F S256x1024 .bf16) (x2 : Vec F S1024x16 .bf16) :
    (run1.{1} c i h arg1 harg1 arg2 harg2 arg3 harg3 arg4 harg4 arg5 harg5 arg6 harg6 arg7 harg7 arg8 harg8 arg9 harg9 arg10 harg10 arg11 harg11 arg12 harg12 arg13 harg13 arg14 harg14 x1 x2).2.1 = [⟨Rect.unit (s := S256x16) ![0, 0] S256x16.size inb_S256x16_S256x16_0_0,
      k0_pay1 (k0_pay20 (View.readAt (Elt F) arg1.view (Rect.unit (s := S256x1024) ![0, 0] S256x1024.size inb_S256x1024_S256x1024_0_0).toLoadRect (harg1.unread x1)))
        (View.readAt (Elt F) arg2.view (Rect.unit (s := S1024x16) ![0, 0] S1024x16.size inb_S1024x16_S1024x16_0_0).toLoadRect (harg2.unread x2))⟩] := by sl_kernel_rfl

theorem run1_L13 {F : FTy → Type} [FloatOps F] (x1 : Vec F S256x1024 .bf16) (x2 : Vec F S1024x16 .bf16) :
    (run1.{1} c i h arg1 harg1 arg2 harg2 arg3 harg3 arg4 harg4 arg5 harg5 arg6 harg6 arg7 harg7 arg8 harg8 arg9 harg9 arg10 harg10 arg11 harg11 arg12 harg12 arg13 harg13 arg14 harg14 x1 x2).2.2.1 = [⟨Rect.unit (s := S256x128) ![0, 0] S256x128.size inb_S256x128_S256x128_0_0, k0_pay2⟩] := by sl_kernel_rfl

variable (x1 : Vec Ideal S256x1024 .bf16) (x2 : Vec Ideal S1024x16 .bf16)

theorem read1_L9 (f : arg9.view.ty.Contents (Elt Ideal)) :
    arg9.view.read (Elt Ideal) (arg9.view.writes (Elt Ideal) f (run1.{1} (F := Ideal) c i h arg1 harg1 arg2 harg2 arg3 harg3 arg4 harg4 arg5 harg5 arg6 harg6 arg7 harg7 arg8 harg8 arg9 harg9 arg10 harg10 arg11 harg11 arg12 harg12 arg13 harg13 arg14 harg14 x1 x2).1) = xpF x1 := by
  rw [run1_L9]
  funext y
  refine View.read_writes_apply_of_pieces (Val := Elt Ideal) arg9.view _ (xpF x1) _ ?_ y ?_
  · have hp : ∀ p : Fin 4, ∀ x : (q9 (F := Ideal) arg1 harg1 x1 p).1.shape.Idx,
        (q9 (F := Ideal) arg1 harg1 x1 p).2 x = xpF x1 ((q9 (F := Ideal) arg1 harg1 x1 p).1.emb x) := by
      intro p x
      obtain ⟨r, l, rfl⟩ : ∃ (r : Fin 256) (l : Fin 256), x = ix2 r l := ⟨_, _, eq_ix2 x⟩
      have hE : (q9 (F := Ideal) arg1 harg1 x1 p).1.emb (ix2 r l)
          = ix2 (n0 := 256) (n1 := 1024) ⟨0 + r.val, by omega⟩ ⟨256 * p.val + l.val, by omega⟩ := unit_idx2 (x9_inb p) r l _ _
      rw [hE]
      refine (xp_chunk _ r l).trans ?_
      rw [harg1.readAt_unread, unit_idx2 (x9_inb p) r ⟨xcol l.val, _⟩ (by omega) (by show 256 * p.val + xcol l.val < 1024; unfold xcol; omega)]
      unfold xpF
      refine congrArg x1 (congrArg₂ ix2 rfl (Fin.ext ?_))
      show 256 * p.val + xcol l.val = xcol (256 * p.val + l.val)
      unfold xcol; omega
    simp only [List.forall_mem_cons, List.not_mem_nil, false_imp_iff, implies_true, and_true]
    exact ⟨hp 3, hp 2, hp 1, hp 0⟩
  · have hy0 : (y 0).val < 256 := (y 0).isLt
    have hy1 : (y 1).val < 1024 := (y 1).isLt
    refine ⟨q9 (F := Ideal) arg1 harg1 x1 ⟨(y 1).val / 256, by omega⟩, ?_, (Rect.mem_set_unit (inb := x9_inb _)).2 ?_⟩
    · rcases (by omega : (y 1).val / 256 = 0 ∨ (y 1).val / 256 = 1 ∨ (y 1).val / 256 = 2 ∨ (y 1).val / 256 = 3) with e | e | e | e <;> simp [e]
    · intro a
      match a with
      | ⟨0, _⟩ => show 0 ≤ (y 0).val ∧ (y 0).val < 0 + 256; omega
      | ⟨1, _⟩ => show 256 * ((y 1).val / 256) ≤ (y 1).val ∧ (y 1).val < 256 * ((y 1).val / 256) + 256; omega

theorem full_idx2 {n0 n1 : Nat} (inb : ∀ a, (![0, 0] : Fin 2 → Nat) a + (⟨2, ![n0, n1]⟩ : Shape).size a ≤ (⟨2, ![n0, n1]⟩ : Shape).size a)
    (a : Fin n0) (b : Fin n1) :
    (Rect.unit (s := ⟨2, ![n0, n1]⟩) ![0, 0] (⟨2, ![n0, n1]⟩ : Shape).size inb).toLoadRect.idx (ix2 a b) = ix2 a b := by
  refine (unit_idx2 inb a b (by omega) (by omega)).trans (congrArg₂ ix2 (Fin.ext ?_) (Fin.ext ?_)) <;> simp

theorem read1_L10 (f : arg10.view.ty.Contents (Elt Ideal)) :
    arg10.view.read (Elt Ideal) (arg10.view.writes (Elt Ideal) f (run1.{1} (F := Ideal) c i h arg1 harg1 arg2 harg2 arg3 harg3 arg4 harg4 arg5 harg5 arg6 harg6 arg7 harg7 arg8 harg8 arg9 harg9 arg10 harg10 arg11 harg11 arg12 harg12 arg13 harg13 arg14 harg14 x1 x2).2.1) = hF x1 x2 := by
  rw [run1_L10]
  funext y
  refine View.read_writes_apply_of_pieces (Val := Elt Ideal) arg10.view _ (hF x1 x2) _ ?_ y ?_
  · simp only [List.forall_mem_cons, List.not_mem_nil, false_imp_iff, implies_true, and_true]
    intro x
    obtain ⟨r, l, rfl⟩ : ∃ (r : Fin 256) (l : Fin 16), x = ix2 r l := ⟨_, _, eq_ix2 x⟩
    have hE : (Rect.unit (s := S256x16) ![0, 0] S256x16.size inb_S256x16_S256x16_0_0).emb (ix2 r l) = ix2 (n0 := 256) (n1 := 16) r l := full_idx2 _ r l
    rw [hE]
    have hc : ∀ (v : Vec Ideal S256x1024 .bf16) (w : Vec Ideal S1024x16 .bf16), k0_pay1 (F := Ideal) (k0_pay20 v) w (ix2 r l)
        = ((∑ k : Fin 1024, (v (ix2 r k) : EReal) * w (ix2 k l)) * ((2 : ℝ) : EReal) : EReal) := by
      intro v w
      rw [← two_bf16]
      pointwise [k0_pay1, k0_pay20]
    refine (hc _ _).trans ?_
    unfold hF
    refine congrArg (fun s : EReal => s * ((2 : ℝ) : EReal)) (Finset.sum_congr rfl fun k _ => ?_)
    rw [harg1.readAt_unread, harg2.readAt_unread]
    exact congrArg₂ (fun a b => (x1 a : EReal) * x2 b) (full_idx2 _ r k) (full_idx2 _ k l)
  · refine ⟨_, List.mem_cons_self, (Rect.mem_set_unit (inb := inb_S256x16_S256x16_0_0)).2 ?_⟩
    have hy0 : (y 0).val < 256 := (y 0).isLt
    have hy1 : (y 1).val < 16 := (y 1).isLt
    intro a
    match a with
    | ⟨0, _⟩ => show 0 ≤ (y 0).val ∧ (y 0).val < 0 + 256; omega
    | ⟨1, _⟩ => show 0 ≤ (y 1).val ∧ (y 1).val < 0 + 16; omega

theorem read1_L13 (f : arg13.view.ty.Contents (Elt Ideal)) :
    arg13.view.read (Elt Ideal) (arg13.view.writes (Elt Ideal) f (run1.{1} (F := Ideal) c i h arg1 harg1 arg2 harg2 arg3 harg3 arg4 harg4 arg5 harg5 arg6 harg6 arg7 harg7 arg8 harg8 arg9 harg9 arg10 harg10 arg11 harg11 arg12 harg12 arg13 harg13 arg14 harg14 x1 x2).2.2.1) = fun _ => (0 : EReal) := by
  rw [run1_L13]
  funext y
  refine View.read_writes_apply_of_pieces (Val := Elt Ideal) arg13.view _ (fun _ => ((0 : EReal) : Elt Ideal .f32)) _ ?_ y ?_
  · simp only [List.forall_mem_cons, List.not_mem_nil, false_imp_iff, implies_true, and_true]
    intro x
    obtain ⟨r, l, rfl⟩ : ∃ (r : Fin 256) (l : Fin 128), x = ix2 r l := ⟨_, _, eq_ix2 x⟩
    have hc : k0_pay2 (F := Ideal) (ix2 r l) = (0 : EReal) := by
      pointwise [k0_pay2]
    exact hc
  · refine ⟨_, List.mem_cons_self, (Rect.mem_set_unit (inb := inb_S256x128_S256x128_0_0)).2 ?_⟩
    have hy0 : (y 0).val < 256 := (y 0).isLt
    have hy1 : (y 1).val < 128 := (y 1).isLt
    intro a
    match a with
    | ⟨0, _⟩ => show 0 ≤ (y 0).val ∧ (y 0).val < 0 + 256; omega
    | ⟨1, _⟩ => show 0 ≤ (y 1).val ∧ (y 1).val < 0 + 128; omega
end

end Cert.KernelIdeal.Gen

end
-- ==== Proof.Read3.lean ====
module

public import proofs.«01_k».proof.Proof.Run3
public import proofs.«01_k».proof.Proof.Read1

@[expose] public section

set_option maxRecDepth 16384

noncomputable section

namespace Cert.KernelIdeal.Gen

open Idealize.ShloMosaic Idealize.ShloMosaic.TcCoe Idealize.ShloMosaic.Tactic
open Idealize.ShloMosaic.ValueIdx hiding ix1 ix2 ix3 ix4 eq_ix1 eq_ix2 eq_ix3 eq_ix4

/-- One step of the search for the exponent field. -/
def stepN (v : EReal) (n s : BitVec 32) : BitVec 32 :=
  Scalar.select (FloatOps.cmpf (F := Ideal) (φ := .f32) .olt v (Ideal.ofBits .f32 ((n + s) <<< 23))) n (n + s)

/-- The exponent field of a number that is not negative. -/
def expo (v : EReal) : BitVec 32 :=
  stepN v (stepN v (stepN v (stepN v (stepN v (stepN v (stepN v (stepN v 0#32 128#32) 64#32) 32#32) 16#32) 8#32) 4#32) 2#32) 1#32

/-- The exponent of the scale of a row whose greatest magnitude over 448 is `v`. -/
def expE (v : EReal) : BitVec 32 :=
  Scalar.select (IntOp.andi (FloatOps.cmpf (F := Ideal) (φ := .f32) .one v (0 : EReal)) (IntOp.cmpi .ne (expo v) 255#32)) (expo v - 126#32) 0#32

def scaleE (v : EReal) : EReal := Ideal.ofBits .f32 ((127#32 + expE v) <<< 23)
def invE (v : EReal) : EReal := Ideal.ofBits .f32 ((127#32 - expE v) <<< 23)

/-- A row's greatest lane, over 448. -/
def vRow (x13 : Vec Ideal S256x128 .f32) (r : Fin 256) : EReal :=
  (Finset.univ.sup fun l : Fin 128 => (x13 (ix2 r l) : EReal)) * Ideal.ofBits .f32 0x3B124925#32

theorem v18_apply (x13 : Vec Ideal S256x128 .f32) (r : Fin 256) (l : Fin 128) : k0_pay1895 (F := Ideal) x13 (ix2 r l) = vRow x13 r := by
  unfold vRow
  pointwise [k0_pay1895]
  have hb : Ideal.ofBits .f32 0xFF800000#32 = (⊥ : EReal) := by simp [Ideal.ofBits, Ideal.ieee]
  rw [hb]
  rfl

theorem v46_apply (x13 : Vec Ideal S256x128 .f32) (r : Fin 256) (l : Fin 128) :
    k0_pay1896 (F := Ideal) x13 (ix2 r l) = stepN (vRow x13 r) (stepN (vRow x13 r) (stepN (vRow x13 r) 0#32 128#32) 64#32) 32#32 := by
  rw [← v18_apply x13 r l]
  unfold stepN
  pointwise [k0_pay1896]
  rfl

theorem v91_apply (x13 : Vec Ideal S256x128 .f32) (r : Fin 256) (l : Fin 128) :
    k0_pay1899 (F := Ideal) (k0_pay1895 x13) (k0_pay1896 x13) (k0_pay1897 x13) (k0_pay1898 x13) (ix2 r l) = expo (vRow x13 r) := by
  unfold expo
  rw [← v46_apply x13 r l, ← v18_apply x13 r l]
  unfold stepN
  pointwise [k0_pay1899, k0_pay1897, k0_pay1898]
  rfl

theorem v100_apply (x13 : Vec Ideal S256x128 .f32) (r : Fin 256) (l : Fin 128) :
    k0_pay4 (k0_pay1900 (F := Ideal) (k0_pay1895 x13) (k0_pay1896 x13) (k0_pay1897 x13) (k0_pay1898 x13))
      (k0_pay1901 (F := Ideal) (k0_pay1895 x13) (k0_pay1896 x13) (k0_pay1897 x13) (k0_pay1898 x13)) 0#32 (ix2 r l) = expE (vRow x13 r) := by
  unfold expE
  rw [← v91_apply x13 r l]
  rw [← v18_apply x13 r l]
  pointwise [k0_pay4, k0_pay1900, k0_pay1901]
  rfl

theorem inv_apply (a : IVec S256x128 1) (b : IVec S256x128 32) (r : Fin 256) (l : Fin 128) :
    k0_pay6 (F := Ideal) a b 0#32 (ix2 r l) = Ideal.ofBits .f32 ((127#32 - k0_pay4 a b 0#32 (ix2 r l)) <<< 23) := by
  pointwise [k0_pay6]
  rfl

theorem scale_apply (a : IVec S256x128 1) (b : IVec S256x128 32) (r : Fin 256) (l : Fin 128) :
    k0_pay5 (F := Ideal) a b 0#32 (ix2 r l) = Ideal.ofBits .f32 ((127#32 + k0_pay4 a b 0#32 (ix2 r l)) <<< 23) := by
  pointwise [k0_pay5]
  rfl

theorem diag_apply (a b : Fin 128) : k0_pay7 (ix2 a b) = BitVec.ofBool (decide (a = b)) := by
  pointwise [k0_pay7]
  show BitVec.ofBool _ = _
  congr 1
  rw [Bool.eq_iff_iff, beq_iff_eq, decide_eq_true_eq]
  constructor
  · intro e
    have := congrArg BitVec.toNat e
    rw [BitVec.toNat_ofNat, BitVec.toNat_ofNat] at this
    exact Fin.ext (by omega)
  · intro e; rw [e]

theorem row0_apply (a : IVec S256x128 1) (b : IVec S256x128 32) (z : Fin 1) (l : Fin 128) :
    k0_pay8 (F := Ideal) a b 0#32 (ix2 z l) = k0_pay5 (F := Ideal) a b 0#32 (ix2 ⟨l.val, by omega⟩ l) := by
  have h : k0_pay8 (F := Ideal) a b 0#32 (ix2 z l)
      = (∑ k : Fin 128, Scalar.select (k0_pay7 (ix2 k l)) (k0_pay5 (F := Ideal) a b 0#32 (ix2 ⟨k.val, by omega⟩ l)) (0 : EReal) : EReal) := by
    pointwise [k0_pay8]
  rw [h, Finset.sum_eq_single l]
  · rw [diag_apply]; simp [Scalar.select]
  · intro k _ hk; rw [diag_apply]; simp [Scalar.select, hk]
  · intro hk; exact absurd (Finset.mem_univ _) hk

theorem row1_apply (a : IVec S256x128 1) (b : IVec S256x128 32) (z : Fin 1) (l : Fin 128) :
    k0_pay9 (F := Ideal) a b 0#32 (ix2 z l) = k0_pay5 (F := Ideal) a b 0#32 (ix2 ⟨128 + l.val, by omega⟩ l) := by
  have h : k0_pay9 (F := Ideal) a b 0#32 (ix2 z l)
      = (∑ k : Fin 128, Scalar.select (k0_pay7 (ix2 k l)) (k0_pay5 (F := Ideal) a b 0#32 (ix2 ⟨128 + k.val, by omega⟩ l)) (0 : EReal) : EReal) := by
    pointwise [k0_pay9]
  rw [h, Finset.sum_eq_single l]
  · rw [diag_apply]; simp [Scalar.select]
  · intro k _ hk; rw [diag_apply]; simp [Scalar.select, hk]
  · intro hk; exact absurd (Finset.mem_univ _) hk

theorem x8_inb (p : Fin 2) : ∀ a, (![p.val, 0] : Fin 2 → Nat) a + S1x128.size a ≤ S2x128.size a
  | ⟨0, _⟩ => by show p.val + 1 ≤ 2; omega
  | ⟨1, _⟩ => by show 0 + 128 ≤ 128; omega

section
variable (c : Dev nD) (i : grid0.Coords) (h : k0_cond3 i = 1#1) (arg1 : Memref sig .tc .vmem S256x1024 .bf16) (harg1 : arg1.IsWhole) (arg2 : Memref sig .tc .vmem S1024x16 .bf16) (harg2 : arg2.IsWhole) (arg3 : Memref sig .tc .vmem S512x2048 .i8) (harg3 : arg3.IsWhole) (arg4 : Memref sig .tc .vmem S16x2048 .f32) (harg4 : arg4.IsWhole) (arg5 : Memref sig .tc .vmem S16x2048 .bf16) (harg5 : arg5.IsWhole) (arg6 : Memref sig .tc .vmem S256x2048 .bf16) (harg6 : arg6.IsWhole) (arg7 : Memref sig .tc .vmem S256x2048 .fp8e4m3) (harg7 : arg7.IsWhole) (arg8 : Memref sig .tc .vmem S2x128 .f32) (harg8 : arg8.IsWhole) (arg9 : Memref sig .tc .vmem S256x1024 .bf16) (harg9 : arg9.IsWhole) (arg10 : Memref sig .tc .vmem S256x16 .bf16) (harg10 : arg10.IsWhole) (arg11 : Memref sig .tc .vmem S4x1024x512 .bf16) (harg11 : arg11.IsWhole) (arg12 : Memref sig .tc .vmem S12x256x2048 .f32) (harg12 : arg12.IsWhole) (arg13 : Memref sig .tc .vmem S256x128 .f32) (harg13 : arg13.IsWhole) (arg14 : Memref sig .tc .vmem S256x128 .f32) (harg14 : arg14.IsWhole)

/-- The running maximum, as region 3 loads it. -/
def ld13 {F : FTy → Type} [FloatOps F] (x13 : Vec F S256x128 .f32) : Vec F S256x128 .f32 :=
  View.readAt (Elt F) arg13.view (Rect.unit (s := S256x128) ![0, 0] S256x128.size inb_S256x128_S256x128_0_0).toLoadRect (harg13.unread x13)

theorem ld13_eq (x13 : Vec Ideal S256x128 .f32) : ld13 arg13 harg13 x13 = x13 := by
  funext y
  obtain ⟨r, l, rfl⟩ : ∃ (r : Fin 256) (l : Fin 128), y = ix2 r l := ⟨_, _, eq_ix2 y⟩
  unfold ld13
  rw [harg13.readAt_unread]
  exact congrArg x13 (full_idx2 _ r l)

/-- The word that says a row's exponent is taken. -/
def w96 {F : FTy → Type} [FloatOps F] (x : Vec F S256x128 .f32) : IVec S256x128 1 := k0_pay1900 (F := F) (k0_pay1895 x) (k0_pay1896 x) (k0_pay1897 x) (k0_pay1898 x)
/-- The exponent before it is chosen. -/
def w98 {F : FTy → Type} [FloatOps F] (x : Vec F S256x128 .f32) : IVec S256x128 32 := k0_pay1901 (F := F) (k0_pay1895 x) (k0_pay1896 x) (k0_pay1897 x) (k0_pay1898 x)

theorem run3_L14 {F : FTy → Type} [FloatOps F] (x13 : Vec F S256x128 .f32) :
    (run3.{1} c i h arg1 harg1 arg2 harg2 arg3 harg3 arg4 harg4 arg5 harg5 arg6 harg6 arg7 harg7 arg8 harg8 arg9 harg9 arg10 harg10 arg11 harg11 arg12 harg12 arg13 harg13 arg14 harg14 x13).2.1 = [⟨Rect.unit (s := S256x128) ![0, 0] S256x128.size inb_S256x128_S256x128_0_0,
      k0_pay6 (w96 (ld13 arg13 harg13 x13)) (w98 (ld13 arg13 harg13 x13)) 0#32⟩] := by sl_kernel_rfl

theorem run3_L8 {F : FTy → Type} [FloatOps F] (x13 : Vec F S256x128 .f32) :
    (run3.{1} c i h arg1 harg1 arg2 harg2 arg3 harg3 arg4 harg4 arg5 harg5 arg6 harg6 arg7 harg7 arg8 harg8 arg9 harg9 arg10 harg10 arg11 harg11 arg12 harg12 arg13 harg13 arg14 harg14 x13).1 = [⟨Rect.unit (s := S2x128) ![(1 : Fin 2).val, 0] S1x128.size (x8_inb 1), k0_pay9 (w96 (ld13 arg13 harg13 x13)) (w98 (ld13 arg13 harg13 x13)) 0#32⟩,
      ⟨Rect.unit (s := S2x128) ![(0 : Fin 2).val, 0] S1x128.size (x8_inb 0), k0_pay8 (w96 (ld13 arg13 harg13 x13)) (w98 (ld13 arg13 harg13 x13)) 0#32⟩] := by sl_kernel_rfl

/-- The scales. -/
def scF (x13 : Vec Ideal S256x128 .f32) : Vec Ideal S2x128 .f32 :=
  fun q => scaleE (vRow x13 ⟨128 * (q 0).val + (q 1).val, by have h0 : (q 0).val < 2 := (q 0).isLt; have h1 : (q 1).val < 128 := (q 1).isLt; omega⟩)

/-- The reciprocals of the scales. -/
def invF (x13 : Vec Ideal S256x128 .f32) : Vec Ideal S256x128 .f32 := fun q => invE (vRow x13 (q 0))

variable (x13 : Vec Ideal S256x128 .f32)

theorem read3_L14 (f : arg14.view.ty.Contents (Elt Ideal)) :
    arg14.view.read (Elt Ideal) (arg14.view.writes (Elt Ideal) f (run3.{1} (F := Ideal) c i h arg1 harg1 arg2 harg2 arg3 harg3 arg4 harg4 arg5 harg5 arg6 harg6 arg7 harg7 arg8 harg8 arg9 harg9 arg10 harg10 arg11 harg11 arg12 harg12 arg13 harg13 arg14 harg14 x13).2.1) = invF x13 := by
  rw [run3_L14, ld13_eq]
  funext y
  refine View.read_writes_apply_of_pieces (Val := Elt Ideal) arg14.view _ (invF x13) _ ?_ y ?_
  · simp only [List.forall_mem_cons, List.not_mem_nil, false_imp_iff, implies_true, and_true]
    intro x
    obtain ⟨r, l, rfl⟩ : ∃ (r : Fin 256) (l : Fin 128), x = ix2 r l := ⟨_, _, eq_ix2 x⟩
    have hE : (Rect.unit (s := S256x128) ![0, 0] S256x128.size inb_S256x128_S256x128_0_0).emb (ix2 r l) = ix2 (n0 := 256) (n1 := 128) r l := full_idx2 _ r l
    rw [hE]
    refine (inv_apply _ _ r l).trans ?_
    unfold w96 w98
    rw [v100_apply]
    rfl
  · refine ⟨_, List.mem_cons_self, (Rect.mem_set_unit (inb := inb_S256x128_S256x128_0_0)).2 ?_⟩
    have hy0 : (y 0).val < 256 := (y 0).isLt
    have hy1 : (y 1).val < 128 := (y 1).isLt
    intro a
    match a with
    | ⟨0, _⟩ => show 0 ≤ (y 0).val ∧ (y 0).val < 0 + 256; omega
    | ⟨1, _⟩ => show 0 ≤ (y 1).val ∧ (y 1).val < 0 + 128; omega

theorem read3_L8 (f : arg8.view.ty.Contents (Elt Ideal)) :
    arg8.view.read (Elt Ideal) (arg8.view.writes (Elt Ideal) f (run3.{1} (F := Ideal) c i h arg1 harg1 arg2 harg2 arg3 harg3 arg4 harg4 arg5 harg5 arg6 harg6 arg7 harg7 arg8 harg8 arg9 harg9 arg10 harg10 arg11 harg11 arg12 harg12 arg13 harg13 arg14 harg14 x13).1) = scF x13 := by
  rw [run3_L8, ld13_eq]
  funext y
  refine View.read_writes_apply_of_pieces (Val := Elt Ideal) arg8.view _ (scF x13) _ ?_ y ?_
  · simp only [List.forall_mem_cons, List.not_mem_nil, false_imp_iff, implies_true, and_true]
    constructor
    · intro x
      obtain ⟨z, l, rfl⟩ : ∃ (z : Fin 1) (l : Fin 128), x = ix2 z l := ⟨_, _, eq_ix2 x⟩
      have hE : (Rect.unit (s := S2x128) ![(1 : Fin 2).val, 0] S1x128.size (x8_inb 1)).emb (ix2 z l) = ix2 (n0 := 2) (n1 := 128) ⟨1 + z.val, by omega⟩ ⟨0 + l.val, by omega⟩ := unit_idx2 (x8_inb 1) z l (by show 1 + z.val < 2; omega) (by omega)
      rw [hE]
      refine (row1_apply _ _ z l).trans ?_
      rw [scale_apply]
      unfold w96 w98
      rw [v100_apply]
      unfold scF scaleE
      refine congrArg (fun q => Ideal.ofBits .f32 ((127#32 + expE (vRow x13 q)) <<< 23)) (Fin.ext ?_)
      show 128 + l.val = 128 * (1 + z.val) + (0 + l.val); omega
    · intro x
      obtain ⟨z, l, rfl⟩ : ∃ (z : Fin 1) (l : Fin 128), x = ix2 z l := ⟨_, _, eq_ix2 x⟩
      have hE : (Rect.unit (s := S2x128) ![(0 : Fin 2).val, 0] S1x128.size (x8_inb 0)).emb (ix2 z l) = ix2 (n0 := 2) (n1 := 128) ⟨0 + z.val, by omega⟩ ⟨0 + l.val, by omega⟩ := unit_idx2 (x8_inb 0) z l (by show 0 + z.val < 2; omega) (by omega)
      rw [hE]
      refine (row0_apply _ _ z l).trans ?_
      rw [scale_apply]
      unfold w96 w98
      rw [v100_apply]
      unfold scF scaleE
      refine congrArg (fun q => Ideal.ofBits .f32 ((127#32 + expE (vRow x13 q)) <<< 23)) (Fin.ext ?_)
      show l.val = 128 * (0 + z.val) + (0 + l.val); omega
  · have hy0 : (y 0).val < 2 := (y 0).isLt
    have hy1 : (y 1).val < 128 := (y 1).isLt
    by_cases e : (y 0).val = 0
    · refine ⟨_, List.mem_cons_of_mem _ List.mem_cons_self, (Rect.mem_set_unit (inb := x8_inb 0)).2 ?_⟩
      intro a
      match a with
      | ⟨0, _⟩ => show 0 ≤ (y 0).val ∧ (y 0).val < 0 + 1; omega
      | ⟨1, _⟩ => show 0 ≤ (y 1).val ∧ (y 1).val < 0 + 128; omega
    · refine ⟨_, List.mem_cons_self, (Rect.mem_set_unit (inb := x8_inb 1)).2 ?_⟩
      intro a
      match a with
      | ⟨0, _⟩ => show 1 ≤ (y 0).val ∧ (y 0).val < 1 + 1; omega
      | ⟨1, _⟩ => show 0 ≤ (y 1).val ∧ (y 1).val < 0 + 128; omega
end

end Cert.KernelIdeal.Gen

end
-- ==== Proof.Read4.lean ====
module

public import proofs.«01_k».proof.Proof.Run4
public import proofs.«01_k».proof.Proof.Read1

@[expose] public section

set_option maxRecDepth 16384

noncomputable section

namespace Cert.KernelIdeal.Gen

open Idealize.ShloMosaic Idealize.ShloMosaic.TcCoe Idealize.ShloMosaic.Tactic
open Idealize.ShloMosaic.ValueIdx hiding ix1 ix2 ix3 ix4 eq_ix1 eq_ix2 eq_ix3 eq_ix4

/-- A number held between the two greatest magnitudes of the codes' format. -/
def clipE (z : EReal) : EReal := min (Ideal.ofBits .f32 0x43E00000#32) (max (Ideal.ofBits .f32 0xC3E00000#32) z)

/-- The block of kept rows a point reads, as the kernel computes it. -/
def rowB (i : grid0.Coords) : Nat := (Scalar.indexCast (Scalar.subi (BitVec.ofNat 32 (i 0).val) 12#32) : Index).toNat

theorem rowB_eq (i : grid0.Coords) (hi : 12 ≤ (i 0).val) : rowB i = (i 0).val - 12 := by
  have h24 : (i 0).val < 24 := (i 0).isLt
  show (BitVec.ofNat 32 (i 0).val - 12#32).toNat = _
  rw [BitVec.toNat_sub, BitVec.toNat_ofNat]
  show (2 ^ 32 - 12 + (i 0).val % 2 ^ 32) % 2 ^ 32 = _
  omega

theorem rowB_inb (i : grid0.Coords) (hi : 12 ≤ (i 0).val) (p : Fin 16) : ∀ a, (![rowB i, 0, 128 * p.val] : Fin 3 → Nat) a + S1x256x128.size a ≤ S12x256x2048.size a
  | ⟨0, _⟩ => by have h24 : (i 0).val < 24 := (i 0).isLt; show rowB i + 1 ≤ 12; rw [rowB_eq i hi]; omega
  | ⟨1, _⟩ => by show 0 + 256 ≤ 256; omega
  | ⟨2, _⟩ => by show 128 * p.val + 128 ≤ 2048; omega

theorem y7_inb (p : Fin 16) : ∀ a, (![0, 128 * p.val] : Fin 2 → Nat) a + S256x128.size a ≤ S256x2048.size a
  | ⟨0, _⟩ => by show 0 + 256 ≤ 256; omega
  | ⟨1, _⟩ => by show 128 * p.val + 128 ≤ 2048; omega

theorem code_apply (v : Vec Ideal S256x128 .f32) (w : Vec Ideal S1x256x128 .f32) (r : Fin 256) (l : Fin 128) :
    k0_pay1902 (F := Ideal) v w (ix2 r l) = clipE ((w (ix3 0 r l) : EReal) * v (ix2 r l)) := by
  unfold clipE
  pointwise [k0_pay1902]

/-- The codes a point stores. -/
def codeF (i : grid0.Coords) (x12 : Vec Ideal S12x256x2048 .f32) (x14 : Vec Ideal S256x128 .f32) : Vec Ideal S256x2048 .fp8e4m3 :=
  fun q => clipE ((x12 (ix3 ⟨(i 0).val - 12, by have h24 : (i 0).val < 24 := (i 0).isLt; omega⟩ (q 0) (q 1)) : EReal) * x14 (ix2 (q 0) ⟨(q 1).val % 128, Nat.mod_lt _ (by decide)⟩))

section
variable (c : Dev nD) (i : grid0.Coords) (h : k0_cond4 i = 1#1) (hi : 12 ≤ (i 0).val) (arg1 : Memref sig .tc .vmem S256x1024 .bf16) (harg1 : arg1.IsWhole) (arg2 : Memref sig .tc .vmem S1024x16 .bf16) (harg2 : arg2.IsWhole) (arg3 : Memref sig .tc .vmem S512x2048 .i8) (harg3 : arg3.IsWhole) (arg4 : Memref sig .tc .vmem S16x2048 .f32) (harg4 : arg4.IsWhole) (arg5 : Memref sig .tc .vmem S16x2048 .bf16) (harg5 : arg5.IsWhole) (arg6 : Memref sig .tc .vmem S256x2048 .bf16) (harg6 : arg6.IsWhole) (arg7 : Memref sig .tc .vmem S256x2048 .fp8e4m3) (harg7 : arg7.IsWhole) (arg8 : Memref sig .tc .vmem S2x128 .f32) (harg8 : arg8.IsWhole) (arg9 : Memref sig .tc .vmem S256x1024 .bf16) (harg9 : arg9.IsWhole) (arg10 : Memref sig .tc .vmem S256x16 .bf16) (harg10 : arg10.IsWhole) (arg11 : Memref sig .tc .vmem S4x1024x512 .bf16) (harg11 : arg11.IsWhole) (arg12 : Memref sig .tc .vmem S12x256x2048 .f32) (harg12 : arg12.IsWhole) (arg13 : Memref sig .tc .vmem S256x128 .f32) (harg13 : arg13.IsWhole) (arg14 : Memref sig .tc .vmem S256x128 .f32) (harg14 : arg14.IsWhole)

/-- The store of 128 columns of codes. -/
def q7 {F : FTy → Type} [FloatOps F] (x12 : Vec F S12x256x2048 .f32) (x14 : Vec F S256x128 .f32) (p : Fin 16) : View.Piece (Elt F) S256x2048 .fp8e4m3 :=
  ⟨Rect.unit (s := S256x2048) ![0, 128 * p.val] S256x128.size (y7_inb p),
    k0_pay1902 (View.readAt (Elt F) arg14.view (Rect.unit (s := S256x128) ![0, 0] S256x128.size inb_S256x128_S256x128_0_0).toLoadRect (harg14.unread x14))
      (View.readAt (Elt F) arg12.view (Rect.unit (s := S12x256x2048) ![rowB i, 0, 128 * p.val] S1x256x128.size (rowB_inb i hi p)).toLoadRect (harg12.unread x12))⟩

theorem run4_L7 {F : FTy → Type} [FloatOps F] (x12 : Vec F S12x256x2048 .f32) (x14 : Vec F S256x128 .f32) :
    (run4.{1} c i h arg1 harg1 arg2 harg2 arg3 harg3 arg4 harg4 arg5 harg5 arg6 harg6 arg7 harg7 arg8 harg8 arg9 harg9 arg10 harg10 arg11 harg11 arg12 harg12 arg13 harg13 arg14 harg14 x12 x14).1 = ([15, 14, 13, 12, 11, 10, 9, 8, 7, 6, 5, 4, 3, 2, 1, 0] : List (Fin 16)).map (q7 i hi arg12 harg12 arg14 harg14 x12 x14) := by
  sl_kernel_rfl

variable (x12 : Vec Ideal S12x256x2048 .f32) (x14 : Vec Ideal S256x128 .f32)

include hi in
theorem read4_L7 (f : arg7.view.ty.Contents (Elt Ideal)) :
    arg7.view.read (Elt Ideal) (arg7.view.writes (Elt Ideal) f (run4.{1} (F := Ideal) c i h arg1 harg1 arg2 harg2 arg3 harg3 arg4 harg4 arg5 harg5 arg6 harg6 arg7 harg7 arg8 harg8 arg9 harg9 arg10 harg10 arg11 harg11 arg12 harg12 arg13 harg13 arg14 harg14 x12 x14).1) = codeF i x12 x14 := by
  rw [run4_L7 (hi := hi)]
  have hrow : rowB i = (i 0).val - 12 := rowB_eq i hi
  have h24 : (i 0).val < 24 := (i 0).isLt
  funext y
  refine View.read_writes_apply_of_pieces (Val := Elt Ideal) arg7.view _ (codeF i x12 x14) _ ?_ y ?_
  · intro pc hpc
    obtain ⟨p, _, rfl⟩ := List.mem_map.1 hpc
    intro x
    obtain ⟨r, l, rfl⟩ : ∃ (r : Fin 256) (l : Fin 128), x = ix2 r l := ⟨_, _, eq_ix2 x⟩
    have hE : (q7 (F := Ideal) i hi arg12 harg12 arg14 harg14 x12 x14 p).1.emb (ix2 r l)
        = ix2 (n0 := 256) (n1 := 2048) ⟨0 + r.val, by omega⟩ ⟨128 * p.val + l.val, by omega⟩ := unit_idx2 (y7_inb p) r l _ _
    rw [hE]
    refine (code_apply _ _ r l).trans ?_
    unfold codeF
    rw [harg12.readAt_unread, harg14.readAt_unread]
    rw [unit_idx3 (rowB_inb i hi p) 0 r l (by show rowB i + 0 < 12; omega) (by omega) (by omega)]
    refine congrArg clipE (congrArg₂ (fun a b => (x12 a : EReal) * x14 b) ?_ ?_)
    · refine congr (congrArg₂ ix3 (Fin.ext ?_) (Fin.ext ?_)) rfl
      · show rowB i + 0 = _; omega
      · rfl
    · refine (full_idx2 inb_S256x128_S256x128_0_0 r l).trans (congrArg₂ ix2 (Fin.ext ?_) (Fin.ext ?_))
      · show r.val = 0 + r.val; omega
      · show l.val = (128 * p.val + l.val) % 128; omega
  · have hy0 : (y 0).val < 256 := (y 0).isLt
    have hy1 : (y 1).val < 2048 := (y 1).isLt
    refine ⟨q7 (F := Ideal) i hi arg12 harg12 arg14 harg14 x12 x14 ⟨(y 1).val / 128, by omega⟩, List.mem_map.2 ⟨_, ?_, rfl⟩, (Rect.mem_set_unit (inb := y7_inb _)).2 ?_⟩
    · have ha : ∀ p : Fin 16, p ∈ ([15, 14, 13, 12, 11, 10, 9, 8, 7, 6, 5, 4, 3, 2, 1, 0] : List (Fin 16)) := by decide
      exact ha _
    · intro a
      match a with
      | ⟨0, _⟩ => show 0 ≤ (y 0).val ∧ (y 0).val < 0 + 256; omega
      | ⟨1, _⟩ => show 128 * ((y 1).val / 128) ≤ (y 1).val ∧ (y 1).val < 128 * ((y 1).val / 128) + 128; omega
end

end Cert.KernelIdeal.Gen

end
-- ==== Proof.KDat.lean ====
module

public import proofs.«01_k».proof.Proof.KFrame
public import proofs.«01_k».proof.Proof.Read2
public import proofs.«01_k».proof.Proof.Read3
public import proofs.«01_k».proof.Proof.Read4

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx hiding ix1 ix2 ix3 ix4 eq_ix1 eq_ix2 eq_ix3 eq_ix4
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg) (c : Dev nD)

/-! What the buffers and the outputs hold at each grid point, as extended reals. -/

/-- A grid point by its number. -/
def pt (n : Nat) : Fin cfg0.N := ⟨n % 24, lt_of_lt_of_eq (Nat.mod_lt _ (by decide)) (show 24 = cfg0.N from N_0.symm)⟩

theorem pt_val (t : Fin cfg0.N) : pt t.val = t := by
  have h : t.val < 24 := lt_of_lt_of_eq t.isLt (show cfg0.N = 24 from N_0)
  exact Fin.ext (Nat.mod_eq_of_lt h)

theorem coord_val (t : Fin cfg0.N) : (grid0.coords t 0).val = t.val := by
  have h : t.val < 24 := lt_of_lt_of_eq t.isLt (show cfg0.N = 24 from N_0)
  have e0 : (grid0.coords t 0).val = t.val / 1 % 24 := Pipeline.Grid.coords_val t 0 (by decide) rfl
  omega

/-- The permuted input. -/
def xpV : Vec Ideal S256x1024 .bf16 := xpF (iblk m c 0 (pt 0))
/-- The low-rank product's first half. -/
def hV : Vec Ideal S256x16 .bf16 := hF (iblk m c 0 (pt 0)) (iblk m c 1 (pt 0))
/-- Block `p` of 2048 columns of the output. -/
def Yb (p : Nat) (r : Fin 256) (n : Fin 2048) : EReal := Yf (iblk m c 2 (pt p)) (iblk m c 3 (pt p)) (iblk m c 4 (pt p)) (xpV m c) (hV m c) r n
/-- The running maximum before point `n`. -/
def amaxAt : Nat → Vec Ideal S256x128 .f32
  | 0 => fun _ => (0 : EReal)
  | n + 1 => fun q => ((amaxAt n q : EReal) ⊔ laneMax (Yb m c n (q 0)) (q 1) : EReal)

/-- What the kept buffers hold before point `n`. -/
def Pn (n : Nat) (x9 : Vec Ideal S256x1024 .bf16) (x10 : Vec Ideal S256x16 .bf16) (x12 : Vec Ideal S12x256x2048 .f32) (x13 x14 : Vec Ideal S256x128 .f32) : Prop :=
  (0 < n → x9 = xpV m c ∧ x10 = hV m c ∧ x13 = amaxAt m c (min n 12))
    ∧ (∀ y : S12x256x2048.Idx, (y 0).val < min n 12 → x12 y = Yb m c (y 0).val (y 1) (y 2))
    ∧ (13 ≤ n → x14 = invF (amaxAt m c 12))

/-- The output's block at a point. -/
def aft5 (t : Fin cfg0.N) : Vec Ideal S256x2048 .bf16 := fun q => Yb m c (min t.val 11) (q 0) (q 1)
/-- The codes' block at a point. -/
def aft6 (t : Fin cfg0.N) : Vec Ideal S256x2048 .fp8e4m3 :=
  fun q => clipE (Yb m c (t.val - 12) (q 0) (q 1) * invE (vRow (amaxAt m c 12) (q 0)))
/-- The scales. -/
def aft7 : Vec Ideal S2x128 .f32 := scF (amaxAt m c 12)

/-- The proof data. -/
def datV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => aft5 m c t
    | ⟨6, _⟩ => aft6 m c t
    | ⟨7, _⟩ => aft7 m c
  Φ t := PhiP c (Pn m c t.val)
  q _ := fullShare
  owed _ := 0

theorem datV_A (c : Dev nD) (w : Fin cfg0.W) : (datV m 0 c).A w = V m c (Pipeline.arrRef spec0 w) := by
  dsimp only [datV]

theorem datV_after0 (c : Dev nD) (t : Fin cfg0.N) : (datV m 0 c).after 0 t = iblk m c 0 t := by dsimp only [datV]
theorem datV_after1 (c : Dev nD) (t : Fin cfg0.N) : (datV m 0 c).after 1 t = iblk m c 1 t := by dsimp only [datV]
theorem datV_after2 (c : Dev nD) (t : Fin cfg0.N) : (datV m 0 c).after 2 t = iblk m c 2 t := by dsimp only [datV]
theorem datV_after3 (c : Dev nD) (t : Fin cfg0.N) : (datV m 0 c).after 3 t = iblk m c 3 t := by dsimp only [datV]
theorem datV_after4 (c : Dev nD) (t : Fin cfg0.N) : (datV m 0 c).after 4 t = iblk m c 4 t := by dsimp only [datV]
theorem datV_after5 (c : Dev nD) (t : Fin cfg0.N) : (datV m 0 c).after 5 t = aft5 m c t := by dsimp only [datV]
theorem datV_after6 (c : Dev nD) (t : Fin cfg0.N) : (datV m 0 c).after 6 t = aft6 m c t := by dsimp only [datV]
theorem datV_after7 (c : Dev nD) (t : Fin cfg0.N) : (datV m 0 c).after 7 t = aft7 m c := by dsimp only [datV]
theorem datV_before0 (c : Dev nD) (t : Fin cfg0.N) (d) : (datV m 0 c).before 0 t d = iblk m c 0 t :=
  before0_0_of m (datV m 0 c) (datV_A m c 0) (datV_after0 m c) t d
theorem datV_before1 (c : Dev nD) (t : Fin cfg0.N) (d) : (datV m 0 c).before 1 t d = iblk m c 1 t :=
  before0_1_of m (datV m 0 c) (datV_A m c 1) (datV_after1 m c) t d
theorem datV_before2 (c : Dev nD) (t : Fin cfg0.N) (d) : (datV m 0 c).before 2 t d = iblk m c 2 t :=
  before0_2_of m (datV m 0 c) (datV_A m c 2) (datV_after2 m c) t d
theorem datV_before3 (c : Dev nD) (t : Fin cfg0.N) (d) : (datV m 0 c).before 3 t d = iblk m c 3 t :=
  before0_3_of m (datV m 0 c) (datV_A m c 3) (datV_after3 m c) t d
theorem datV_before4 (c : Dev nD) (t : Fin cfg0.N) (d) : (datV m 0 c).before 4 t d = iblk m c 4 t :=
  before0_4_of m (datV m 0 c) (datV_A m c 4) (datV_after4 m c) t d

theorem idle0_5 : ∀ t : Fin cfg0.N, cfg0.idle 5 (grid0.coords t) = decide (12 ≤ t.val) :=
  (by decide +kernel : ∀ t : Fin grid0.N, cfg0.idle 5 (grid0.coords t) = decide (12 ≤ t.val))
theorem idle0_6 : ∀ t : Fin cfg0.N, cfg0.idle 6 (grid0.coords t) = decide (t.val < 12) :=
  (by decide +kernel : ∀ t : Fin grid0.N, cfg0.idle 6 (grid0.coords t) = decide (t.val < 12))
theorem idle0_7 : ∀ t : Fin cfg0.N, cfg0.idle 7 (grid0.coords t) = decide (t.val ≠ 12) :=
  (by decide +kernel : ∀ t : Fin grid0.N, cfg0.idle 7 (grid0.coords t) = decide (t.val ≠ 12))
theorem flush0_5 : ∀ t : Fin cfg0.N, (cfg0.win 5).flush t = decide (t.val < 11 ∨ t.val = 23) :=
  (by decide +kernel : ∀ t : Fin grid0.N, (cfg0.win 5).flush t = decide (t.val < 11 ∨ t.val = 23))
theorem flush0_6 : ∀ t : Fin cfg0.N, (cfg0.win 6).flush t = decide (12 ≤ t.val) :=
  (by decide +kernel : ∀ t : Fin grid0.N, (cfg0.win 6).flush t = decide (12 ≤ t.val))
theorem flushv0_7 : ∀ t : Fin cfg0.N, (cfg0.win 7).flush t = decide (t.val = 23) :=
  (by decide +kernel : ∀ t : Fin grid0.N, (cfg0.win 7).flush t = decide (t.val = 23))

/-- What a point leaves in a window's buffer: what it found, where the window is idle and not written back; else what the data say. -/
def LE (w : Fin cfg0.W) (t : Fin cfg0.N) (X : (cfg0.win w).block.Idx → Elt Ideal (cfg0.win w).elt) : Prop :=
  if cfg0.idle w (grid0.coords t) = true ∧ (cfg0.win w).flush t = false then ∃ d, X = (datV m 0 c).before w t d else X = (datV m 0 c).after w t

theorem leaves_back (w : Fin cfg0.W) (t : Fin cfg0.N) :
    iprop(∃ X, ⌜LE m c w t X⌝ ∗ owns (c : Thread nD τ) ((cfg0.win w).stage (cfg0.slots t w)) fullShare X) ⊢ ((datV m 0 c).leavesExact w t : sProp 𝕄) := by
  iintro ⟨%X, %hX, H⟩
  unfold LE at hX
  unfold Dat.leavesExact
  split
  · rename_i hi
    split
    · rename_i hf
      rw [if_pos ⟨hi, hf⟩] at hX
      obtain ⟨d, rfl⟩ := hX
      iexists d; iexact H
    · rename_i hf
      rw [if_neg (by intro h; rw [h.2] at hf; exact Bool.noConfusion hf)] at hX
      subst hX
      iexact H
  · rename_i hi
    rw [if_neg (by intro h; rw [h.1] at hi; exact Bool.noConfusion hi)] at hX
    subst hX
    iexact H

theorem before5_late (t : Fin cfg0.N) (d) (ht : 12 ≤ t.val) : (datV m 0 c).before 5 t d = aft5 m c t := by
  obtain ⟨n, hn⟩ := t
  have h24 : n < 24 := lt_of_lt_of_eq hn (show cfg0.N = 24 from N_0)
  induction n with
  | zero => exact absurd ht (by show ¬ 12 ≤ 0; omega)
  | succ k ih =>
    have ht' : 12 ≤ k + 1 := ht
    rw [Dat.before_of_pos (datV m 0 c) 5 ⟨k + 1, hn⟩ (by show k + 1 ≠ 0; omega) rfl d]
    have hk : k < cfg0.N := by omega
    show (if (cfg0.win 5).flush ⟨k, hk⟩ = true then d else (datV m 0 c).left 5 ⟨k, hk⟩ d) = _
    rw [flush0_5]
    rw [if_neg (by simp only [decide_eq_true_eq]; omega)]
    unfold Dat.left
    have hid := idle0_5 ⟨k, hk⟩
    by_cases h : 12 ≤ k
    · have hid' : cfg0.idle 5 (grid0.coords ⟨k, hk⟩) = true := by rw [hid]; simpa using h
      rw [show cfg0.idle 5 (cfg0.grid.coords ⟨k, hk⟩) = true from hid']
      refine (ih hk h (by omega)).trans ?_
      unfold aft5
      rw [show min (⟨k, hk⟩ : Fin cfg0.N).val 11 = 11 by show min k 11 = 11; omega, show min (⟨k + 1, hn⟩ : Fin cfg0.N).val 11 = 11 by show min (k + 1) 11 = 11; omega]
    · have hid' : cfg0.idle 5 (grid0.coords ⟨k, hk⟩) = false := by rw [hid]; simpa using h
      rw [show cfg0.idle 5 (cfg0.grid.coords ⟨k, hk⟩) = false from hid']
      show (datV m 0 c).kept 5 ⟨k, hk⟩ d = _
      have hkept : (datV m 0 c).kept 5 ⟨k, hk⟩ d = (datV m 0 c).after 5 ⟨k, hk⟩ := by
        unfold Dat.kept
        rw [Pipeline.fill_of_clip_none 5 _ (fun _ => rfl) d ((datV m 0 c).after 5 ⟨k, hk⟩), Pipeline.Window.fill_cut]
      rw [hkept, datV_after5]
      unfold aft5
      rw [show min (⟨k, hk⟩ : Fin cfg0.N).val 11 = 11 by show min k 11 = 11; omega, show min (⟨k + 1, hn⟩ : Fin cfg0.N).val 11 = 11 by show min (k + 1) 11 = 11; omega]

theorem before7_late (t : Fin cfg0.N) (d) (ht : 13 ≤ t.val) : (datV m 0 c).before 7 t d = aft7 m c := by
  obtain ⟨n, hn⟩ := t
  have h24 : n < 24 := lt_of_lt_of_eq hn (show cfg0.N = 24 from N_0)
  induction n with
  | zero => exact absurd ht (by show ¬ 13 ≤ 0; omega)
  | succ k ih =>
    have ht' : 13 ≤ k + 1 := ht
    rw [Dat.before_of_pos (datV m 0 c) 7 ⟨k + 1, hn⟩ (by show k + 1 ≠ 0; omega) rfl d]
    have hk : k < cfg0.N := by omega
    show (if (cfg0.win 7).flush ⟨k, hk⟩ = true then d else (datV m 0 c).left 7 ⟨k, hk⟩ d) = _
    rw [flushv0_7]
    rw [if_neg (by simp only [decide_eq_true_eq]; omega)]
    unfold Dat.left
    have hid := idle0_7 ⟨k, hk⟩
    by_cases h : 13 ≤ k
    · have hid' : cfg0.idle 7 (grid0.coords ⟨k, hk⟩) = true := by rw [hid]; simp only [decide_eq_true_eq]; omega
      rw [show cfg0.idle 7 (cfg0.grid.coords ⟨k, hk⟩) = true from hid']
      exact ih hk h (by omega)
    · have hid' : cfg0.idle 7 (grid0.coords ⟨k, hk⟩) = false := by rw [hid]; simp only [decide_eq_false_iff_not]; omega
      rw [show cfg0.idle 7 (cfg0.grid.coords ⟨k, hk⟩) = false from hid']
      show (datV m 0 c).kept 7 ⟨k, hk⟩ d = _
      have hkept : (datV m 0 c).kept 7 ⟨k, hk⟩ d = (datV m 0 c).after 7 ⟨k, hk⟩ := by
        unfold Dat.kept
        rw [Pipeline.fill_of_clip_none 7 _ (fun _ => rfl) d ((datV m 0 c).after 7 ⟨k, hk⟩), Pipeline.Window.fill_cut]
      rw [hkept, datV_after7]

end Cert.KernelIdeal.Gen

end
-- ==== Proof.KVal.lean ====
module

public import proofs.«01_k».proof.Proof.KDat
public import proofs.«01_k».proof.Proof.Read1
public import proofs.«01_k».proof.Proof.Read2
public import proofs.«01_k».proof.Proof.Read3
public import proofs.«01_k».proof.Proof.Read4

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx hiding ix1 ix2 ix3 ix4 eq_ix1 eq_ix2 eq_ix3 eq_ix4
open Idealize.ShloMosaic.Pipeline (Dat Cfg Window BodyObligation cellOf)

local notation "𝕄" => MT nD τ sig Unit (Elt Ideal) ℕ (UR sig nD τ) ℕ

section
variable (c : Dev nD) (t : Fin cfg0.N)

theorem o1_9_eq (h : cond0_0 (grid0.coords t)) (x1 x2 f) : o1_9 (F := Ideal) c t h x1 x2 f = xpF x1 := by
  unfold o1_9; exact read1_L9 ..
theorem o1_10_eq (h : cond0_0 (grid0.coords t)) (x1 x2 f) : o1_10 (F := Ideal) c t h x1 x2 f = hF x1 x2 := by
  unfold o1_10; exact read1_L10 ..
theorem o1_13_eq (h : cond0_0 (grid0.coords t)) (x1 x2 f) : o1_13 (F := Ideal) c t h x1 x2 f = fun _ => (0 : EReal) := by
  unfold o1_13; exact read1_L13 ..
theorem o2_6_eq (h : k0_cond2 (grid0.coords t) = 1#1) (x3 x4 x5 x9 x10 x12 x13 f) : o2_6 (F := Ideal) c t h x3 x4 x5 x9 x10 x12 x13 f = fun q => Yf x3 x4 x5 x9 x10 (q 0) (q 1) := by
  unfold o2_6; exact read_L6 ..
theorem o2_12_eq (h : k0_cond2 (grid0.coords t) = 1#1) (ht : t.val < 12) (x3 x4 x5 x9 x10 x12 x13) : o2_12 (F := Ideal) c t h x3 x4 x5 x9 x10 x12 x13 = fun y => if (y 0).val = t.val then Yf x3 x4 x5 x9 x10 (y 1) (y 2) else x12 y := by
  unfold o2_12
  refine (read_L12 (hi := by rw [coord_val]; exact ht) ..).trans ?_
  rw [coord_val]
theorem o2_13_eq (h : k0_cond2 (grid0.coords t) = 1#1) (x3 x4 x5 x9 x10 x12 x13) : o2_13 (F := Ideal) c t h x3 x4 x5 x9 x10 x12 x13 = fun q => ((x13 q : EReal) ⊔ laneMax (Yf x3 x4 x5 x9 x10 (q 0)) (q 1) : EReal) := by
  unfold o2_13; exact read_L13 ..
theorem o3_8_eq (h : k0_cond3 (grid0.coords t) = 1#1) (x13 f) : o3_8 (F := Ideal) c t h x13 f = scF x13 := by
  unfold o3_8; exact read3_L8 ..
theorem o3_14_eq (h : k0_cond3 (grid0.coords t) = 1#1) (x13 f) : o3_14 (F := Ideal) c t h x13 f = invF x13 := by
  unfold o3_14; exact read3_L14 ..
theorem o4_7_eq (h : k0_cond4 (grid0.coords t) = 1#1) (ht : 12 ≤ t.val) (x12 x14 f) : o4_7 (F := Ideal) c t h x12 x14 f = codeF (grid0.coords t) x12 x14 := by
  unfold o4_7
  exact read4_L7 (hi := by rw [coord_val]; exact ht) ..

end

variable (m : (ℓ : Loc nD τ sig) → Buf (Elt Ideal) ℓ) (ρ : Dev nD → PrngReg) (c : Dev nD)

theorem Yb_pt (t : Fin cfg0.N) (x9 x10) (e9 : x9 = xpV m c) (e10 : x10 = hV m c) (r : Fin 256) (n : Fin 2048) :
    Yf (iblk m c 2 t) (iblk m c 3 t) (iblk m c 4 t) x9 x10 r n = Yb m c t.val r n := by
  unfold Yb; rw [pt_val, e9, e10]

/-- What the weights' half of a point does to the kept buffers. -/
theorem step_A (t : Fin cfg0.N) (ht : t.val < 12) (h2 : k0_cond2 (grid0.coords t) = 1#1) (x9 x10 x12 x13 x14)
    (e9 : x9 = xpV m c) (e10 : x10 = hV m c) (e13 : x13 = amaxAt m c t.val)
    (e12 : ∀ y : S12x256x2048.Idx, (y 0).val < min t.val 12 → x12 y = Yb m c (y 0).val (y 1) (y 2)) :
    Pn m c (t.val + 1) x9 x10 (o2_12 c t h2 (iblk m c 2 t) (iblk m c 3 t) (iblk m c 4 t) x9 x10 x12 x13)
      (o2_13 c t h2 (iblk m c 2 t) (iblk m c 3 t) (iblk m c 4 t) x9 x10 x12 x13) x14 := by
  refine ⟨fun _ => ⟨e9, e10, ?_⟩, fun y hy => ?_, fun h => absurd h (by omega)⟩
  · rw [o2_13_eq, show min (t.val + 1) 12 = t.val + 1 by omega, e13]
    funext q
    rw [show (Yf (iblk m c 2 t) (iblk m c 3 t) (iblk m c 4 t) x9 x10 (q 0)) = Yb m c t.val (q 0) from
      funext fun n => Yb_pt m c t x9 x10 e9 e10 (q 0) n]
    rfl
  · rw [o2_12_eq _ _ _ ht]
    show (if (y 0).val = t.val then (Yf (iblk m c 2 t) (iblk m c 3 t) (iblk m c 4 t) x9 x10 (y 1) (y 2) : EReal) else x12 y) = _
    by_cases hp : (y 0).val = t.val
    · rw [if_pos hp, hp]; exact Yb_pt m c t x9 x10 e9 e10 (y 1) (y 2)
    · rw [if_neg hp]; exact e12 y (by omega)

theorem out_A (t : Fin cfg0.N) (ht : t.val < 12) (h2 : k0_cond2 (grid0.coords t) = 1#1) (x9 x10 x12 x13 f)
    (e9 : x9 = xpV m c) (e10 : x10 = hV m c) :
    LE m c 5 t (o2_6 c t h2 (iblk m c 2 t) (iblk m c 3 t) (iblk m c 4 t) x9 x10 x12 x13 f) := by
  unfold LE
  rw [if_neg (by rw [idle0_5]; simp only [decide_eq_true_eq]; omega), datV_after5, o2_6_eq]
  unfold aft5
  funext q
  rw [show min t.val 11 = t.val by omega]
  exact Yb_pt m c t x9 x10 e9 e10 (q 0) (q 1)

theorem out_B (t : Fin cfg0.N) (ht : 12 ≤ t.val) (h4 : k0_cond4 (grid0.coords t) = 1#1) (x12 x14 f)
    (e12 : ∀ y : S12x256x2048.Idx, (y 0).val < 12 → x12 y = Yb m c (y 0).val (y 1) (y 2))
    (e14 : x14 = invF (amaxAt m c 12)) :
    LE m c 6 t (o4_7 c t h4 x12 x14 f) := by
  have h24 : t.val < 24 := lt_of_lt_of_eq t.isLt (show cfg0.N = 24 from N_0)
  unfold LE
  rw [if_neg (by rw [idle0_6]; simp only [decide_eq_true_eq]; omega), datV_after6, o4_7_eq _ _ _ ht]
  unfold aft6 codeF
  funext q
  rw [e12 _ (by show (grid0.coords t 0).val - 12 < 12; rw [coord_val]; omega), e14]
  have e : (grid0.coords t 0).val - 12 = t.val - 12 := by rw [coord_val]
  show clipE (Yb m c ((grid0.coords t 0).val - 12) (q 0) (q 1) * _) = _
  rw [e]
  rfl

/-- A window whose buffer a point does not touch. -/
theorem LE_idle (w : Fin cfg0.W) (t : Fin cfg0.N) (hi : cfg0.idle w (grid0.coords t) = true) (hf : (cfg0.win w).flush t = false) (d)
    (hd : ∃ d', d = (datV m 0 c).before w t d') : LE m c w t d := by
  unfold LE; rw [if_pos ⟨hi, hf⟩]; exact hd

theorem keep5 (t : Fin cfg0.N) (ht : 12 ≤ t.val) (d) (hd : ∃ d', d = (datV m 0 c).before 5 t d') : LE m c 5 t d := by
  by_cases h : t.val = 23
  · unfold LE
    rw [if_neg (by rw [flush0_5]; simp only [decide_eq_false_iff_not]; omega), datV_after5]
    obtain ⟨d', rfl⟩ := hd
    exact before5_late m c t d' ht
  · exact LE_idle m c 5 t (by rw [idle0_5]; simp only [decide_eq_true_eq]; omega) (by rw [flush0_5]; simp only [decide_eq_false_iff_not]; omega) d hd

theorem keep6 (t : Fin cfg0.N) (ht : t.val < 12) (d) (hd : ∃ d', d = (datV m 0 c).before 6 t d') : LE m c 6 t d :=
  LE_idle m c 6 t (by rw [idle0_6]; simp only [decide_eq_true_eq]; omega) (by rw [flush0_6]; simp only [decide_eq_false_iff_not]; omega) d hd

theorem keep7 (t : Fin cfg0.N) (ht : t.val ≠ 12) (d) (hd : ∃ d', d = (datV m 0 c).before 7 t d') : LE m c 7 t d := by
  by_cases h : t.val = 23
  · unfold LE
    rw [if_neg (by rw [flushv0_7]; simp only [decide_eq_false_iff_not]; omega), datV_after7]
    obtain ⟨d', rfl⟩ := hd
    exact before7_late m c t d' (by omega)
  · exact LE_idle m c 7 t (by rw [idle0_7]; simp only [decide_eq_true_eq]; omega) (by rw [flushv0_7]; simp only [decide_eq_false_iff_not]; omega) d hd

/-- The body at a point, with what it leaves. -/
theorem bodyV (t : Fin cfg0.N) (OW : sProp 𝕄) :
    iprop(PhiP c (Pn m c t.val) ∗ OW ∗ WinP c t (iblk m c 0 t) (iblk m c 1 t) (iblk m c 2 t) (iblk m c 3 t) (iblk m c 4 t)
        (fun d => ∃ d', d = (datV m 0 c).before 5 t d') (fun d => ∃ d', d = (datV m 0 c).before 6 t d') (fun d => ∃ d', d = (datV m 0 c).before 7 t d'))
      ⊢ wp Idealize.ShloMosaic.frame (wpE (defs₀ (F := Ideal)) Variants.none c none) Set.univ (bodyAt0 t)
      (fun _ => iprop(PhiP c (Pn m c (t.val + 1)) ∗ OW ∗ WinP c t (iblk m c 0 t) (iblk m c 1 t) (iblk m c 2 t) (iblk m c 3 t) (iblk m c 4 t)
        (LE m c 5 t) (LE m c 6 t) (LE m c 7 t))) := by
  have hN : t.val < 24 := lt_of_lt_of_eq t.isLt (show cfg0.N = 24 from N_0)
  by_cases hA : t.val < 12
  · by_cases h0 : t.val % 24 = 0
    · have t0 : t.val = 0 := by omega
      have hpt : pt 0 = t := by rw [← pt_val t, t0]
      exact bodyA c t _ _ _ _ _ _ _ _ _ _ _ _ _ OW ((hcond0_0 t).mpr h0) ((hcond0_1 t).mpr hA) (fun h => by have := (hcond0_2 t).mp h; omega) (fun h => by have := (hcond0_3 t).mp h; omega)
        (fun x9 x10 x12 x13 x14 hP f9 f10 f13 f6 => by
          have e9 : o1_9 c t ((hcond0_0 t).mpr h0) (iblk m c 0 t) (iblk m c 1 t) f9 = xpV m c := by
            rw [o1_9_eq]; unfold xpV; rw [hpt]
          have e10 : o1_10 c t ((hcond0_0 t).mpr h0) (iblk m c 0 t) (iblk m c 1 t) f10 = hV m c := by
            rw [o1_10_eq]; unfold hV; rw [hpt]
          refine ⟨step_A m c t hA _ _ _ _ _ x14 e9 e10 ?_ hP.2.1, out_A m c t hA _ _ _ _ _ _ e9 e10⟩
          rw [o1_13_eq, t0]; rfl)
        (keep6 m c t hA) (keep7 m c t (by omega))
    · exact bodyB c t _ _ _ _ _ _ _ _ _ _ _ _ _ OW (fun h => h0 ((hcond0_0 t).mp h)) ((hcond0_1 t).mpr hA) (fun h => by have := (hcond0_2 t).mp h; omega) (fun h => by have := (hcond0_3 t).mp h; omega)
        (fun x9 x10 x12 x13 x14 hP f6 => by
          obtain ⟨e9, e10, e13⟩ := hP.1 (by omega)
          rw [show min t.val 12 = t.val by omega] at e13
          exact ⟨step_A m c t hA _ _ _ _ _ x14 e9 e10 e13 hP.2.1, out_A m c t hA _ _ _ _ _ _ e9 e10⟩)
        (keep6 m c t hA) (keep7 m c t (by omega))
  · by_cases h2 : t.val % 24 = 12
    · have t12 : t.val = 12 := by omega
      exact bodyC c t _ _ _ _ _ _ _ _ _ _ _ _ _ OW (fun h => by have := (hcond0_0 t).mp h; omega) (fun h => hA ((hcond0_1 t).mp h)) ((hcond0_2 t).mpr h2) ((hcond0_3 t).mpr (by omega))
        (fun x9 x10 x12 x13 x14 hP f8 f14 f7 => by
          obtain ⟨e9, e10, e13⟩ := hP.1 (by omega)
          have e13' : x13 = amaxAt m c 12 := by rw [e13, t12]; rfl
          have e14 : o3_14 c t ((hcond0_2 t).mpr h2) x13 f14 = invF (amaxAt m c 12) := by rw [o3_14_eq, e13']
          refine ⟨⟨fun _ => ⟨e9, e10, ?_⟩, fun y hy => hP.2.1 y (by omega), fun _ => e14⟩, ?_, ?_⟩
          · rw [e13', show min (t.val + 1) 12 = 12 by omega]
          · unfold LE
            rw [if_neg (by rw [idle0_7]; simp only [decide_eq_true_eq]; omega), datV_after7, o3_8_eq, e13']; rfl
          · exact out_B m c t (by omega) _ _ _ _ (fun y hy => hP.2.1 y (by omega)) e14)
        (keep5 m c t (by omega))
    · exact bodyD c t _ _ _ _ _ _ _ _ _ _ _ _ _ OW (fun h => by have := (hcond0_0 t).mp h; omega) (fun h => hA ((hcond0_1 t).mp h)) (fun h => h2 ((hcond0_2 t).mp h)) ((hcond0_3 t).mpr (by omega))
        (fun x9 x10 x12 x13 x14 hP f7 => by
          obtain ⟨e9, e10, e13⟩ := hP.1 (by omega)
          have e14 := hP.2.2 (by omega)
          refine ⟨⟨fun _ => ⟨e9, e10, ?_⟩, fun y hy => hP.2.1 y (by omega), fun _ => e14⟩, ?_⟩
          · rw [e13, show min (t.val + 1) 12 = min t.val 12 by omega]
          · exact out_B m c t (by omega) _ _ _ _ (fun y hy => hP.2.1 y (by omega)) e14)
        (keep5 m c t (by omega)) (keep7 m c t (by omega))

/-- What the body is called with at a point. -/
def preV (t : Fin cfg0.N) : sProp 𝕄 :=
  iprop((datV m 0 c).Φ t.castSucc ∗ (datV m 0 c).owesAt () t.castSucc
    ∗ (∃ d, owns (c : Thread nD τ) (ms0_0 t) fullShare ((datV m 0 c).before 0 t d))
    ∗ (∃ d, owns (c : Thread nD τ) (ms0_1 t) fullShare ((datV m 0 c).before 1 t d))
    ∗ (∃ d, owns (c : Thread nD τ) (ms0_2 t) fullShare ((datV m 0 c).before 2 t d))
    ∗ (∃ d, owns (c : Thread nD τ) (ms0_3 t) fullShare ((datV m 0 c).before 3 t d))
    ∗ (∃ d, owns (c : Thread nD τ) (ms0_4 t) fullShare ((datV m 0 c).before 4 t d))
    ∗ (∃ d, owns (c : Thread nD τ) (ms0_5 t) fullShare ((datV m 0 c).before 5 t d))
    ∗ (∃ d, owns (c : Thread nD τ) (ms0_6 t) fullShare ((datV m 0 c).before 6 t d))
    ∗ (∃ d, owns (c : Thread nD τ) (ms0_7 t) fullShare ((datV m 0 c).before 7 t d)))

/-- What it returns. -/
def postV (t : Fin cfg0.N) : sProp 𝕄 :=
  iprop((datV m 0 c).Φ t.succ ∗ (datV m 0 c).owesAt () t.succ
    ∗ (datV m 0 c).leavesExact 0 t
    ∗ (datV m 0 c).leavesExact 1 t
    ∗ (datV m 0 c).leavesExact 2 t
    ∗ (datV m 0 c).leavesExact 3 t
    ∗ (datV m 0 c).leavesExact 4 t
    ∗ (datV m 0 c).leavesExact 5 t
    ∗ (datV m 0 c).leavesExact 6 t
    ∗ (datV m 0 c).leavesExact 7 t)

set_option maxHeartbeats 4000000 in
theorem sound_V (t : Fin cfg0.N) :
    preV m c t ⊢ wp Idealize.ShloMosaic.frame (wpE (defs₀ (F := Ideal)) Variants.none c none) Set.univ (bodyAt0 t) (fun _ => postV m c t) := by
  refine triple_restated (bodyV m c t ((datV m 0 c).owesAt () t.castSucc)) rfl ?_ fun _ => ?_
  · unfold preV WinP
    simp only [datV_before0, datV_before1, datV_before2, datV_before3, datV_before4]
    rw [show (datV m 0 c).Φ t.castSucc = PhiP c (Pn m c t.val) from rfl]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr
      · ipureintro; exact ⟨d5, rfl⟩
      iexact H5
    isplitl [H6]
    · iexists _; isplitr
      · ipureintro; exact ⟨d6, rfl⟩
      iexact H6
    iexists _; isplitr
    · ipureintro; exact ⟨d7, rfl⟩
    iexact H7
  · unfold postV WinP
    rw [show (datV m 0 c).leavesExact 0 t = owns (c : Thread nD τ) (ms0_0 t) fullShare ((datV m 0 c).after 0 t) from by
      unfold Dat.leavesExact; rw [liveAt0_0 t], datV_after0]
    rw [show (datV m 0 c).leavesExact 1 t = owns (c : Thread nD τ) (ms0_1 t) fullShare ((datV m 0 c).after 1 t) from by
      unfold Dat.leavesExact; rw [liveAt0_1 t], datV_after1]
    rw [show (datV m 0 c).leavesExact 2 t = owns (c : Thread nD τ) (ms0_2 t) fullShare ((datV m 0 c).after 2 t) from by
      unfold Dat.leavesExact; rw [liveAt0_2 t], datV_after2]
    rw [show (datV m 0 c).leavesExact 3 t = owns (c : Thread nD τ) (ms0_3 t) fullShare ((datV m 0 c).after 3 t) from by
      unfold Dat.leavesExact; rw [liveAt0_3 t], datV_after3]
    rw [show (datV m 0 c).leavesExact 4 t = owns (c : Thread nD τ) (ms0_4 t) fullShare ((datV m 0 c).after 4 t) from by
      unfold Dat.leavesExact; rw [liveAt0_4 t], datV_after4]
    rw [show (datV m 0 c).owesAt () t.succ = (datV m 0 c).owesAt () t.castSucc from rfl, show (datV m 0 c).Φ t.succ = PhiP c (Pn m c (t.val + 1)) from rfl]
    iintro ⟨HΦ, Ho, H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iapply (leaves_back m c 5 t); iexact H5
    isplitl [H6]; · iapply (leaves_back m c 6 t); iexact H6
    iapply (leaves_back m c 7 t); iexact H7

theorem obl_V (c : Dev nD) : BodyObligation (datV m 0 c) (defs₀ (F := Ideal)) Variants.none () Set.univ := fun t => by
  rw [bigSep_W0, bigSep_W0, row_at]
  exact triple_restated (sound_V m c t) rfl .rfl fun _ => .rfl

theorem PhiV_in (c : Dev nD) : (Pipeline.ΦA spec0 c : sProp 𝕄) ⊢ PhiP c (Pn m c 0) := by
  refine (PhiP_in c).trans ?_
  unfold PhiP
  iintro ⟨%x9, %x10, %x12, %x13, %x14, -, H⟩
  iexists x9; iexists x10; iexists x12; iexists x13; iexists x14
  isplitr
  · ipureintro
    exact ⟨fun h => absurd h (by omega), fun y hy => absurd hy (by rw [show min 0 12 = 0 from rfl]; omega), fun h => absurd h (by omega)⟩
  iexact H

set_option backward.isDefEq.respectTransparency.types false in
/-- The kernel's run: the argument arrays unchanged and the result arrays at what the points wrote. -/
theorem run_V : θ_run defs (onTc (τ := τ) (main (F := Ideal))) (s₀ m ρ) (fun r => Pipeline.FramePost cfgs (datV m) (0 : Fin 1) (V m) r ∧ r.2.sem = fun _ => 0) :=
  Pipeline.θ_run_frame_track (Q' := _) cfgs (datV m) (0 : Fin 1) launch0 defs₀ Variants.none m ρ main
    (hbody := fun c => (obl_V m c).loose) (hshare := fun c => (datV m 0 c).share_full fun _ => rfl)
    (howed := fun _ _ => rfl) (V := V m) (hmain := hmain m Variants.none) (hA := datV_A m) (hin := fun c => PhiV_in m c) (hout := fun c => PhiP_out c _)

end Cert.KernelIdeal.Gen

end
-- ==== Proof.KFin.lean ====
module

public import proofs.«01_k».proof.Proof.KVal
public import Idealize.ShloMosaic.Lib.Pipeline.ValueKit
public import Idealize.ShloMosaic.Lib.StableHlo.ReadAt
public import Idealize.ShloMosaic.Lib.IdealHost

@[expose] public section

set_option maxRecDepth 16384

noncomputable section

namespace Cert.KernelIdeal.Gen

open Idealize.ShloMosaic Idealize.ShloMosaic.TcCoe Idealize.ShloMosaic.Tactic
open Idealize.ShloMosaic.ValueIdx hiding ix1 ix2 ix3 ix4 eq_ix1 eq_ix2 eq_ix3 eq_ix4
open Idealize.ShloMosaic.Pipeline (Dat Cfg Window BodyObligation cellOf)

variable (m : (ℓ : Loc nD τ sig) → Buf (Elt Ideal) ℓ) (c : Dev nD)

theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = min t.val 11 :=
  (by decide +kernel : ∀ t : Fin grid0.N, win0_2.index t 0 = 0 ∧ win0_2.index t 1 = min t.val 11)
theorem index3 : ∀ t : Fin cfg0.N, win0_3.index t 0 = 0 ∧ win0_3.index t 1 = min t.val 11 :=
  (by decide +kernel : ∀ t : Fin grid0.N, win0_3.index t 0 = 0 ∧ win0_3.index t 1 = min t.val 11)
theorem index4 : ∀ t : Fin cfg0.N, win0_4.index t 0 = 0 ∧ win0_4.index t 1 = min t.val 11 :=
  (by decide +kernel : ∀ t : Fin grid0.N, win0_4.index t 0 = 0 ∧ win0_4.index t 1 = min t.val 11)
theorem index5 : ∀ t : Fin cfg0.N, win0_5.index t 0 = 0 ∧ win0_5.index t 1 = min t.val 11 :=
  (by decide +kernel : ∀ t : Fin grid0.N, win0_5.index t 0 = 0 ∧ win0_5.index t 1 = min t.val 11)
theorem index6 : ∀ t : Fin cfg0.N, win0_6.index t 0 = 0 ∧ win0_6.index t 1 = t.val - 12 :=
  (by decide +kernel : ∀ t : Fin grid0.N, win0_6.index t 0 = 0 ∧ win0_6.index t 1 = t.val - 12)

theorem pt_min (p : Nat) (hp : p < 12) : min (pt p).val 11 = p := by
  show min (p % 24) 11 = p
  omega

theorem reshape0 (X : FVec Ideal S2x128x1024 .bf16) (a : Fin 256) (b : Fin 1024) :
    shapeCast S256x1024 X shapeCasts_S2x128x1024_S256x1024 (ix2 a b) = X (ix3 ⟨a.val / 128, by omega⟩ ⟨a.val % 128, by omega⟩ b) := by
  pointwise

theorem blk0 (t : Fin cfg0.N) (a : Fin 256) (b : Fin 1024) : (iblk m c 0 t : Vec Ideal S256x1024 .bf16) (ix2 a b) = m ((c : Thread nD τ).loc main_arg0) (ix3 ⟨a.val / 128, by omega⟩ ⟨a.val % 128, by omega⟩ b) := by
  unfold iblk
  blk_simp
  have e : (win0_0.blk t).view.emb (ix2 a b) = ix2 (n0 := 256) (n1 := 1024) a b := by
    funext k
    apply Fin.ext
    match k with
    | ⟨0, _⟩ => show (((win0_0.blk t).view.emb (ix2 a b)) 0 : ℕ) = a.val; blk_simp; rw [(index0 t).1]; show 0 * 256 + a.val = a.val; omega
    | ⟨1, _⟩ => show (((win0_0.blk t).view.emb (ix2 a b)) 1 : ℕ) = b.val; blk_simp; rw [(index0 t).2]; show 0 * 1024 + b.val = b.val; omega
  rw [e]
  entry_read
  exact reshape0 (m (c, Proc.tc.devRef main_arg0)) a b

theorem blk1 (t : Fin cfg0.N) (a : Fin 1024) (b : Fin 16) : (iblk m c 1 t : Vec Ideal S1024x16 .bf16) (ix2 a b) = m ((c : Thread nD τ).loc main_arg3) (ix2 a b) := by
  unfold iblk
  blk_simp
  have e : (win0_1.blk t).view.emb (ix2 a b) = ix2 (n0 := 1024) (n1 := 16) a b := by
    funext k
    apply Fin.ext
    match k with
    | ⟨0, _⟩ => show (((win0_1.blk t).view.emb (ix2 a b)) 0 : ℕ) = a.val; blk_simp; rw [(index1 t).1]; show 0 * 1024 + a.val = a.val; omega
    | ⟨1, _⟩ => show (((win0_1.blk t).view.emb (ix2 a b)) 1 : ℕ) = b.val; blk_simp; rw [(index1 t).2]; show 0 * 16 + b.val = b.val; omega
  rw [e, V_main_arg3]

theorem blk2 (p : Nat) (hp : p < 12) (a : Fin 512) (b : Fin 2048) : (iblk m c 2 (pt p) : Vec Ideal S512x2048 .i8) (ix2 a b) = m ((c : Thread nD τ).loc main_arg1) (ix2 a ⟨2048 * p + b.val, by omega⟩) := by
  unfold iblk
  blk_simp
  have e : (win0_2.blk (pt p)).view.emb (ix2 a b) = ix2 (n0 := 512) (n1 := 24576) a ⟨2048 * p + b.val, by omega⟩ := by
    funext k
    apply Fin.ext
    match k with
    | ⟨0, _⟩ => show (((win0_2.blk (pt p)).view.emb (ix2 a b)) 0 : ℕ) = a.val; blk_simp; rw [(index2 _).1]; show 0 * 512 + a.val = a.val; omega
    | ⟨1, _⟩ => show (((win0_2.blk (pt p)).view.emb (ix2 a b)) 1 : ℕ) = 2048 * p + b.val; blk_simp; rw [(index2 _).2, pt_min p hp]; show p * 2048 + b.val = _; omega
  rw [e, V_main_arg1]

theorem blk3 (p : Nat) (hp : p < 12) (a : Fin 16) (b : Fin 2048) : (iblk m c 3 (pt p) : Vec Ideal S16x2048 .f32) (ix2 a b) = m ((c : Thread nD τ).loc main_arg2) (ix2 a ⟨2048 * p + b.val, by omega⟩) := by
  unfold iblk
  blk_simp
  have e : (win0_3.blk (pt p)).view.emb (ix2 a b) = ix2 (n0 := 16) (n1 := 24576) a ⟨2048 * p + b.val, by omega⟩ := by
    funext k
    apply Fin.ext
    match k with
    | ⟨0, _⟩ => show (((win0_3.blk (pt p)).view.emb (ix2 a b)) 0 : ℕ) = a.val; blk_simp; rw [(index3 _).1]; show 0 * 16 + a.val = a.val; omega
    | ⟨1, _⟩ => show (((win0_3.blk (pt p)).view.emb (ix2 a b)) 1 : ℕ) = 2048 * p + b.val; blk_simp; rw [(index3 _).2, pt_min p hp]; show p * 2048 + b.val = _; omega
  rw [e, V_main_arg2]

theorem blk4 (p : Nat) (hp : p < 12) (a : Fin 16) (b : Fin 2048) : (iblk m c 4 (pt p) : Vec Ideal S16x2048 .bf16) (ix2 a b) = m ((c : Thread nD τ).loc main_arg4) (ix2 a ⟨2048 * p + b.val, by omega⟩) := by
  unfold iblk
  blk_simp
  have e : (win0_4.blk (pt p)).view.emb (ix2 a b) = ix2 (n0 := 16) (n1 := 24576) a ⟨2048 * p + b.val, by omega⟩ := by
    funext k
    apply Fin.ext
    match k with
    | ⟨0, _⟩ => show (((win0_4.blk (pt p)).view.emb (ix2 a b)) 0 : ℕ) = a.val; blk_simp; rw [(index4 _).1]; show 0 * 16 + a.val = a.val; omega
    | ⟨1, _⟩ => show (((win0_4.blk (pt p)).view.emb (ix2 a b)) 1 : ℕ) = 2048 * p + b.val; blk_simp; rw [(index4 _).2, pt_min p hp]; show p * 2048 + b.val = _; omega
  rw [e, V_main_arg4]

/-- The kernel's output at a row and a column. -/
def Yk (r : Fin 256) (n : Fin 24576) : EReal := Yb m c (n.val / 2048) r ⟨n.val % 2048, Nat.mod_lt _ (by decide)⟩

theorem Yk_of (p : Nat) (r r' : Fin 256) (n : Fin 24576) (b : Fin 2048) (hr : r'.val = r.val) (hn : n.val = 2048 * p + b.val) : Yk m c r' n = Yb m c p r b := by
  unfold Yk
  have e1 : n.val / 2048 = p := by omega
  have e2 : (⟨n.val % 2048, Nat.mod_lt _ (by decide)⟩ : Fin 2048) = b := Fin.ext (by show n.val % 2048 = b.val; omega)
  rw [e1, e2, Fin.ext hr]

/-- The output array after the run. -/
def G5 : S256x24576.Idx → EReal := fun q => Yk m c (q 0) (q 1)
/-- The codes after the run. -/
def G6 : S256x24576.Idx → EReal := fun q => clipE (Yk m c (q 0) (q 1) * invE (vRow (amaxAt m c 12) (q 0)))

theorem fin5 : (datV m 0 c).arrAt 5 cfg0.N = G5 m c := by
  refine (datV m 0 c).arrAt_eq_of_covers 5 _ (by decide +kernel) fun t hf y => ?_
  blk_simp
  rw [datV_after5]
  obtain ⟨a, b, rfl⟩ : ∃ (a : Fin 256) (b : Fin 2048), y = ix2 a b := ⟨_, _, eq_ix2 y⟩
  have e0 : (((win0_5.blk t).view.emb (ix2 a b)) 0 : ℕ) = a.val := by
    blk_simp; rw [(index5 t).1]; show 0 * 256 + a.val = a.val; omega
  have e1 : (((win0_5.blk t).view.emb (ix2 a b)) 1 : ℕ) = 2048 * min t.val 11 + b.val := by
    blk_simp; rw [(index5 t).2]; show min t.val 11 * 2048 + b.val = _; omega
  exact (Yk_of m c (min t.val 11) a _ _ b e0 e1).symm

theorem fin6 : (datV m 0 c).arrAt 6 cfg0.N = G6 m c := by
  refine (datV m 0 c).arrAt_eq_of_covers 6 _ (by decide +kernel) fun t hf y => ?_
  blk_simp
  rw [datV_after6]
  obtain ⟨a, b, rfl⟩ : ∃ (a : Fin 256) (b : Fin 2048), y = ix2 a b := ⟨_, _, eq_ix2 y⟩
  have e0 : (((win0_6.blk t).view.emb (ix2 a b)) 0 : ℕ) = a.val := by
    blk_simp; rw [(index6 t).1]; show 0 * 256 + a.val = a.val; omega
  have e1 : (((win0_6.blk t).view.emb (ix2 a b)) 1 : ℕ) = 2048 * (t.val - 12) + b.val := by
    blk_simp; rw [(index6 t).2]; show (t.val - 12) * 2048 + b.val = _; omega
  have h0 : ((win0_6.blk t).view.emb (ix2 a b)) 0 = a := Fin.ext e0
  show clipE (Yb m c (t.val - 12) a b * invE (vRow (amaxAt m c 12) a)) = clipE (Yk m c _ _ * invE (vRow (amaxAt m c 12) (((win0_6.blk t).view.emb (ix2 a b)) 0)))
  rw [Yk_of m c (t.val - 12) a _ _ b e0 e1, h0]

theorem fin7 : (datV m 0 c).arrAt 7 cfg0.N = aft7 m c := by
  refine (datV m 0 c).arrAt_eq_of_after_last 7 (pt 23) (by decide +kernel) _ fun j => ?_
  blk_simp
  rw [datV_after7]

end Cert.KernelIdeal.Gen

end
-- ==== Proof.KRun.lean ====
module

public import proofs.«01_k».proof.Proof.KFin

@[expose] public section

noncomputable section

namespace Cert.KernelIdeal.Gen

open Idealize.ShloMosaic Idealize.ShloMosaic.TcCoe Idealize.ShloMosaic.Tactic Idealize.SL.Sem

variable (m : (ℓ : Loc nD τ sig) → Buf (Elt Ideal) ℓ) (ρ : Dev nD → PrngReg)

/-- What the kernel leaves in its result arrays, and that it leaves its arguments. -/
theorem run_K : θ_run defs (onTc (τ := τ) (main (F := Ideal))) ⟨m, fun _ => 0, ρ⟩ (fun r => ∀ c : Dev nD,
      r.2.mem ((c.tc : Thread nD τ).loc main_v1_0) = G5 m c
      ∧ r.2.mem ((c.tc : Thread nD τ).loc main_v1_1) = G6 m c
      ∧ r.2.mem ((c.tc : Thread nD τ).loc main_v1_2) = aft7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
     ⟨(h.1.out_eq c 5).trans (fin5 m c), (h.1.out_eq c 6).trans (fin6 m c), (h.1.out_eq c 7).trans (fin7 m c),
      (h.1.rest_eq c main_arg0 (Pipeline.mem_restRefs_of main_arg0 (by decide) (by decide))).trans (V_main_arg0 m c),
      (h.1.in_eq c 2 rfl).trans ((datV_A m c 2).trans (V_main_arg1 m c)),
      (h.1.in_eq c 3 rfl).trans ((datV_A m c 3).trans (V_main_arg2 m c)),
      (h.1.in_eq c 1 rfl).trans ((datV_A m c 1).trans (V_main_arg3 m c)),
      (h.1.in_eq c 4 rfl).trans ((datV_A m c 4).trans (V_main_arg4 m c))⟩) (run_V m ρ)

end Cert.KernelIdeal.Gen

end
-- ==== Proof.Math.lean ====
module

public import proofs.«01_k».proof.Proof.KFin

@[expose] public section

set_option maxRecDepth 16384

noncomputable section

namespace Cert.KernelIdeal.Gen

open Idealize.ShloMosaic Idealize.ShloMosaic.TcCoe Idealize.ShloMosaic.Tactic
open Idealize.ShloMosaic.ValueIdx hiding ix1 ix2 ix3 ix4 eq_ix1 eq_ix2 eq_ix3 eq_ix4

/-! The layer's mathematics, over its five arrays. -/

variable (X : Fin 256 → Fin 1024 → EReal) (W : S512x24576.Idx → BitVec 8) (S : S16x24576.Idx → EReal) (LA : S1024x16.Idx → EReal) (LB : S16x24576.Idx → EReal)

/-- The weight of input `k` and output `n`. -/
def Wd (k : Fin 1024) (n : Fin 24576) : EReal :=
  nf4 ⟨(nib (W (ix2 ⟨k.val / 2, by omega⟩ n)) (k.val % 2)).toNat, nib_lt _ _⟩ * S (ix2 ⟨k.val / 64, by omega⟩ n)

/-- The layer's output at a row and a column. -/
def Ym (r : Fin 256) (n : Fin 24576) : EReal :=
  (∑ k : Fin 1024, X r k * Wd W S k n) + (∑ j : Fin 16, (∑ k : Fin 1024, X r k * LA (ix2 k j)) * LB (ix2 j n)) * ((2 : ℝ) : EReal)

/-- A row's greatest magnitude over 448. -/
def vR (r : Fin 256) : EReal := (Finset.univ.sup fun n : Fin 24576 => absE (Ym X W S LA LB r n)) * Ideal.ofBits .f32 0x3B124925#32

/-- The permutation of the inputs is one to one. -/
def xcolInv (k : Nat) : Nat := 64 * (k / 64) + (16 * (k % 4) + k % 64 / 4)

theorem xcolInv_lt (k : Fin 1024) : xcolInv k.val < 1024 := by unfold xcolInv; omega

def xcolE : Fin 1024 ≃ Fin 1024 where
  toFun k := ⟨xcol k.val, xcol_lt k⟩
  invFun k := ⟨xcolInv k.val, xcolInv_lt k⟩
  left_inv k := Fin.ext ((by decide +kernel : ∀ k : Fin 1024, xcolInv (xcol k.val) = k.val) k)
  right_inv k := Fin.ext ((by decide +kernel : ∀ k : Fin 1024, xcol (xcolInv k.val) = k.val) k)

/-- A positive real comes out of a sum. -/
theorem sum_mul_real {ι : Type} (s : Finset ι) (f : ι → EReal) (a : EReal) (h0 : 0 ≤ a) (hT : a ≠ ⊤) : (∑ i ∈ s, f i) * a = ∑ i ∈ s, f i * a := by
  classical
  induction s using Finset.induction_on with
  | empty => simp
  | insert i s hi ih =>
    rw [Finset.sum_insert hi, Finset.sum_insert hi, ← ih, mul_comm, EReal.left_distrib_of_nonneg_of_ne_top h0 hT, mul_comm a, mul_comm a]

/-- The columns, even ones first. -/
theorem sum_even_odd (f : Fin 1024 → EReal) :
    (∑ k : Fin 1024, f k) = (∑ k : Fin 512, f ⟨2 * k.val, by omega⟩) + ∑ k : Fin 512, f ⟨2 * k.val + 1, by omega⟩ := by
  have h : (∑ k : Fin 1024, f k) = ∑ p : Fin 512 × Fin 2, f (finProdFinEquiv p : Fin (512 * 2)) :=
    (Equiv.sum_comp (finProdFinEquiv : Fin 512 × Fin 2 ≃ Fin (512 * 2)) (fun k : Fin (512 * 2) => f k)).symm
  rw [h, Fintype.sum_prod_type, ← Finset.sum_add_distrib]
  refine Finset.sum_congr rfl fun k _ => ?_
  rw [Fin.sum_univ_two]
  congr 1
  · congr 1; exact Fin.ext (by show (0 : Fin 2).val + 2 * k.val = 2 * k.val; simp)
  · congr 1; exact Fin.ext (by show (1 : Fin 2).val + 2 * k.val = 2 * k.val + 1; simp; omega)

section
variable (m : (ℓ : Loc nD τ sig) → Buf (Elt Ideal) ℓ) (c : Dev nD)

/-- The input's row. -/
def Xm (r : Fin 256) (k : Fin 1024) : EReal := m ((c : Thread nD τ).loc main_arg0) (ix3 ⟨r.val / 128, by omega⟩ ⟨r.val % 128, by omega⟩ k)
def Wm : S512x24576.Idx → BitVec 8 := m ((c : Thread nD τ).loc main_arg1)
def Sm : S16x24576.Idx → EReal := m ((c : Thread nD τ).loc main_arg2)
def LAm : S1024x16.Idx → EReal := m ((c : Thread nD τ).loc main_arg3)
def LBm : S16x24576.Idx → EReal := m ((c : Thread nD τ).loc main_arg4)

theorem xpV_apply (r : Fin 256) (k : Fin 1024) : (xpV m c (ix2 r k) : EReal) = Xm m c r ⟨xcol k.val, xcol_lt k⟩ := by
  unfold xpV xpF
  exact blk0 m c (pt 0) r ⟨xcol k.val, xcol_lt k⟩

theorem hF_apply (x1 : Vec Ideal S256x1024 .bf16) (x2 : Vec Ideal S1024x16 .bf16) (r : Fin 256) (j : Fin 16) (P : Fin 1024 → EReal) (Q : Fin 1024 → EReal)
    (h1 : ∀ k, (x1 (ix2 r k) : EReal) = P k) (h2 : ∀ k, (x2 (ix2 k j) : EReal) = Q k) :
    (hF x1 x2 (ix2 r j) : EReal) = (∑ k : Fin 1024, P k * Q k) * ((2 : ℝ) : EReal) := by
  show (∑ k : Fin 1024, (x1 (ix2 r k) : EReal) * x2 (ix2 k j)) * ((2 : ℝ) : EReal) = _
  congr 1
  exact Finset.sum_congr rfl fun k _ => congrArg₂ (· * ·) (h1 k) (h2 k)

theorem hV_apply (r : Fin 256) (j : Fin 16) : (hV m c (ix2 r j) : EReal) = (∑ k : Fin 1024, Xm m c r k * LAm m c (ix2 k j)) * ((2 : ℝ) : EReal) :=
  hF_apply _ _ r j _ _ (fun k => blk0 m c (pt 0) r k) (fun k => blk1 m c (pt 0) k j)

/-- The value a packed byte's half stands for. -/
def nfn (b : BitVec 8) (j : Nat) : EReal := nf4 ⟨(nib b j).toNat, nib_lt _ _⟩

theorem nfn_congr (b : BitVec 8) {i j : Nat} (h : i % 2 = j % 2) : nfn b i = nfn b j := by
  have : nib b i = nib b j := by unfold nib; rw [h]
  unfold nfn
  congr 1
  exact Fin.ext (congrArg BitVec.toNat this)

theorem decW_of (W : S512x24576.Idx → BitVec 8) (S : S16x24576.Idx → EReal) (x3 : Vec Ideal S512x2048 .i8) (x4 : Vec Ideal S16x2048 .f32) (b : Fin 2048) (n : Fin 24576)
    (h3 : ∀ a, (x3 (ix2 a b) : BitVec 8) = W (ix2 a n)) (h4 : ∀ a, (x4 (ix2 a b) : EReal) = S (ix2 a n)) (k : Fin 1024) :
    decW x3 x4 k b = Wd W S ⟨xcol k.val, xcol_lt k⟩ n := by
  have e1 : (⟨32 * (k.val / 64) + 2 * (k.val % 16) + k.val / 16 % 4 / 2, by omega⟩ : Fin 512) = ⟨xcol k.val / 2, by have := xcol_lt k; omega⟩ :=
    Fin.ext ((by decide +kernel : ∀ k : Fin 1024, 32 * (k.val / 64) + 2 * (k.val % 16) + k.val / 16 % 4 / 2 = xcol k.val / 2) k)
  have e2 : (⟨k.val / 64, by omega⟩ : Fin 16) = ⟨xcol k.val / 64, by have := xcol_lt k; omega⟩ :=
    Fin.ext ((by decide +kernel : ∀ k : Fin 1024, k.val / 64 = xcol k.val / 64) k)
  have e3 := (by decide +kernel : ∀ k : Fin 1024, k.val / 16 % 4 % 2 = xcol k.val % 2 % 2) k
  show nfn (x3 (ix2 ⟨32 * (k.val / 64) + 2 * (k.val % 16) + k.val / 16 % 4 / 2, by omega⟩ b)) (k.val / 16 % 4) * x4 (ix2 ⟨k.val / 64, by omega⟩ b)
    = nfn (W (ix2 ⟨xcol k.val / 2, by have := xcol_lt k; omega⟩ n)) (xcol k.val % 2) * S (ix2 ⟨xcol k.val / 64, by have := xcol_lt k; omega⟩ n)
  rw [h3, h4, nfn_congr _ e3, e1, e2]

theorem decW_apply (p : Nat) (hp : p < 12) (k : Fin 1024) (b : Fin 2048) :
    decW (iblk m c 2 (pt p)) (iblk m c 3 (pt p)) k b = Wd (Wm m c) (Sm m c) ⟨xcol k.val, xcol_lt k⟩ ⟨2048 * p + b.val, by omega⟩ :=
  decW_of _ _ _ _ b _ (fun a => blk2 m c p hp a b) (fun a => blk3 m c p hp a b) k

/-- The kernel's output is the layer's. -/
theorem Yb_eq (p : Nat) (hp : p < 12) (r : Fin 256) (b : Fin 2048) :
    Yb m c p r b = Ym (Xm m c) (Wm m c) (Sm m c) (LAm m c) (LBm m c) r ⟨2048 * p + b.val, by omega⟩ := by
  unfold Yb Yf Ym
  congr 1
  · refine Eq.trans ?_ (Equiv.sum_comp xcolE _)
    refine Finset.sum_congr rfl fun k _ => ?_
    rw [decW_apply m c p hp, xpV_apply]
    rfl
  · rw [sum_mul_real _ _ _ (by norm_num) (EReal.coe_ne_top _)]
    refine Finset.sum_congr rfl fun j _ => ?_
    rw [hV_apply, blk4 m c p hp]
    rw [mul_assoc, mul_assoc, mul_comm ((2 : ℝ) : EReal)]
    rfl

theorem Yk_eq (r : Fin 256) (n : Fin 24576) : Yk m c r n = Ym (Xm m c) (Wm m c) (Sm m c) (LAm m c) (LBm m c) r n := by
  unfold Yk
  rw [Yb_eq m c _ (by omega)]
  congr 1
  exact Fin.ext (by show 2048 * (n.val / 2048) + n.val % 2048 = n.val; omega)

theorem absE_nonneg (x : EReal) : 0 ≤ absE x := by
  unfold absE
  rcases le_total 0 x with h | h
  · exact le_sup_of_le_left h
  · exact le_sup_of_le_right (by rw [← neg_zero]; exact EReal.neg_le_neg_iff.mpr h)

theorem amaxAt_le (r : Fin 256) (B : EReal) (hB : 0 ≤ B) (h : ∀ n : Fin 24576, absE (Yk m c r n) ≤ B) (l : Fin 128) :
    ∀ p, p ≤ 12 → (amaxAt m c p (ix2 r l) : EReal) ≤ B
  | 0, _ => hB
  | p + 1, hp => by
    refine sup_le (amaxAt_le r B hB h l p (by omega)) ?_
    unfold laneMax
    refine Finset.sup_le fun g _ => ?_
    refine le_trans (le_of_eq ?_) (h ⟨2048 * p + (128 * g.val + l.val), by omega⟩)
    rw [Yk_of m c p r r _ ⟨128 * g.val + l.val, by omega⟩ rfl rfl]
    rfl

theorem amaxAt_mono (r : Fin 256) (l : Fin 128) : ∀ p q, p ≤ q → (amaxAt m c p (ix2 r l) : EReal) ≤ amaxAt m c q (ix2 r l) := by
  intro p q h
  induction q, h using Nat.le_induction with
  | base => exact le_rfl
  | succ q _ ih => exact le_trans ih le_sup_left

/-- The row's greatest magnitude, found lane by lane and block by block. -/
theorem rowMax_eq (r : Fin 256) :
    (Finset.univ.sup fun l : Fin 128 => (amaxAt m c 12 (ix2 r l) : EReal)) = Finset.univ.sup fun n : Fin 24576 => absE (Yk m c r n) := by
  apply le_antisymm
  · refine Finset.sup_le fun l _ => ?_
    refine amaxAt_le m c r _ ?_ (fun n => Finset.le_sup (f := fun n : Fin 24576 => absE (Yk m c r n)) (Finset.mem_univ n)) l 12 le_rfl
    exact le_trans (absE_nonneg _) (Finset.le_sup (f := fun n : Fin 24576 => absE (Yk m c r n)) (Finset.mem_univ 0))
  · refine Finset.sup_le fun n _ => ?_
    refine le_trans ?_ (Finset.le_sup (f := fun l : Fin 128 => (amaxAt m c 12 (ix2 r l) : EReal)) (Finset.mem_univ ⟨n.val % 128, Nat.mod_lt _ (by decide)⟩))
    refine le_trans ?_ (amaxAt_mono m c r _ (n.val / 2048 + 1) 12 (by omega))
    refine le_trans ?_ le_sup_right
    unfold laneMax
    refine le_trans (le_of_eq ?_) (Finset.le_sup (f := fun g : Fin 16 => absE (Yb m c (n.val / 2048) r ⟨128 * g.val + n.val % 128, by omega⟩)) (Finset.mem_univ ⟨n.val % 2048 / 128, by omega⟩))
    show absE (Yk m c r n) = absE (Yb m c (n.val / 2048) r ⟨128 * (n.val % 2048 / 128) + n.val % 128, by omega⟩)
    unfold Yk
    congr 2
    exact Fin.ext (by show n.val % 2048 = 128 * (n.val % 2048 / 128) + n.val % 128; omega)

theorem vRow_eq (r : Fin 256) : vRow (amaxAt m c 12) r = vR (Xm m c) (Wm m c) (Sm m c) (LAm m c) (LBm m c) r := by
  unfold vRow vR
  rw [rowMax_eq]
  congr 2
  funext n
  rw [Yk_eq]

end

end Cert.KernelIdeal.Gen

end
-- ==== Proof.Scale.lean ====
module

public import proofs.«01_k».proof.Proof.Read3
public import Idealize.ShloMosaic.Lib.IdealHost

@[expose] public section

set_option maxRecDepth 16384

noncomputable section

namespace Cert.KernelIdeal.Gen

open Idealize.ShloMosaic Idealize.ShloMosaic.TcCoe Idealize.ShloMosaic.Tactic

/-! The kernel's search for an exponent finds the least power of two above a number. -/

/-- The float whose exponent field is `k` and whose other bits are zero. -/
def pw (k : Nat) : EReal := Ideal.ofBits .f32 (BitVec.ofNat 32 k <<< 23)

theorem pw_zero : pw 0 = 0 := Ideal.ofBits_zero_f32

theorem pw_fields : ∀ k : Fin 256, ((BitVec.ofNat 32 k.val <<< 23).extractLsb' 31 1 == 1#1) = false
    ∧ ((BitVec.ofNat 32 k.val <<< 23).extractLsb' 23 8).toNat = k.val ∧ ((BitVec.ofNat 32 k.val <<< 23).extractLsb' 0 23).toNat = 0 := by
  decide +kernel

theorem pw_inf (k : Nat) (h : k = 255) : pw k = ⊤ := by
  obtain ⟨hs, he, hf⟩ := pw_fields ⟨k, by omega⟩
  show Ideal.ieee 8 23 (BitVec.ofNat 32 k <<< 23) = _
  unfold Ideal.ieee
  dsimp only at hs he hf ⊢
  rw [hs, he, hf, if_pos (by rw [h]; norm_num), if_pos rfl, if_neg (by simp)]

theorem pw_top : pw 255 = ⊤ := pw_inf 255 rfl

theorem pw_val (k : Nat) (h1 : 1 ≤ k) (h2 : k ≤ 254) : pw k = (((2 : ℝ) ^ ((k : ℤ) - 127) : ℝ) : EReal) := by
  obtain ⟨hs, he, hf⟩ := pw_fields ⟨k, by omega⟩
  show Ideal.ieee 8 23 (BitVec.ofNat 32 k <<< 23) = _
  unfold Ideal.ieee
  dsimp only at hs he hf ⊢
  rw [hs, he, hf, if_neg (by omega), if_neg (by omega)]
  refine congrArg Real.toEReal ?_
  have h : ((2 ^ 23 + 0 : Nat) : ℝ) = (2 : ℝ) ^ (23 : ℤ) := by norm_num
  have h' : (k : ℤ) - 127 = 23 + ((k : ℤ) - 127 - 23) := by omega
  rw [if_neg (by simp), one_mul, h, h', zpow_add₀ (by norm_num : (2 : ℝ) ≠ 0)]
  norm_num

theorem pw_mono {a b : Nat} (hab : a ≤ b) (hb : b ≤ 255) : pw a ≤ pw b := by
  rcases Nat.lt_or_ge b 255 with hb' | hb'
  · rcases Nat.eq_zero_or_pos b with h0 | h0
    · have : a = 0 := by omega
      rw [this, h0]
    · rcases Nat.eq_zero_or_pos a with ha | ha
      · rw [ha, pw_zero, pw_val b h0 (by omega), ← EReal.coe_zero, EReal.coe_le_coe_iff]
        positivity
      · rw [pw_val a ha (by omega), pw_val b h0 (by omega), EReal.coe_le_coe_iff]
        exact zpow_le_zpow_right₀ (by norm_num) (by omega)
  · have : b = 255 := by omega
    rw [this, pw_top]
    exact le_top

/-- The search has narrowed to the `w` fields from `a` on. -/
def In (v : EReal) (a w : Nat) : Prop := pw a ≤ v ∧ a + w ≤ 256 ∧ (a + w < 256 → v < pw (a + w))

theorem step_in (v : EReal) (a s : Nat) (hs : 1 ≤ s) (h : In v a (2 * s)) :
    ∃ a', stepN v (BitVec.ofNat 32 a) (BitVec.ofNat 32 s) = BitVec.ofNat 32 a' ∧ In v a' s := by
  obtain ⟨h1, h2, h3⟩ := h
  have hadd : BitVec.ofNat 32 a + BitVec.ofNat 32 s = BitVec.ofNat 32 (a + s) := by rw [BitVec.ofNat_add]
  unfold stepN
  rw [hadd]
  show ∃ a', Scalar.select (BitVec.ofBool (decide (v < pw (a + s)))) _ _ = _ ∧ _
  by_cases hv : v < pw (a + s)
  · refine ⟨a, ?_, h1, by omega, fun _ => hv⟩
    rw [decide_eq_true hv]; rfl
  · refine ⟨a + s, ?_, not_lt.mp hv, by omega, fun h => ?_⟩
    · rw [decide_eq_false hv]; rfl
    · rw [Nat.add_assoc, ← Nat.two_mul] at h ⊢
      exact h3 h

theorem expo_in (v : EReal) (hv : 0 ≤ v) : ∃ n, expo v = BitVec.ofNat 32 n ∧ In v n 1 := by
  unfold expo
  obtain ⟨a, e, h⟩ := step_in v 0 128 (by omega) ⟨by rw [pw_zero]; exact hv, by omega, fun h => by omega⟩
  rw [e]
  obtain ⟨a, e, h⟩ := step_in v a 64 (by omega) h
  rw [e]
  obtain ⟨a, e, h⟩ := step_in v a 32 (by omega) h
  rw [e]
  obtain ⟨a, e, h⟩ := step_in v a 16 (by omega) h
  rw [e]
  obtain ⟨a, e, h⟩ := step_in v a 8 (by omega) h
  rw [e]
  obtain ⟨a, e, h⟩ := step_in v a 4 (by omega) h
  rw [e]
  obtain ⟨a, e, h⟩ := step_in v a 2 (by omega) h
  rw [e]
  obtain ⟨a, e, h⟩ := step_in v a 1 (by omega) h
  rw [e]
  exact ⟨a, rfl, h⟩

theorem pw_one : pw 127 = 1 := by rw [pw_val 127 (by omega) (by omega)]; norm_num

theorem expE_zero : expE 0 = 0#32 := by
  unfold expE
  show Scalar.select (IntOp.andi (BitVec.ofBool (decide ((0 : EReal) ≠ 0))) _) _ _ = _
  rw [decide_eq_false (by simp)]
  show Scalar.select (0#1 &&& _) _ _ = _
  rw [BitVec.zero_and]; rfl

theorem scaleE_zero : scaleE 0 = 1 := by
  unfold scaleE; rw [expE_zero]; exact pw_one

theorem invE_zero : invE 0 = 1 := by
  unfold invE; rw [expE_zero]; exact pw_one

theorem exp_bits : ∀ n : Fin 253, (127#32 + (BitVec.ofNat 32 n.val - 126#32)) = BitVec.ofNat 32 (n.val + 1)
    ∧ (127#32 - (BitVec.ofNat 32 n.val - 126#32)) = BitVec.ofNat 32 (253 - n.val) ∧ BitVec.ofNat 32 n.val ≠ 255#32 := by
  decide +kernel

/-- Above zero and below two to the 126, the scale is the least power of two above the number. -/
theorem scale_pos (v : EReal) (h0 : 0 < v) (h1 : v < pw 253) :
    ∃ k, 1 ≤ k ∧ k ≤ 253 ∧ scaleE v = pw k ∧ invE v = pw (254 - k) ∧ v < pw k ∧ ∀ j, j < k → pw j ≤ v := by
  obtain ⟨n, e, hn, hn2, hn3⟩ := expo_in v h0.le
  have hlt : n < 253 := by
    by_contra hc
    exact absurd (lt_of_lt_of_le h1 (le_trans (pw_mono (by omega) (by omega)) hn)) (lt_irrefl _)
  obtain ⟨b1, b2, b3⟩ := exp_bits ⟨n, hlt⟩
  dsimp only at b1 b2 b3
  have hE : expE v = BitVec.ofNat 32 n - 126#32 := by
    unfold expE
    rw [e]
    show Scalar.select (IntOp.andi (BitVec.ofBool (decide (v ≠ 0))) (BitVec.ofBool (BitVec.ofNat 32 n != 255#32))) _ _ = _
    rw [decide_eq_true h0.ne', bne_iff_ne.mpr b3]
    rfl
  refine ⟨n + 1, by omega, by omega, ?_, ?_, hn3 (by omega), fun j hj => le_trans (pw_mono (by omega) (by omega)) hn⟩
  · unfold scaleE; rw [hE, b1]; rfl
  · unfold invE; rw [hE, b2]; unfold pw; congr 3; omega

/-- The least power of two above a number, by looking at them all. -/
theorem least_pw (v : EReal) (k : Nat) (h1 : 1 ≤ k) (h2 : k ≤ 253) (hk : v < pw k) (hj : ∀ j, j < k → pw j ≤ v) :
    (Finset.univ.inf fun i : Fin 254 => if v < pw (i.val + 1) then pw (i.val + 1) else ⊤) = pw k := by
  apply le_antisymm
  · refine le_trans (Finset.inf_le (Finset.mem_univ (⟨k - 1, by omega⟩ : Fin 254))) ?_
    dsimp only
    rw [Nat.sub_add_cancel h1, if_pos hk]
  · refine Finset.le_inf fun i _ => ?_
    split
    · next h =>
      refine pw_mono ?_ (by omega)
      by_contra hc
      exact absurd h (not_lt.mpr (hj _ (by omega)))
    · exact le_top

theorem inv_pw (k : Nat) (h1 : 1 ≤ k) (h2 : k ≤ 253) : Ideal.div 1 (pw k) = pw (254 - k) := by
  rw [pw_val k h1 (by omega), pw_val (254 - k) (by omega) (by omega)]
  have : ((254 - k : Nat) : ℤ) - 127 = -((k : ℤ) - 127) := by omega
  rw [this, zpow_neg, Ideal.div_coe (by positivity), one_mul, one_div]

end Cert.KernelIdeal.Gen

end
-- ==== Proof.Layer.lean ====
module

public import proofs.«01_k».proof.Proof.Math
public import proofs.«01_k».proof.Proof.Scale

@[expose] public section

set_option maxRecDepth 16384

noncomputable section

namespace Cert.KernelIdeal.Gen

open Idealize.ShloMosaic Idealize.ShloMosaic.TcCoe Idealize.ShloMosaic.Tactic
open Idealize.ShloMosaic.ValueIdx hiding ix1 ix2 ix3 ix4 eq_ix1 eq_ix2 eq_ix3 eq_ix4

/-! The reference's spelling of the layer, and that it is the layer. -/

/-- A bit of a code chooses between two values. -/
def bsel {α : Type} (w l : BitVec 32) (x y : α) : α := Scalar.select (IntOp.cmpi .ne (IntOp.andi w l) 0#32) x y

/-- The value of a code, chosen by its four bits. -/
def rdec (w : BitVec 32) : EReal :=
  bsel w 8#32
    (bsel w 4#32
      (bsel w 2#32 (bsel w 1#32 1 (Ideal.ofBits .f32 1060705203#32)) (bsel w 1#32 (Ideal.ofBits .f32 1058015147#32) (Ideal.ofBits .f32 1054975160#32)))
      (bsel w 2#32 (bsel w 1#32 (Ideal.ofBits .f32 1051525946#32) (Ideal.ofBits .f32 1048315101#32)) (bsel w 1#32 (Ideal.ofBits .f32 1042598627#32) (Ideal.ofBits .f32 1034091263#32))))
    (bsel w 4#32
      (bsel w 2#32 (bsel w 1#32 0 (Ideal.ofBits .f32 3183114353#32)) (bsel w 1#32 (Ideal.ofBits .f32 3191682367#32) (Ideal.ofBits .f32 3197215309#32)))
      (bsel w 2#32 (bsel w 1#32 (Ideal.ofBits .f32 3200922272#32) (Ideal.ofBits .f32 3204868912#32)) (bsel w 1#32 (Ideal.ofBits .f32 3207739825#32) (Ideal.ofBits .f32 3212836864#32))))

/-- The same choice among the words. -/
def rbits (w : BitVec 32) : BitVec 32 :=
  bsel w 8#32
    (bsel w 4#32
      (bsel w 2#32 (bsel w 1#32 0x3F800000#32 1060705203#32) (bsel w 1#32 1058015147#32 1054975160#32))
      (bsel w 2#32 (bsel w 1#32 1051525946#32 1048315101#32) (bsel w 1#32 1042598627#32 1034091263#32)))
    (bsel w 4#32
      (bsel w 2#32 (bsel w 1#32 0#32 3183114353#32) (bsel w 1#32 3191682367#32 3197215309#32))
      (bsel w 2#32 (bsel w 1#32 3200922272#32 3204868912#32) (bsel w 1#32 3207739825#32 3212836864#32)))

theorem bsel_ofBits (w l a b : BitVec 32) : bsel w l (Ideal.ofBits .f32 a) (Ideal.ofBits .f32 b) = Ideal.ofBits .f32 (bsel w l a b) := by
  unfold bsel Scalar.select
  split <;> rfl

theorem rdec_bits (w : BitVec 32) : rdec w = Ideal.ofBits .f32 (rbits w) := by
  have h1 : (1 : EReal) = Ideal.ofBits .f32 0x3F800000#32 := Ideal.ofBits_one_f32.symm
  have h0 : (0 : EReal) = Ideal.ofBits .f32 0#32 := Ideal.ofBits_zero_f32.symm
  unfold rdec rbits
  rw [h1, h0]
  simp only [bsel_ofBits]

def loW (b : BitVec 8) : BitVec 32 := IntOp.andi (BitVec.setWidth 32 b) 15#32
def hiW (b : BitVec 8) : BitVec 32 := IntOp.shrsi ArithUnit.host (BitVec.setWidth 32 b) 4#32

theorem codes_eq : ∀ k : Fin 256, rbits (loW (BitVec.ofNat 8 k.val)) = nfBits ⟨(nib (BitVec.ofNat 8 k.val) 0).toNat, nib_lt _ _⟩
    ∧ rbits (hiW (BitVec.ofNat 8 k.val)) = nfBits ⟨(nib (BitVec.ofNat 8 k.val) 1).toNat, nib_lt _ _⟩ := by
  decide +kernel

theorem lo_eq (b : BitVec 8) : rdec (loW b) = nfn b 0 := by
  have h := (codes_eq ⟨b.toNat, b.isLt⟩).1
  simp only [BitVec.ofNat_toNat, BitVec.setWidth_eq] at h
  rw [rdec_bits, h]; rfl

theorem hi_eq (b : BitVec 8) : rdec (hiW b) = nfn b 1 := by
  have h := (codes_eq ⟨b.toNat, b.isLt⟩).2
  simp only [BitVec.ofNat_toNat, BitVec.setWidth_eq] at h
  rw [rdec_bits, h]; rfl

variable (X : (⟨3, ![2, 128, 1024]⟩ : Shape).Idx → EReal) (W : S512x24576.Idx → BitVec 8) (S : S16x24576.Idx → EReal) (LA : S1024x16.Idx → EReal) (LB : S16x24576.Idx → EReal)

/-- The reference's output at a row and a column. -/
def yE (b : Fin 2) (s : Fin 128) (n : Fin 24576) : EReal :=
  (∑ x : Fin 512, X (ix3 b s ⟨2 * x.val, by omega⟩) * (rdec (loW (W (ix2 x n))) * S (ix2 ⟨x.val / 32, by omega⟩ n)))
  + (∑ x : Fin 512, X (ix3 b s ⟨1 + 2 * x.val, by omega⟩) * (rdec (hiW (W (ix2 x n))) * S (ix2 ⟨x.val / 32, by omega⟩ n)))
  + (∑ x : Fin 16, (∑ k : Fin 1024, X (ix3 b s k) * LA (ix2 k x)) * LB (ix2 x n)) * Ideal.ofBits .f32 1073741824#32

/-- A row of the input. -/
def Xr (r : Fin 256) (k : Fin 1024) : EReal := X (ix3 ⟨r.val / 128, by omega⟩ ⟨r.val % 128, by omega⟩ k)

theorem two_val : Ideal.ofBits .f32 1073741824#32 = ((2 : ℝ) : EReal) := by
  simp [Ideal.ofBits, Ideal.ieee, -EReal.coe_mul]; norm_num

theorem yE_eq (r : Fin 256) (n : Fin 24576) : yE X W S LA LB ⟨r.val / 128, by omega⟩ ⟨r.val % 128, by omega⟩ n = Ym (Xr X) W S LA LB r n := by
  unfold yE Ym
  rw [two_val, sum_even_odd]
  congr 1
  congr 1
  · refine Finset.sum_congr rfl fun k _ => ?_
    rw [lo_eq]
    show Xr X r ⟨2 * k.val, by omega⟩ * (nfn (W (ix2 k n)) 0 * S (ix2 ⟨k.val / 32, by omega⟩ n))
      = Xr X r ⟨2 * k.val, by omega⟩ * (nfn (W (ix2 ⟨2 * k.val / 2, by omega⟩ n)) (2 * k.val % 2) * S (ix2 ⟨2 * k.val / 64, by omega⟩ n))
    have e1 : (⟨2 * k.val / 2, by omega⟩ : Fin 512) = k := Fin.ext (by show 2 * k.val / 2 = k.val; omega)
    have e2 : (⟨2 * k.val / 64, by omega⟩ : Fin 16) = ⟨k.val / 32, by omega⟩ := Fin.ext (by show 2 * k.val / 64 = k.val / 32; omega)
    have e3 : 2 * k.val % 2 = 0 := by omega
    rw [e1, e2, e3]
  · refine Finset.sum_congr rfl fun k _ => ?_
    rw [hi_eq]
    have e0 : (⟨1 + 2 * k.val, by omega⟩ : Fin 1024) = ⟨2 * k.val + 1, by omega⟩ := Fin.ext (Nat.add_comm _ _)
    rw [e0]
    show Xr X r ⟨2 * k.val + 1, by omega⟩ * (nfn (W (ix2 k n)) 1 * S (ix2 ⟨k.val / 32, by omega⟩ n))
      = Xr X r ⟨2 * k.val + 1, by omega⟩ * (nfn (W (ix2 ⟨(2 * k.val + 1) / 2, by omega⟩ n)) ((2 * k.val + 1) % 2) * S (ix2 ⟨(2 * k.val + 1) / 64, by omega⟩ n))
    have e1 : (⟨(2 * k.val + 1) / 2, by omega⟩ : Fin 512) = k := Fin.ext (by show (2 * k.val + 1) / 2 = k.val; omega)
    have e2 : (⟨(2 * k.val + 1) / 64, by omega⟩ : Fin 16) = ⟨k.val / 32, by omega⟩ := Fin.ext (by show (2 * k.val + 1) / 64 = k.val / 32; omega)
    have e3 : (2 * k.val + 1) % 2 = 1 := by omega
    rw [e1, e2, e3]

theorem ninf_val : Ideal.ofBits .f32 0xFF800000#32 = (⊥ : EReal) := by simp [Ideal.ofBits, Ideal.ieee]
theorem pinf_val : Ideal.ofBits .f32 0x7F800000#32 = (⊤ : EReal) := pw_top

/-- One of the reference's powers of two. -/
def rPow (i : Fin 254) : EReal :=
  Ideal.pow (Ideal.ofBits .f32 1073741824#32) ((FloatOps.sitofp (F := Ideal) .f32 (BitVec.ofNat 32 i.val) : EReal) - Ideal.ofBits .f32 1123811328#32)

/-- The reference's scale of a row whose greatest magnitude is `a`. -/
def rScale (a : EReal) : EReal :=
  if a = 0 then Ideal.ofBits .f32 1065353216#32
  else Finset.univ.inf fun i : Fin 254 => if a * Ideal.ofBits .f32 991054117#32 < rPow i then rPow i else Ideal.ofBits .f32 0x7F800000#32

theorem sitofp_small : ∀ i : Fin 254, (BitVec.ofNat 32 i.val).toInt = (i.val : ℤ) := by decide +kernel

theorem k126_val : Ideal.ofBits .f32 1123811328#32 = ((126 : ℝ) : EReal) := by
  simp [Ideal.ofBits, Ideal.ieee, -EReal.coe_mul]; norm_num

theorem rPow_eq (i : Fin 254) : rPow i = pw (i.val + 1) := by
  unfold rPow
  rw [two_val, k126_val, pw_val _ (by omega) (by omega)]
  have h : (FloatOps.sitofp (F := Ideal) .f32 (BitVec.ofNat 32 i.val) : EReal) = ((i.val : ℝ) : EReal) := by
    show (((BitVec.ofNat 32 i.val).toInt : ℝ) : EReal) = _
    rw [sitofp_small]; norm_num
  rw [h, ← EReal.coe_sub, Ideal.pow_coe_coe]
  refine congrArg Real.toEReal ?_
  show (2 : ℝ) ^ ((i.val : ℝ) - 126) = _
  rw [← Real.rpow_intCast]
  congr 1
  push_cast
  ring

theorem c448_pos : ∃ x : ℝ, 0 < x ∧ Ideal.ofBits .f32 991054117#32 = (x : EReal) := by
  refine ⟨_, ?_, by simp [Ideal.ofBits, Ideal.ieee, -EReal.coe_mul]; rfl⟩
  positivity

/-- In range the two scales are one, and the kernel multiplies by its reciprocal. -/
theorem scales_eq (a : EReal) (ha : 0 ≤ a) (hr : a * Ideal.ofBits .f32 0x3B124925#32 < pw 253) :
    rScale a = scaleE (a * Ideal.ofBits .f32 0x3B124925#32) ∧ Ideal.div 1 (rScale a) = invE (a * Ideal.ofBits .f32 0x3B124925#32) := by
  obtain ⟨x, hx, e⟩ := c448_pos
  have hx' : (0 : EReal) < (x : EReal) := EReal.coe_pos.mpr hx
  unfold rScale
  by_cases h0 : a = 0
  · rw [if_pos h0, h0, zero_mul, scaleE_zero, invE_zero]
    have h1 : Ideal.ofBits .f32 1065353216#32 = ((1 : ℝ) : EReal) := Ideal.ofBits_one_f32
    rw [h1]
    exact ⟨rfl, by rw [Ideal.div_coe one_ne_zero]; norm_num⟩
  · rw [if_neg h0]
    have hv : 0 < a * Ideal.ofBits .f32 0x3B124925#32 := by
      refine lt_of_le_of_ne ?_ fun hc => ?_
      · rw [e]; exact mul_nonneg ha hx'.le
      · rw [e] at hc
        rcases mul_eq_zero.mp hc.symm with h | h
        · exact h0 h
        · exact hx'.ne' h
    obtain ⟨k, k1, k2, hs, hi, hlt, hj⟩ := scale_pos _ hv hr
    have hl := least_pw _ k k1 k2 hlt hj
    have hf : (Finset.univ.inf fun i : Fin 254 => if a * Ideal.ofBits .f32 991054117#32 < rPow i then rPow i else Ideal.ofBits .f32 0x7F800000#32) = pw k := by
      rw [← hl, pinf_val]
      simp only [rPow_eq]
    rw [hf, hs, hi]
    exact ⟨rfl, inv_pw k k1 k2⟩

end Cert.KernelIdeal.Gen

end
-- ==== Proof.Folds.lean ====
module

public import proofs.«01_k».proof.Proof.Layer
public import Idealize.ShloMosaic.Lib.Pipeline.ValueKit
public import Idealize.ShloMosaic.Lib.IdealHost

@[expose] public section

set_option maxRecDepth 16384

noncomputable section

namespace Cert.KernelIdeal.Gen

open Idealize.ShloMosaic Idealize.ShloMosaic.TcCoe Idealize.ShloMosaic.Tactic
open Idealize.ShloMosaic.ValueIdx hiding ix1 ix2 ix3 ix4 eq_ix1 eq_ix2 eq_ix3 eq_ix4

/-! A reduction of the last of three axes, over any extents. -/

theorem hred {A B N : Nat} {u : Shape} (f : EReal → EReal → EReal) [Std.Commutative f] [Std.Associative f] (v : (⟨3, ![A, B, N]⟩ : Shape).Idx → EReal) (init : u.Idx → EReal)
    (h : (⟨3, ![A, B, N]⟩ : Shape).ReducesTo [2] ⟨2, ![A, B]⟩) (hu : 0 < u.numel) (b : Fin A) (s : Fin B) :
    Host.reduce f v init h hu (ix2 b s) = Finset.fold f (init (Shape.Idx.first hu)) (fun n : Fin N => v (ix3 b s n)) Finset.univ := by
  pointwise

theorem hred_max {A B N : Nat} {u : Shape} (v : FVec Ideal ⟨3, ![A, B, N]⟩ .f32) (init : FVec Ideal u .f32)
    (h : (⟨3, ![A, B, N]⟩ : Shape).ReducesTo [2] ⟨2, ![A, B]⟩) (hu : 0 < u.numel) (b : Fin A) (s : Fin B) (hi : (init (Shape.Idx.first hu) : EReal) = ⊥) :
    ((Host.reduce (FloatOps.maximumf (F := Ideal) (φ := .f32)) v init h hu : FVec Ideal ⟨2, ![A, B]⟩ .f32) (ix2 b s) : EReal) = Finset.univ.sup fun n : Fin N => (v (ix3 b s n) : EReal) := by
  refine (hred (max : EReal → EReal → EReal) v init h hu b s).trans ?_
  rw [hi]
  rfl

theorem hred_min {A B N : Nat} {u : Shape} (v : FVec Ideal ⟨3, ![A, B, N]⟩ .f32) (init : FVec Ideal u .f32)
    (h : (⟨3, ![A, B, N]⟩ : Shape).ReducesTo [2] ⟨2, ![A, B]⟩) (hu : 0 < u.numel) (b : Fin A) (s : Fin B) (hi : (init (Shape.Idx.first hu) : EReal) = ⊤) :
    ((Host.reduce (FloatOps.minimumf (F := Ideal) (φ := .f32)) v init h hu : FVec Ideal ⟨2, ![A, B]⟩ .f32) (ix2 b s) : EReal) = Finset.univ.inf fun n : Fin N => (v (ix3 b s n) : EReal) := by
  refine (hred (min : EReal → EReal → EReal) v init h hu b s).trans ?_
  rw [hi]
  rfl

end Cert.KernelIdeal.Gen

end
-- ==== Proof.RefRead.lean ====
module

public import proofs.«01_k».proof.Proof.Folds
public import proofs.«01_k».proof.Proof.Gen.ReferenceIdeal.Frame
public import Idealize.ShloMosaic.Lib.Pipeline.ValueKit
public import Idealize.ShloMosaic.Lib.StableHlo.ReadAt
public import Idealize.ShloMosaic.Lib.IdealHost

@[expose] public section

set_option maxRecDepth 16384

noncomputable section

namespace Cert.ReferenceIdeal.Gen

open Idealize.ShloMosaic Idealize.ShloMosaic.TcCoe Idealize.ShloMosaic.Tactic
open Idealize.ShloMosaic.ValueIdx hiding ix1 ix2 ix3 ix4 eq_ix1 eq_ix2 eq_ix3 eq_ix4
open Cert.KernelIdeal.Gen (yE rPow rScale absE hred_max hred_min ninf_val pinf_val)

/-! The reference's host operations, read at an index. The line is cut behind the layer's output, so that what follows is
    read over any values of it. -/

section
variable {F : FTy → Type} [FloatOps F]

/-- The operations of the stretch that ends in the layer's output, up to it. -/
abbrev headA : List (HloOp τ sig (Elt F)) :=
  ( StableHlo.unary main_v71 main_v72 ((truncf .bf16 · bitsLt_bf16_f32) : (⟨S512x24576, .f32⟩ : BufTy).Contents (Elt F) → (⟨S512x24576, .bf16⟩ : BufTy).Contents (Elt F))
  :: StableHlo.binary main_v72 main_v7 main_v73 (mulf : (⟨S512x24576, .bf16⟩ : BufTy).Contents (Elt F) → (⟨S512x24576, .bf16⟩ : BufTy).Contents (Elt F) → (⟨S512x24576, .bf16⟩ : BufTy).Contents (Elt F))
  :: StableHlo.unary main_arg0 main_v74 ((Host.slice S2x128x512 ![0, 0, 0] ![1, 1, 2] · slicesBy_S2x128x1024_S2x128x512_0s1_0s1_0s2) : (⟨S2x128x1024, .bf16⟩ : BufTy).Contents (Elt F) → (⟨S2x128x512, .bf16⟩ : BufTy).Contents (Elt F))
  :: StableHlo.binary main_v74 main_v40 main_v75 ((fun l r => Host.dotGeneral dot_S2x128x512_S512x24576_S2x128x24576_2_0_01_1_n_n none l r) : (⟨S2x128x512, .bf16⟩ : BufTy).Contents (Elt F) → (⟨S512x24576, .bf16⟩ : BufTy).Contents (Elt F) → (⟨S2x128x24576, .f32⟩ : BufTy).Contents (Elt F))
  :: StableHlo.unary main_arg0 main_v76 ((Host.slice S2x128x512 ![0, 0, 1] ![1, 1, 2] · slicesBy_S2x128x1024_S2x128x512_0s1_0s1_1s2) : (⟨S2x128x1024, .bf16⟩ : BufTy).Contents (Elt F) → (⟨S2x128x512, .bf16⟩ : BufTy).Contents (Elt F))
  :: StableHlo.binary main_v76 main_v73 main_v77 ((fun l r => Host.dotGeneral dot_S2x128x512_S512x24576_S2x128x24576_2_0_01_1_n_n none l r) : (⟨S2x128x512, .bf16⟩ : BufTy).Contents (Elt F) → (⟨S512x24576, .bf16⟩ : BufTy).Contents (Elt F) → (⟨S2x128x24576, .f32⟩ : BufTy).Contents (Elt F))
  :: StableHlo.binary main_v75 main_v77 main_v78 (addf : (⟨S2x128x24576, .f32⟩ : BufTy).Contents (Elt F) → (⟨S2x128x24576, .f32⟩ : BufTy).Contents (Elt F) → (⟨S2x128x24576, .f32⟩ : BufTy).Contents (Elt F))
  :: StableHlo.binary main_arg0 main_arg3 main_v79 ((fun l r => Host.dotGeneral dot_S2x128x1024_S1024x16_S2x128x16_2_0_01_1_n_n none l r) : (⟨S2x128x1024, .bf16⟩ : BufTy).Contents (Elt F) → (⟨S1024x16, .bf16⟩ : BufTy).Contents (Elt F) → (⟨S2x128x16, .f32⟩ : BufTy).Contents (Elt F))
  :: StableHlo.unary main_v79 main_v80 ((truncf .bf16 · bitsLt_bf16_f32) : (⟨S2x128x16, .f32⟩ : BufTy).Contents (Elt F) → (⟨S2x128x16, .bf16⟩ : BufTy).Contents (Elt F))
  :: StableHlo.binary main_v80 main_arg4 main_v81 ((fun l r => Host.dotGeneral dot_S2x128x16_S16x24576_S2x128x24576_2_0_01_1_n_n none l r) : (⟨S2x128x16, .bf16⟩ : BufTy).Contents (Elt F) → (⟨S16x24576, .bf16⟩ : BufTy).Contents (Elt F) → (⟨S2x128x24576, .f32⟩ : BufTy).Contents (Elt F))
  :: StableHlo.nullary main_cst_48 (constant S_ .f32 0x40000000#32)
  :: StableHlo.unary main_cst_48 main_v82 (broadcastInDim S2x128x24576 ![] bcast_S_S2x128x24576 : (⟨S_, .f32⟩ : BufTy).Contents (Elt F) → (⟨S2x128x24576, .f32⟩ : BufTy).Contents (Elt F))
  :: StableHlo.binary main_v81 main_v82 main_v83 (mulf : (⟨S2x128x24576, .f32⟩ : BufTy).Contents (Elt F) → (⟨S2x128x24576, .f32⟩ : BufTy).Contents (Elt F) → (⟨S2x128x24576, .f32⟩ : BufTy).Contents (Elt F))
  :: StableHlo.binary main_v78 main_v83 main_v84 (addf : (⟨S2x128x24576, .f32⟩ : BufTy).Contents (Elt F) → (⟨S2x128x24576, .f32⟩ : BufTy).Contents (Elt F) → (⟨S2x128x24576, .f32⟩ : BufTy).Contents (Elt F))
  :: [] )

/-- The operations of that stretch behind it. -/
abbrev tailA : List (HloOp τ sig (Elt F)) :=
  ( StableHlo.unary main_v84 main_v85 (Host.absf : (⟨S2x128x24576, .f32⟩ : BufTy).Contents (Elt F) → (⟨S2x128x24576, .f32⟩ : BufTy).Contents (Elt F))
  :: StableHlo.nullary main_cst_49 (constant S_ .f32 0xFF800000#32)
  :: StableHlo.binary main_v85 main_cst_49 main_v86 ((fun x v => Host.reduce FloatOps.maximumf x v reducesTo_S2x128x24576_S2x128_d2 h_S_) : (⟨S2x128x24576, .f32⟩ : BufTy).Contents (Elt F) → (⟨S_, .f32⟩ : BufTy).Contents (Elt F) → (⟨S2x128, .f32⟩ : BufTy).Contents (Elt F))
  :: StableHlo.nullary main_cst_50 (constant S_ .f32 0x3B124925#32)
  :: StableHlo.unary main_cst_50 main_v87 (broadcastInDim S2x128 ![] bcast_S_S2x128 : (⟨S_, .f32⟩ : BufTy).Contents (Elt F) → (⟨S2x128, .f32⟩ : BufTy).Contents (Elt F))
  :: StableHlo.binary main_v86 main_v87 main_v88 (mulf : (⟨S2x128, .f32⟩ : BufTy).Contents (Elt F) → (⟨S2x128, .f32⟩ : BufTy).Contents (Elt F) → (⟨S2x128, .f32⟩ : BufTy).Contents (Elt F))
  :: StableHlo.nullary main_v89 (sitofp .f32 (iotaInDim S254 32 0))
  :: StableHlo.nullary main_cst_51 (constant S_ .f32 0x42FC0000#32)
  :: StableHlo.unary main_cst_51 main_v90 (broadcastInDim S254 ![] bcast_S_S254 : (⟨S_, .f32⟩ : BufTy).Contents (Elt F) → (⟨S254, .f32⟩ : BufTy).Contents (Elt F))
  :: StableHlo.binary main_v89 main_v90 main_v91 (subf : (⟨S254, .f32⟩ : BufTy).Contents (Elt F) → (⟨S254, .f32⟩ : BufTy).Contents (Elt F) → (⟨S254, .f32⟩ : BufTy).Contents (Elt F))
  :: StableHlo.nullary main_cst_52 (constant S_ .f32 0x40000000#32)
  :: StableHlo.unary main_cst_52 main_v92 (broadcastInDim S254 ![] bcast_S_S254 : (⟨S_, .f32⟩ : BufTy).Contents (Elt F) → (⟨S254, .f32⟩ : BufTy).Contents (Elt F))
  :: StableHlo.binary main_v92 main_v91 main_v93 (Host.powf : (⟨S254, .f32⟩ : BufTy).Contents (Elt F) → (⟨S254, .f32⟩ : BufTy).Contents (Elt F) → (⟨S254, .f32⟩ : BufTy).Contents (Elt F))
  :: StableHlo.unary main_v88 main_v94 (broadcastInDim S2x128x1 ![0, 1] bcast_S2x128_S2x128x1_0_1 : (⟨S2x128, .f32⟩ : BufTy).Contents (Elt F) → (⟨S2x128x1, .f32⟩ : BufTy).Contents (Elt F))
  :: StableHlo.unary main_v93 main_v95 (broadcastInDim S1x1x254 ![2] bcast_S254_S1x1x254_2 : (⟨S254, .f32⟩ : BufTy).Contents (Elt F) → (⟨S1x1x254, .f32⟩ : BufTy).Contents (Elt F))
  :: StableHlo.unary main_v94 main_v96 (broadcastInDim S2x128x254 ![0, 1, 2] bcast_S2x128x1_S2x128x254_0_1_2 : (⟨S2x128x1, .f32⟩ : BufTy).Contents (Elt F) → (⟨S2x128x254, .f32⟩ : BufTy).Contents (Elt F))
  :: StableHlo.unary main_v95 main_v97 (broadcastInDim S2x128x254 ![0, 1, 2] bcast_S1x1x254_S2x128x254_0_1_2 : (⟨S1x1x254, .f32⟩ : BufTy).Contents (Elt F) → (⟨S2x128x254, .f32⟩ : BufTy).Contents (Elt F))
  :: StableHlo.binary main_v96 main_v97 main_v98 (cmpf .olt : (⟨S2x128x254, .f32⟩ : BufTy).Contents (Elt F) → (⟨S2x128x254, .f32⟩ : BufTy).Contents (Elt F) → (⟨S2x128x254, .i1⟩ : BufTy).Contents (Elt F))
  :: StableHlo.nullary main_cst_53 (constant S_ .f32 0x7F800000#32)
  :: [] )

theorem cut46 : (hostOps0_46 : List (HloOp τ sig (Elt F))) = headA ++ tailA := rfl

theorem after_app (l₁ l₂ : List (HloOp τ sig (Elt F))) (U : Valuation τ sig (Elt F)) : StableHlo.after (l₁ ++ l₂) U = StableHlo.after l₂ (StableHlo.after l₁ U) := by
  induction l₁ generalizing U with
  | nil => rfl
  | cons op l ih => exact ih _

/-- The line behind the layer's output. -/
abbrev tailOps : List (HloOp τ sig (Elt F)) := List.flatten [tailA, hostOps0_47, hostOps0_48, hostOps0_49, hostOps0_50, hostOps0_51]

theorem cut_line : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51] : List (HloOp τ sig (Elt F)))
    = List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, headA] ++ tailOps := by
  rw [cut46]
  simp only [tailOps, List.flatten_cons, List.flatten_nil, List.append_assoc, List.append_nil]

variable (m : (ℓ : Loc nD τ sig) → Buf (Elt F) ℓ) (c : Dev nD)

/-- The buffers when the layer's output has been found. -/
def VU : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, headA]) (fun b => m (c, b))

theorem V0_cut : V0 m c = StableHlo.after tailOps (VU m c) :=
  (congrArg (fun l => StableHlo.after l (fun b => m (c, b))) cut_line).trans (after_app _ _ _)

end

/-- The greatest magnitude of each row. -/
def maxOf (y : FVec Ideal S2x128x24576 .f32) : FVec Ideal S2x128 .f32 :=
  Host.reduce FloatOps.maximumf (Host.absf y) (constant S_ .f32 0xFF800000#32) reducesTo_S2x128x24576_S2x128_d2 h_S_

theorem maxOf_apply (y : FVec Ideal S2x128x24576 .f32) (b : Fin 2) (s : Fin 128) :
    (maxOf y (ix2 b s) : EReal) = Finset.univ.sup fun n : Fin 24576 => absE (y (ix3 b s n)) :=
  hred_max _ _ _ _ b s ninf_val

/-- The powers of two. -/
def powV : FVec Ideal S254 .f32 :=
  Host.powf (broadcastInDim S254 ![] bcast_S_S254 (constant S_ .f32 0x40000000#32)) (subf (sitofp .f32 (iotaInDim S254 32 0)) (broadcastInDim S254 ![] bcast_S_S254 (constant S_ .f32 0x42FC0000#32)))

/-- Those above each row's greatest magnitude over 448, the others infinite. -/
def aboveV (a : FVec Ideal S2x128 .f32) : FVec Ideal S2x128x254 .f32 :=
  select (cmpf .olt
      (broadcastInDim S2x128x254 ![0, 1, 2] bcast_S2x128x1_S2x128x254_0_1_2 (broadcastInDim S2x128x1 ![0, 1] bcast_S2x128_S2x128x1_0_1 (mulf a (broadcastInDim S2x128 ![] bcast_S_S2x128 (constant S_ .f32 0x3B124925#32)))))
      (broadcastInDim S2x128x254 ![0, 1, 2] bcast_S1x1x254_S2x128x254_0_1_2 (broadcastInDim S1x1x254 ![2] bcast_S254_S1x1x254_2 powV)))
    (broadcastInDim S2x128x254 ![2] bcast_S254_S2x128x254_2 powV) (broadcastInDim S2x128x254 ![] bcast_S_S2x128x254 (id (constant S_ .f32 0x7F800000#32)))

theorem aboveV_apply (a : FVec Ideal S2x128 .f32) (b : Fin 2) (s : Fin 128) (i : Fin 254) : (aboveV a (ix3 b s i) : EReal)
    = if (a (ix2 b s) : EReal) * Ideal.ofBits .f32 991054117#32 < rPow i then rPow i else Ideal.ofBits .f32 0x7F800000#32 := by
  unfold aboveV powV rPow
  pointwise
  rfl

def leastV (a : FVec Ideal S2x128 .f32) : FVec Ideal S2x128 .f32 :=
  Host.reduce FloatOps.minimumf (aboveV a) (constant S_ .f32 0x7F800000#32) reducesTo_S2x128x254_S2x128_d2 h_S_

theorem leastV_apply (a : FVec Ideal S2x128 .f32) (b : Fin 2) (s : Fin 128) : (leastV a (ix2 b s) : EReal)
    = Finset.univ.inf fun i : Fin 254 => if (a (ix2 b s) : EReal) * Ideal.ofBits .f32 991054117#32 < rPow i then rPow i else Ideal.ofBits .f32 0x7F800000#32 := by
  refine (hred_min _ _ _ _ b s pinf_val).trans ?_
  simp only [aboveV_apply]

/-- The scales. -/
def scaleV (a l : FVec Ideal S2x128 .f32) : FVec Ideal S2x128 .f32 :=
  select (cmpf .oeq a (broadcastInDim S2x128 ![] bcast_S_S2x128 (constant S_ .f32 0x00000000#32))) (broadcastInDim S2x128 ![] bcast_S_S2x128 (id (constant S_ .f32 0x3F800000#32))) l

theorem scaleV_apply (a l : FVec Ideal S2x128 .f32) (b : Fin 2) (s : Fin 128) : (scaleV a l (ix2 b s) : EReal)
    = if (a (ix2 b s) : EReal) = 0 then Ideal.ofBits .f32 1065353216#32 else l (ix2 b s) := by
  obtain ⟨o, ho⟩ : ∃ o, o = Ideal.ofBits .f32 1065353216#32 := ⟨_, rfl⟩
  rw [← ho]
  unfold scaleV
  pointwise
  rw [ho]
  rfl

/-- The numbers the codes stand for. -/
def codeV (y : FVec Ideal S2x128x24576 .f32) (s : FVec Ideal S2x128 .f32) : FVec Ideal S2x128x24576 .f32 :=
  minimumf (broadcastInDim S2x128x24576 ![] bcast_S_S2x128x24576 (id (constant S_ .f32 0x43E00000#32)))
    (maximumf (broadcastInDim S2x128x24576 ![] bcast_S_S2x128x24576 (id (constant S_ .f32 0xC3E00000#32)))
      (mulf y (broadcastInDim S2x128x24576 ![0, 1, 2] bcast_S2x128x1_S2x128x24576_0_1_2 (broadcastInDim S2x128x1 ![0, 1] bcast_S2x128_S2x128x1_0_1
        (Host.divf (broadcastInDim S2x128 ![] bcast_S_S2x128 (constant S_ .f32 0x3F800000#32)) s)))))

theorem codeV_apply (y : FVec Ideal S2x128x24576 .f32) (z : FVec Ideal S2x128 .f32) (b : Fin 2) (s : Fin 128) (n : Fin 24576) : (codeV y z (ix3 b s n) : EReal)
    = min (Ideal.ofBits .f32 0x43E00000#32) (max (Ideal.ofBits .f32 0xC3E00000#32) ((y (ix3 b s n) : EReal) * Ideal.div 1 (z (ix2 b s)))) := by
  unfold codeV
  pointwise
  rfl

section
variable (U : Valuation τ sig (Elt Ideal))

theorem tail_y : StableHlo.after tailOps U (Proc.devRef .tc main_v84) = U (Proc.devRef .tc main_v84) := by
  after_reads_simp

set_option maxHeartbeats 4000000 in
theorem tail_scale : StableHlo.after tailOps U (Proc.devRef .tc main_v103) = scaleV (maxOf (U (Proc.devRef .tc main_v84))) (leastV (maxOf (U (Proc.devRef .tc main_v84)))) := by
  after_reads_simp
  simp -implicitDefEqProofs only [StableHlo.TRef.toBuf, StableHlo.TRef.ofBuf, cast_cast, cast_eq]
  rfl

set_option maxHeartbeats 4000000 in
theorem tail_code : StableHlo.after tailOps U (Proc.devRef .tc main_v109)
    = codeV (U (Proc.devRef .tc main_v84)) (scaleV (maxOf (U (Proc.devRef .tc main_v84))) (leastV (maxOf (U (Proc.devRef .tc main_v84))))) := by
  after_reads_simp
  simp -implicitDefEqProofs only [StableHlo.TRef.toBuf, StableHlo.TRef.ofBuf, cast_cast, cast_eq]
  rfl

end

variable (m : (ℓ : Loc nD τ sig) → Buf (Elt Ideal) ℓ) (c : Dev nD)

/-- The reference's output over its launch memory. -/
def yR (b : Fin 2) (s : Fin 128) (n : Fin 24576) : EReal :=
  yE (m ((c : Thread nD τ).loc main_arg0)) (m ((c : Thread nD τ).loc main_arg1)) (m ((c : Thread nD τ).loc main_arg2)) (m ((c : Thread nD τ).loc main_arg3)) (m ((c : Thread nD τ).loc main_arg4)) b s n

set_option maxHeartbeats 4000000 in
theorem y_read (b : Fin 2) (s : Fin 128) (n : Fin 24576) : (V m c main_v84 (ix3 b s n) : EReal) = yR m c b s n := by
  unfold V V0
  after_reads_at
  rfl

/-- A row's greatest magnitude. -/
def aR (b : Fin 2) (s : Fin 128) : EReal := Finset.univ.sup fun n : Fin 24576 => absE (yR m c b s n)

/-- The layer's output, behind it as in it. -/
theorem VU_y : VU m c (Proc.devRef .tc main_v84) = V m c main_v84 := by
  show _ = V0 m c (Proc.devRef .tc main_v84)
  rw [V0_cut, tail_y]

theorem max_read (b : Fin 2) (s : Fin 128) : (maxOf (VU m c (Proc.devRef .tc main_v84)) (ix2 b s) : EReal) = aR m c b s := by
  rw [maxOf_apply, VU_y]
  unfold aR
  congr 1
  funext n
  exact congrArg absE (y_read m c b s n)

theorem scl_apply (b : Fin 2) (s : Fin 128) :
    (scaleV (maxOf (VU m c (Proc.devRef .tc main_v84))) (leastV (maxOf (VU m c (Proc.devRef .tc main_v84)))) (ix2 b s) : EReal) = rScale (aR m c b s) := by
  rw [scaleV_apply, leastV_apply, max_read]
  rfl

theorem scale_read (b : Fin 2) (s : Fin 128) : (V m c main_v103 (ix2 b s) : EReal) = rScale (aR m c b s) := by
  show (V0 m c (Proc.devRef .tc main_v103) (ix2 b s) : EReal) = _
  rw [V0_cut, tail_scale]
  exact scl_apply m c b s

theorem code_read (b : Fin 2) (s : Fin 128) (n : Fin 24576) : (V m c main_v109 (ix3 b s n) : EReal)
    = min (Ideal.ofBits .f32 0x43E00000#32) (max (Ideal.ofBits .f32 0xC3E00000#32) (yR m c b s n * Ideal.div 1 (rScale (aR m c b s)))) := by
  show (V0 m c (Proc.devRef .tc main_v109) (ix3 b s n) : EReal) = _
  rw [V0_cut, tail_code]
  refine (codeV_apply _ _ b s n).trans ?_
  rw [scl_apply, VU_y]
  rw [show (V m c main_v84 (ix3 b s n) : EReal) = yR m c b s n from y_read m c b s n]

end Cert.ReferenceIdeal.Gen

end
-- ==== Proof.RefRun.lean ====
module

public import proofs.«01_k».proof.Proof.RefRead

@[expose] public section

set_option maxRecDepth 16384

noncomputable section

namespace Cert.ReferenceIdeal.Gen

open Idealize.ShloMosaic Idealize.ShloMosaic.TcCoe Idealize.ShloMosaic.Tactic Idealize.SL.Sem
open Idealize.ShloMosaic.ValueIdx hiding ix1 ix2 ix3 ix4 eq_ix1 eq_ix2 eq_ix3 eq_ix4
open Idealize.ShloMosaic.Pipeline (Dat Cfg Window BodyObligation cellOf)
open Cert.KernelIdeal.Gen (yE rScale absE)

/-! The reference's results. -/

/-- Its last step narrows, which changes no number. -/
theorem pay1_eq (x : Vec Ideal S2x128x24576 .f32) (b : Fin 2) (s : Fin 128) (n : Fin 24576) : (k0_pay1 x (ix3 b s n) : EReal) = x (ix3 b s n) := by
  unfold k0_pay1
  pointwise

theorem off3 : ∀ a, (![0, 0, 0] : Fin 3 → Nat) a = 0 := by decide

theorem out_eq (x : Vec Ideal S2x128x24576 .f32) (b : Fin 2) (s : Fin 128) (n : Fin 24576) : (out0_1 x (ix3 b s n) : EReal) = x (ix3 b s n) := by
  unfold out0_1
  rw [View.canon_cons_unit_lit (S := S2x128x24576) _ _ _ off3, View.ld_unit_lit (S := S2x128x24576) _ _ off3]
  exact pay1_eq x b s n

variable (m : (ℓ : Loc nD τ sig) → Buf (Elt Ideal) ℓ) (ρ : Dev nD → PrngReg) (c : Dev nD)

theorem idx0 : ∀ t : Fin cfg0.N, win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0)
theorem idx1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)

theorem rblk0 (t : Fin cfg0.N) (b : Fin 2) (s : Fin 128) (n : Fin 24576) : (iblk m c 0 t : Vec Ideal S2x128x24576 .f32) (ix3 b s n) = V m c main_v109 (ix3 b s n) := by
  unfold iblk
  blk_simp
  have e : (win0_0.blk t).view.emb (ix3 b s n) = ix3 (n0 := 2) (n1 := 128) (n2 := 24576) b s n := by
    funext k
    apply Fin.ext
    match k with
    | ⟨0, _⟩ => show (((win0_0.blk t).view.emb (ix3 b s n)) 0 : ℕ) = b.val; blk_simp; rw [(idx0 t).1]; show 0 * 2 + b.val = b.val; omega
    | ⟨1, _⟩ => show (((win0_0.blk t).view.emb (ix3 b s n)) 1 : ℕ) = s.val; blk_simp; rw [(idx0 t).2.1]; show 0 * 128 + s.val = s.val; omega
    | ⟨2, _⟩ => show (((win0_0.blk t).view.emb (ix3 b s n)) 2 : ℕ) = n.val; blk_simp; rw [(idx0 t).2.2]; show 0 * 24576 + n.val = n.val; omega
  rw [e]

/-- The array of the numbers the codes stand for. -/
def R1 : S2x128x24576.Idx → EReal := fun q => V m c main_v109 q

theorem finR : (dats m 0 c).arrAt 1 cfg0.N = R1 m c := by
  refine (dats m 0 c).arrAt_eq_of_covers 1 _ (by decide +kernel) fun t hf y => ?_
  blk_simp
  rw [after0_1]
  obtain ⟨b, s, n, rfl⟩ : ∃ (b : Fin 2) (s : Fin 128) (n : Fin 24576), y = ix3 b s n := ⟨_, _, _, eq_ix3 y⟩
  have e : (win0_1.blk t).view.emb (ix3 b s n) = ix3 (n0 := 2) (n1 := 128) (n2 := 24576) b s n := by
    funext k
    apply Fin.ext
    match k with
    | ⟨0, _⟩ => show (((win0_1.blk t).view.emb (ix3 b s n)) 0 : ℕ) = b.val; blk_simp; rw [(idx1 t).1]; show 0 * 2 + b.val = b.val; omega
    | ⟨1, _⟩ => show (((win0_1.blk t).view.emb (ix3 b s n)) 1 : ℕ) = s.val; blk_simp; rw [(idx1 t).2.1]; show 0 * 128 + s.val = s.val; omega
    | ⟨2, _⟩ => show (((win0_1.blk t).view.emb (ix3 b s n)) 2 : ℕ) = n.val; blk_simp; rw [(idx1 t).2.2]; show 0 * 24576 + n.val = n.val; omega
  rw [e]
  exact (out_eq _ b s n).trans (rblk0 m c t b s n)

section
variable (U : Valuation τ sig (Elt Ideal))

theorem end_112 (r : Fin 256) (n : Fin 24576) : (StableHlo.after (List.flatten [hostOps1]) U (Proc.devRef .tc main_v112) (ix2 r n) : EReal)
    = U (Proc.devRef .tc main_v84) (ix3 ⟨r.val / 128, by omega⟩ ⟨r.val % 128, by omega⟩ n) := by
  after_reads_at

theorem end_113 (r : Fin 256) (n : Fin 24576) : (StableHlo.after (List.flatten [hostOps1]) U (Proc.devRef .tc main_v113) (ix2 r n) : EReal)
    = U (Proc.devRef .tc main_v110) (ix3 ⟨r.val / 128, by omega⟩ ⟨r.val % 128, by omega⟩ n) := by
  after_reads_at

theorem end_103 : StableHlo.after (List.flatten [hostOps1]) U (Proc.devRef .tc main_v103) = U (Proc.devRef .tc main_v103) := by
  after_reads_simp

end

theorem arrRef_inj : Function.Injective (Pipeline.arrRef spec0) := by
  intro a b h
  revert h
  revert a b
  decide

theorem W_112 (r : Fin 256) (n : Fin 24576) : (Pipeline.afterTail₀ cfgs (dats m) 0 (V0 m) [hostOps1] c main_v112 (ix2 r n) : EReal)
    = yR m c ⟨r.val / 128, by omega⟩ ⟨r.val % 128, by omega⟩ n := by
  unfold Pipeline.afterTail₀
  refine (end_112 _ r n).trans ?_
  rw [Pipeline.withArrays_of_ne _ c (V0 m c) _ main_v84 (by exact (by decide : ∀ w, Pipeline.arrRef spec0 w ≠ main_v84))]
  exact y_read m c _ _ n

theorem W_113 (r : Fin 256) (n : Fin 24576) : (Pipeline.afterTail₀ cfgs (dats m) 0 (V0 m) [hostOps1] c main_v113 (ix2 r n) : EReal)
    = V m c main_v109 (ix3 ⟨r.val / 128, by omega⟩ ⟨r.val % 128, by omega⟩ n) := by
  unfold Pipeline.afterTail₀
  refine (end_113 _ r n).trans ?_
  have e := Pipeline.withArrays_arr spec0 arrRef_inj c (V0 m c) (fun w => (dats m 0 c).arrAt w cfg0.N) 1
  exact congrFun (e.trans (finR m c)) _

theorem W_103 (b : Fin 2) (s : Fin 128) : (Pipeline.afterTail₀ cfgs (dats m) 0 (V0 m) [hostOps1] c main_v103 (ix2 b s) : EReal)
    = rScale (aR m c b s) := by
  unfold Pipeline.afterTail₀
  rw [end_103, Pipeline.withArrays_of_ne _ c (V0 m c) _ main_v103 (by exact (by decide : ∀ w, Pipeline.arrRef spec0 w ≠ main_v103))]
  exact scale_read m c b s

/-- What the reference leaves in its result arrays, and that it leaves its arguments. -/
theorem run_R : θ_run defs (onTc (τ := τ) (main (F := Ideal))) ⟨m, fun _ => 0, ρ⟩ (fun r => ∀ c : Dev nD,
      (∀ (i : Fin 256) (n : Fin 24576), (r.2.mem ((c.tc : Thread nD τ).loc main_v112) (ix2 i n) : EReal) = yR m c ⟨i.val / 128, by omega⟩ ⟨i.val % 128, by omega⟩ n)
      ∧ (∀ (i : Fin 256) (n : Fin 24576), (r.2.mem ((c.tc : Thread nD τ).loc main_v113) (ix2 i n) : EReal)
          = min (Ideal.ofBits .f32 0x43E00000#32) (max (Ideal.ofBits .f32 0xC3E00000#32)
            (yR m c ⟨i.val / 128, by omega⟩ ⟨i.val % 128, by omega⟩ n * Ideal.div 1 (rScale (aR m c ⟨i.val / 128, by omega⟩ ⟨i.val % 128, by omega⟩)))))
      ∧ (∀ (b : Fin 2) (s : Fin 128), (r.2.mem ((c.tc : Thread nD τ).loc main_v103) (ix2 b s) : EReal) = rScale (aR m c b s))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
     ⟨fun i n => (congrFun (h.rest_eq c main_v112 (Pipeline.mem_restRefs_of main_v112 (by decide) (by decide))) _).trans (W_112 m c i n),
      fun i n => (congrFun (h.rest_eq c main_v113 (Pipeline.mem_restRefs_of main_v113 (by decide) (by decide))) _).trans ((W_113 m c i n).trans (code_read m c _ _ n)),
      fun b s => (congrFun (h.rest_eq c main_v103 (Pipeline.mem_restRefs_of main_v103 (by decide) (by decide))) _).trans (W_103 m c b s),
      (h.rest_eq c main_arg0 (Pipeline.mem_restRefs_of main_arg0 (by decide) (by decide))).trans (W_main_arg0 m (dats m) c),
      (h.rest_eq c main_arg1 (Pipeline.mem_restRefs_of main_arg1 (by decide) (by decide))).trans (W_main_arg1 m (dats m) c),
      (h.rest_eq c main_arg2 (Pipeline.mem_restRefs_of main_arg2 (by decide) (by decide))).trans (W_main_arg2 m (dats m) c),
      (h.rest_eq c main_arg3 (Pipeline.mem_restRefs_of main_arg3 (by decide) (by decide))).trans (W_main_arg3 m (dats m) c),
      (h.rest_eq c main_arg4 (Pipeline.mem_restRefs_of main_arg4 (by decide) (by decide))).trans (W_main_arg4 m (dats m) c)⟩) (run_main m ρ)

end Cert.ReferenceIdeal.Gen

end
-- ==== Proof.Mask.lean ====
module

public import proofs.«01_k».proof.Proof.Folds
public import proofs.«01_k».proof.Proof.Gen.On_in_range
public import Idealize.ShloMosaic.Lib.Pipeline.ValueKit
public import Idealize.ShloMosaic.Lib.IdealHost

@[expose] public section

set_option maxRecDepth 16384

noncomputable section

namespace Cert.On_in_range.Gen

open Idealize.ShloMosaic Idealize.ShloMosaic.TcCoe Idealize.ShloMosaic.Tactic
open Idealize.ShloMosaic.ValueIdx hiding ix1 ix2 ix3 ix4 eq_ix1 eq_ix2 eq_ix3 eq_ix4
open Cert.KernelIdeal.Gen (yE absE hred_max ninf_val)

/-! Which entries the claim compares, read at an index. -/

/-- The greatest magnitude of each row. -/
def maxOf (y : FVec Ideal S2x128x24576 .f32) : FVec Ideal S2x128 .f32 :=
  Host.reduce FloatOps.maximumf (Host.absf y) (constant S_ .f32 0xFF800000#32) reducesTo_S2x128x24576_S2x128_d2 h_S_

theorem maxOf_apply (y : FVec Ideal S2x128x24576 .f32) (b : Fin 2) (s : Fin 128) :
    (maxOf y (ix2 b s) : EReal) = Finset.univ.sup fun n : Fin 24576 => absE (y (ix3 b s n)) :=
  hred_max _ _ _ _ b s ninf_val

/-- The mask over the rows' greatest magnitudes. -/
def maskOf (a : FVec Ideal S2x128 .f32) : IVec S2x128 1 :=
  cmpf .olt (mulf a (broadcastInDim S2x128 ![] bcast_S_S2x128 (constant S_ .f32 0x3B124925#32))) (broadcastInDim S2x128 ![] bcast_S_S2x128 (constant S_ .f32 0x7E800000#32))

theorem maskOf_apply (a : FVec Ideal S2x128 .f32) (b : Fin 2) (s : Fin 128) :
    maskOf a (ix2 b s) = BitVec.ofBool (decide ((a (ix2 b s) : EReal) * Ideal.ofBits .f32 0x3B124925#32 < Ideal.ofBits .f32 0x7E800000#32)) := by
  unfold maskOf
  pointwise

/-- The mask of the codes from that of the scales. -/
theorem codes_mask (k : IVec S2x128 1) (r : Fin 256) (n : Fin 24576) :
    shapeCast S256x24576 (broadcastInDim S2x128x24576 ![0, 1] bcast_S2x128_S2x128x24576_0_1 k) shapeCasts_S2x128x24576_S256x24576 (ix2 r n)
      = k (ix2 ⟨r.val / 128, by omega⟩ ⟨r.val % 128, by omega⟩) := by
  pointwise

variable (a0 : FVec Ideal S2x128x1024 .bf16) (a1 : IVec S512x24576 8) (a2 : FVec Ideal S16x24576 .f32) (a3 : FVec Ideal S1024x16 .bf16) (a4 : FVec Ideal S16x24576 .bf16)

set_option maxHeartbeats 2000000 in
theorem fn_mask : ∃ y : FVec Ideal S2x128x24576 .f32, (fn (F := Ideal) a0 a1 a2 a3 a4).2.2 = maskOf (maxOf y)
    ∧ (fn (F := Ideal) a0 a1 a2 a3 a4).2.1 = shapeCast S256x24576 (broadcastInDim S2x128x24576 ![0, 1] bcast_S2x128_S2x128x24576_0_1 (maskOf (maxOf y))) shapeCasts_S2x128x24576_S256x24576
    ∧ ∀ b s n, (y (ix3 b s n) : EReal) = yE a0 a1 a2 a3 a4 b s n := by
  unfold fn fn_part1 fn_part2 fn_part3 fn_part4 fn_part5 fn_part6
  dsimp only
  refine ⟨_, rfl, rfl, fun b s n => ?_⟩
  pointwise [fn_where, fn_where_0]
  rfl

end Cert.On_in_range.Gen

end
-- ==== Proof.Equal.lean ====
module

public import proofs.«01_k».proof.Defs
public import proofs.«01_k».proof.Proof.KRun
public import proofs.«01_k».proof.Proof.RefRun
public import proofs.«01_k».proof.Proof.Mask
public import proofs.«01_k».proof.Proof.Math

@[expose] public section

noncomputable section

namespace Cert.Proof

open Idealize.ShloMosaic Idealize.ShloMosaic.TcCoe Idealize.ShloMosaic.Tactic Idealize.SL.Sem
open Idealize.ShloMosaic.ValueIdx hiding ix1 ix2 ix3 ix4 eq_ix1 eq_ix2 eq_ix3 eq_ix4
open Cert.KernelIdeal.Gen (yE Ym Xr Xm Wm Sm LAm LBm vR rScale scaleE invE clipE absE pw Yk_eq yE_eq vRow_eq absE_nonneg scales_eq G5 G6 aft7 vRow amaxAt scF)
open Cert.On_in_range.Gen (maxOf maskOf maxOf_apply maskOf_apply codes_mask fn_mask)

/-! The kernel's results are the reference's, in the rows the claim compares. -/

section
variable (X : (⟨3, ![2, 128, 1024]⟩ : Shape).Idx → EReal) (W : (⟨2, ![512, 24576]⟩ : Shape).Idx → BitVec 8)
  (S : (⟨2, ![16, 24576]⟩ : Shape).Idx → EReal) (LA : (⟨2, ![1024, 16]⟩ : Shape).Idx → EReal) (LB : (⟨2, ![16, 24576]⟩ : Shape).Idx → EReal)

/-- A compared row's greatest magnitude over 448 is within the exponent's range. -/
theorem of_mask (y : FVec Ideal Cert.On_in_range.S2x128x24576 .f32) (hy : ∀ b s n, (y (ix3 b s n) : EReal) = yE X W S LA LB b s n)
    (r : Fin 256) (h : maskOf (maxOf y) (ix2 ⟨r.val / 128, by omega⟩ ⟨r.val % 128, by omega⟩) = 1#1) : vR (Xr X) W S LA LB r < pw 253 := by
  rw [maskOf_apply, maxOf_apply] at h
  have h' : (Finset.univ.sup fun n : Fin 24576 => absE (y (ix3 ⟨r.val / 128, by omega⟩ ⟨r.val % 128, by omega⟩ n))) * Ideal.ofBits .f32 0x3B124925#32 < Ideal.ofBits .f32 0x7E800000#32 := by
    by_contra hn
    rw [decide_eq_false hn] at h
    exact absurd h (by decide)
  simp only [hy, yE_eq] at h'
  exact h'

/-- A row's scale and its reciprocal, on both sides. -/
theorem row_scale (r : Fin 256) (h : vR (Xr X) W S LA LB r < pw 253) :
    rScale (Finset.univ.sup fun n : Fin 24576 => absE (yE X W S LA LB ⟨r.val / 128, by omega⟩ ⟨r.val % 128, by omega⟩ n)) = scaleE (vR (Xr X) W S LA LB r)
    ∧ Ideal.div 1 (rScale (Finset.univ.sup fun n : Fin 24576 => absE (yE X W S LA LB ⟨r.val / 128, by omega⟩ ⟨r.val % 128, by omega⟩ n))) = invE (vR (Xr X) W S LA LB r) := by
  simp only [yE_eq]
  exact scales_eq _ (le_trans (absE_nonneg _) (Finset.le_sup (f := fun n : Fin 24576 => absE (Ym (Xr X) W S LA LB r n)) (Finset.mem_univ 0))) h

end

variable (m : (ℓ : Loc Cert.KernelIdeal.nD Cert.KernelIdeal.τ Cert.KernelIdeal.sig) → Buf (Elt Ideal) ℓ) (c : Dev Cert.KernelIdeal.nD)

/-- The layer's output as the reference spells it, over the kernel's arguments. -/
def yK (b : Fin 2) (s : Fin 128) (n : Fin 24576) : EReal :=
  yE (m ((c.tc : Thread Cert.KernelIdeal.nD Cert.KernelIdeal.τ).loc Cert.KernelIdeal.main_arg0)) (Wm m c) (Sm m c) (LAm m c) (LBm m c) b s n

theorem yK_eq (r : Fin 256) (n : Fin 24576) : yK m c ⟨r.val / 128, by omega⟩ ⟨r.val % 128, by omega⟩ n = G5 m c (ix2 r n) :=
  (yE_eq _ _ _ _ _ r n).trans (Yk_eq m c r n).symm

/-- A row is compared. -/
def Row (r : Fin 256) : Prop := vR (Xm m c) (Wm m c) (Sm m c) (LAm m c) (LBm m c) r < pw 253

theorem scale_row (r : Fin 256) (h : Row m c r) :
    rScale (Finset.univ.sup fun n : Fin 24576 => absE (yK m c ⟨r.val / 128, by omega⟩ ⟨r.val % 128, by omega⟩ n)) = scaleE (vRow (amaxAt m c 12) r)
    ∧ Ideal.div 1 (rScale (Finset.univ.sup fun n : Fin 24576 => absE (yK m c ⟨r.val / 128, by omega⟩ ⟨r.val % 128, by omega⟩ n))) = invE (vRow (amaxAt m c 12) r) := by
  rw [vRow_eq]
  exact row_scale _ _ _ _ _ r h

theorem code_row (r : Fin 256) (n : Fin 24576) (h : Row m c r) :
    min (Ideal.ofBits .f32 0x43E00000#32) (max (Ideal.ofBits .f32 0xC3E00000#32) (yK m c ⟨r.val / 128, by omega⟩ ⟨r.val % 128, by omega⟩ n
      * Ideal.div 1 (rScale (Finset.univ.sup fun n : Fin 24576 => absE (yK m c ⟨r.val / 128, by omega⟩ ⟨r.val % 128, by omega⟩ n))))) = G6 m c (ix2 r n) := by
  rw [(scale_row m c r h).2, yK_eq]
  rfl

/-- The row of a scale. -/
def rowOf (b : Fin 2) (s : Fin 128) : Fin 256 := ⟨128 * b.val + s.val, by omega⟩

theorem rowOf_div (b : Fin 2) (s : Fin 128) : (⟨(rowOf b s).val / 128, by omega⟩ : Fin 2) = b := Fin.ext (by show (128 * b.val + s.val) / 128 = b.val; omega)
theorem rowOf_mod (b : Fin 2) (s : Fin 128) : (⟨(rowOf b s).val % 128, by omega⟩ : Fin 128) = s := Fin.ext (by show (128 * b.val + s.val) % 128 = s.val; omega)

theorem scale_at (b : Fin 2) (s : Fin 128) (h : Row m c (rowOf b s)) : rScale (Finset.univ.sup fun n : Fin 24576 => absE (yK m c b s n)) = aft7 m c (ix2 b s) := by
  have e := (scale_row m c (rowOf b s) h).1
  rw [rowOf_div, rowOf_mod] at e
  exact e

/-- The arguments the mask is computed from. -/
abbrev maskAt := Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))

theorem row_of_code (r : Fin 256) (n : Fin 24576) (h : (maskAt m c).2.1 (ix2 r n) = 1#1) : Row m c r := by
  obtain ⟨y, -, h1, hy⟩ := fn_mask (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
  exact of_mask _ _ _ _ _ y hy r (((codes_mask _ r n).symm.trans (congrFun h1 (ix2 r n)).symm).trans h)

theorem row_of_scale (b : Fin 2) (s : Fin 128) (h : (maskAt m c).2.2 (ix2 b s) = 1#1) : Row m c (rowOf b s) := by
  obtain ⟨y, h2, -, hy⟩ := fn_mask (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
  refine of_mask _ _ _ _ _ y hy (rowOf b s) ?_
  rw [rowOf_div, rowOf_mod]
  exact (congrFun h2 (ix2 b s)).symm.trans h

theorem algebraic : Cert.algebraic_KernelIdeal_ReferenceIdeal_on_in_range (hKernelIdeal := Cert.KernelIdeal.Gen.facts) (hReferenceIdeal := Cert.ReferenceIdeal.Gen.facts) (hOn_in_range := Cert.On_in_range.Gen.facts) := by
  intro m g m' g' _ hagree
  refine ⟨fun c => G5 m c, fun c => G6 m c, fun c => aft7 m c,
    θ_run_mono (Cert.KernelIdeal.Gen.run_K m g) fun r h c => ?_, θ_run_mono (Cert.ReferenceIdeal.Gen.run_R m' g') fun r h c => ?_⟩
  · obtain ⟨h0, h1, h2, ha⟩ := h c
    exact ⟨fun i _ => congrFun h0 i, fun i _ => congrFun h1 i, fun i _ => congrFun h2 i, ha⟩
  · obtain ⟨h0, h1, h2, ha⟩ := h c
    have hy : ∀ b s n, Cert.ReferenceIdeal.Gen.yR m' c b s n = yK m c b s n := by
      intro b s n
      obtain ⟨e0, e1, e2, e3, e4⟩ := hagree c
      unfold Cert.ReferenceIdeal.Gen.yR
      rw [e0, e1, e2, e3, e4]
      rfl
    have hA : ∀ b s, Cert.ReferenceIdeal.Gen.aR m' c b s = Finset.univ.sup fun n : Fin 24576 => absE (yK m c b s n) := by
      intro b s
      unfold Cert.ReferenceIdeal.Gen.aR
      simp only [hy]
    refine ⟨fun i hi => ?_, fun i hi => ?_, fun i hi => ?_, ha⟩
    · obtain ⟨r, n, rfl⟩ : ∃ (r : Fin 256) (n : Fin 24576), i = ix2 r n := ⟨_, _, eq_ix2 i⟩
      exact (h0 r n).trans ((hy _ _ _).trans (yK_eq m c r n))
    · obtain ⟨r, n, rfl⟩ : ∃ (r : Fin 256) (n : Fin 24576), i = ix2 r n := ⟨_, _, eq_ix2 i⟩
      refine (h1 r n).trans ?_
      rw [hA, hy]
      exact code_row m c r n (row_of_code m c r n hi)
    · obtain ⟨b, s, rfl⟩ : ∃ (b : Fin 2) (s : Fin 128), i = ix2 b s := ⟨_, _, eq_ix2 i⟩
      refine (h2 b s).trans ?_
      rw [hA]
      exact scale_at m c b s (row_of_scale m c b s hi)

end Cert.Proof

end
-- ==== Proof.lean ====
/- The proof of the certificate's claims: the three frames, the preservation of the program by its idealization, and the
   equality of the kernel's results and the reference's over the extended reals. -/
module

public import proofs.«01_k».proof.Defs
public import proofs.«01_k».proof.Proof.KernelFrame
public import proofs.«01_k».proof.Proof.Gen.ReferenceIdeal.Frame
public import proofs.«01_k».proof.Proof.Equal

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.On_in_range.Gen.facts,
  frame_kernel, fun m ρ _ => Cert.KernelIdeal.Gen.frame m ρ, fun m ρ _ => Cert.ReferenceIdeal.Gen.frame m ρ, trivial, algebraic⟩

end Cert.Proof

end
